-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v21)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5)) (v1 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_v6) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v28)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v28) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v17)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v17) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v16) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v6)) (v1 : (c : Dev Cert.Kernel18Ideal.nD) → Buf (Elt Ideal) ((c.tc : Thread Cert.Kernel18Ideal.nD Cert.Kernel18Ideal.τ).loc Cert.Kernel18Ideal.main_v7)) (v2 : (c : Dev Cert.Kernel18Ideal.nD) → Buf (Elt Ideal) ((c.tc : Thread Cert.Kernel18Ideal.nD Cert.Kernel18Ideal.τ).loc Cert.Kernel18Ideal.main_v8)) (v3 : (c : Dev Cert.Kernel18Ideal.nD) → Buf (Elt Ideal) ((c.tc : Thread Cert.Kernel18Ideal.nD Cert.Kernel18Ideal.τ).loc Cert.Kernel18Ideal.main_v9)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6) = v0 c
          ∧ r.2.mem ((c.tc : Thread Cert.Kernel18Ideal.nD Cert.Kernel18Ideal.τ).loc Cert.Kernel18Ideal.main_v7) = v1 c
          ∧ r.2.mem ((c.tc : Thread Cert.Kernel18Ideal.nD Cert.Kernel18Ideal.τ).loc Cert.Kernel18Ideal.main_v8) = v2 c
          ∧ r.2.mem ((c.tc : Thread Cert.Kernel18Ideal.nD Cert.Kernel18Ideal.τ).loc Cert.Kernel18Ideal.main_v9) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v22) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v24) = v2 c
          ∧ r.2.mem ((c.tc : Thread Cert.Reference18Ideal.nD Cert.Reference18Ideal.τ).loc Cert.Reference18Ideal.main_v25) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v35)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v35) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v70) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v48)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v48) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v70) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v48)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v48) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v70) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S4x2048x1024 : Shape := ⟨3, ![4, 2048, 1024]⟩
abbrev S1024 : Shape := ⟨1, ![1024]⟩
abbrev S1024x5632 : Shape := ⟨2, ![1024, 5632]⟩
abbrev S4x2048x5632 : Shape := ⟨3, ![4, 2048, 5632]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S4x2048x5632 : S_.BroadcastsInDim S4x2048x5632 (![] : Fin 0 → Fin S4x2048x5632.rank)
  reducesTo_S4x2048x5632_S_d0_1_2 : S4x2048x5632.ReducesTo [0, 1, 2] S_

variable [Facts]

def fn_part1 {F : FTy → Type} [FloatOps F] (main_v13 : IVec S_ 1) (main_v16 : IVec S4x2048x5632 1) : IVec S_ 1 :=
  let main_c_5 : IVec S_ 1 := constantI S_ 1 1#1
  let main_v17 : IVec S_ 1 := (fun x v => Host.reduce IntOp.andi x v reducesTo_S4x2048x5632_S_d0_1_2 h_S_) main_v16 main_c_5
  let main_v18 : IVec S_ 1 := andi main_v13 main_v17
  main_v18

def fn {F : FTy → Type} [FloatOps F] (main_arg0 : FVec F S4x2048x1024 .f32) (main_arg1 : FVec F S1024 .f32) (main_arg2 : FVec F S1024x5632 .f32) (main_arg3 : FVec F S4x2048x5632 .f32) (main_arg4 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S4x2048x5632 .f32 := Host.absf main_arg3
  let main_cst_4 : FVec F S_ .f32 := constant S_ .f32 0x7F800000#32
  let main_v15 : FVec F S4x2048x5632 .f32 := broadcastInDim S4x2048x5632 ![] bcast_S_S4x2048x5632 main_cst_4
  let main_v16 : IVec S4x2048x5632 1 := cmpf .olt main_v14 main_v15
  fn_part1 (F := F) main_v13 main_v16
-- ==== Kernel.lean ====
abbrev S4x2048x1024 : Shape := ⟨3, ![4, 2048, 1024]⟩
abbrev S1024 : Shape := ⟨1, ![1024]⟩
abbrev S1024x5632 : Shape := ⟨2, ![1024, 5632]⟩
abbrev S4x2048x5632 : Shape := ⟨3, ![4, 2048, 5632]⟩
abbrev S8192x2x2816 : Shape := ⟨3, ![8192, 2, 2816]⟩
abbrev S2x8192x2816 : Shape := ⟨3, ![2, 8192, 2816]⟩
abbrev S8192x1024 : Shape := ⟨2, ![8192, 1024]⟩
abbrev S1x1024 : Shape := ⟨2, ![1, 1024]⟩
abbrev S1x1024x1408 : Shape := ⟨3, ![1, 1024, 1408]⟩
abbrev S1024x1408 : Shape := ⟨2, ![1024, 1408]⟩
abbrev S1024x1024 : Shape := ⟨2, ![1024, 1024]⟩
abbrev S1024x1 : Shape := ⟨2, ![1024, 1]⟩

abbrev nBuf : Space → Nat
  | .hbm => 16
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S4x2048x5632, .f32⟩
  | .hbm, ⟨4, _⟩ => ⟨S4x2048x1024, .f32⟩
  | .hbm, ⟨5, _⟩ => ⟨S8192x2x2816, .f32⟩
  | .hbm, ⟨6, _⟩ => ⟨S2x8192x2816, .f32⟩
  | .hbm, ⟨7, _⟩ => ⟨S2x8192x2816, .bf16⟩
  | .hbm, ⟨8, _⟩ => ⟨S1024x5632, .bf16⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S1x1024, .f32⟩
  | .hbm, ⟨14, _⟩ => ⟨S4x2048x1024, .f32⟩
  | .hbm, ⟨15, _⟩ => ⟨S1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_12 : BitVec 32 := 0#32
  let v17 : BitVec 1 := Scalar.cmpi .eq arg0 c0_i32_12
  let v18 : BitVec 32 := Scalar.extui v17
  let c0_i32_13 : BitVec 32 := 0#32
  let v19 : BitVec 1 := Scalar.cmpi .ne v18 c0_i32_13
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== KernelIdeal.lean ====
abbrev S4x2048x1024 : Shape := ⟨3, ![4, 2048, 1024]⟩
abbrev S1024 : Shape := ⟨1, ![1024]⟩
abbrev S1024x5632 : Shape := ⟨2, ![1024, 5632]⟩
abbrev S4x2048x5632 : Shape := ⟨3, ![4, 2048, 5632]⟩
abbrev S8192x2x2816 : Shape := ⟨3, ![8192, 2, 2816]⟩
abbrev S2x8192x2816 : Shape := ⟨3, ![2, 8192, 2816]⟩
abbrev S8192x1024 : Shape := ⟨2, ![8192, 1024]⟩
abbrev S1x1024 : Shape := ⟨2, ![1, 1024]⟩
abbrev S1x1024x1408 : Shape := ⟨3, ![1, 1024, 1408]⟩
abbrev S1024x1408 : Shape := ⟨2, ![1024, 1408]⟩
abbrev S1024x1024 : Shape := ⟨2, ![1024, 1024]⟩
abbrev S1024x1 : Shape := ⟨2, ![1024, 1]⟩

abbrev nBuf : Space → Nat
  | .hbm => 16
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S4x2048x5632, .f32⟩
  | .hbm, ⟨4, _⟩ => ⟨S4x2048x1024, .f32⟩
  | .hbm, ⟨5, _⟩ => ⟨S8192x2x2816, .f32⟩
  | .hbm, ⟨6, _⟩ => ⟨S2x8192x2816, .f32⟩
  | .hbm, ⟨7, _⟩ => ⟨S2x8192x2816, .bf16⟩
  | .hbm, ⟨8, _⟩ => ⟨S1024x5632, .bf16⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S1x1024, .f32⟩
  | .hbm, ⟨14, _⟩ => ⟨S4x2048x1024, .f32⟩
  | .hbm, ⟨15, _⟩ => ⟨S1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_12 : BitVec 32 := 0#32
  let v17 : BitVec 1 := Scalar.cmpi .eq arg0 c0_i32_12
  let v18 : BitVec 32 := Scalar.extui v17
  let c0_i32_13 : BitVec 32 := 0#32
  let v19 : BitVec 1 := Scalar.cmpi .ne v18 c0_i32_13
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceIdeal.lean ====
abbrev S4x2048x1024 : Shape := ⟨3, ![4, 2048, 1024]⟩
abbrev S1024 : Shape := ⟨1, ![1024]⟩
abbrev S1024x5632 : Shape := ⟨2, ![1024, 5632]⟩
abbrev S4x2048x5632 : Shape := ⟨3, ![4, 2048, 5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S5632x1024 : Shape := ⟨2, ![5632, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S4x2048x5632, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x5632, .f32⟩
  | .hbm, ⟨26, _⟩ => ⟨S5632x1024, .f32⟩
  | .hbm, ⟨27, _⟩ => ⟨S1024x5632, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S1024, .f32⟩
  | .hbm, ⟨37, _⟩ => ⟨S4x2048x1024, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S_, .f32⟩
  | .hbm, ⟨49, _⟩ => ⟨S4x2048, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel2.lean ====
abbrev S4x2048x1024 : Shape := ⟨3, ![4, 2048, 1024]⟩
abbrev S1024 : Shape := ⟨1, ![1024]⟩
abbrev S4x2048x5632 : Shape := ⟨3, ![4, 2048, 5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S8192x2x2816 : Shape := ⟨3, ![8192, 2, 2816]⟩
abbrev S2x8192x2816 : Shape := ⟨3, ![2, 8192, 2816]⟩
abbrev S1024x5632 : Shape := ⟨2, ![1024, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 25
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x5632, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S8192x1024, .bf16⟩
  | .hbm, ⟨21, _⟩ => ⟨S8192x2x2816, .f32⟩
  | .hbm, ⟨22, _⟩ => ⟨S2x8192x2816, .f32⟩
  | .hbm, ⟨23, _⟩ => ⟨S2x8192x2816, .bf16⟩
  | .hbm, ⟨24, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4x2048x1024 : Shape := ⟨3, ![4, 2048, 1024]⟩
abbrev S1024 : Shape := ⟨1, ![1024]⟩
abbrev S4x2048x5632 : Shape := ⟨3, ![4, 2048, 5632]⟩
abbrev S_ : Shape := ⟨0, ![]⟩
abbrev S1024x5632 : Shape := ⟨2, ![1024, 5632]⟩
abbrev S4x2048 : Shape := ⟨2, ![4, 2048]⟩
abbrev S4x2048x1 : Shape := ⟨3, ![4, 2048, 1]⟩
abbrev S1x1x1024 : Shape := ⟨3, ![1, 1, 1024]⟩
abbrev S5632x1024 : Shape := ⟨2, ![5632, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x5632, .f32⟩
  | .hbm, ⟨3, _⟩ => ⟨S_, .f32⟩
  | .hbm, ⟨4, _⟩ => ⟨S1024x5632, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x5632, .f32⟩
  | .hbm, ⟨22, _⟩ => ⟨S5632x1024, .f32⟩
  | .hbm, ⟨23, _⟩ => ⟨S1024x5632, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel3.lean ====
abbrev S4x2048x1024 : Shape := ⟨3, ![4, 2048, 1024]⟩
abbrev S1024 : Shape := ⟨1, ![1024]⟩
abbrev S4x2048x3072 : Shape := ⟨3, ![4, 2048, 3072]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 24
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x3072, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S8192x1024, .bf16⟩
  | .hbm, ⟨21, _⟩ => ⟨S8192x3072, .f32⟩
  | .hbm, ⟨22, _⟩ => ⟨S8192x3072, .bf16⟩
  | .hbm, ⟨23, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S4x2048x1024 : Shape := ⟨3, ![4, 2048, 1024]⟩
abbrev S1024 : Shape := ⟨1, ![1024]⟩
abbrev S4x2048x3072 : Shape := ⟨3, ![4, 2048, 3072]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 24
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x3072, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S8192x1024, .bf16⟩
  | .hbm, ⟨21, _⟩ => ⟨S8192x3072, .f32⟩
  | .hbm, ⟨22, _⟩ => ⟨S8192x3072, .bf16⟩
  | .hbm, ⟨23, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x2048x1024 : Shape := ⟨3, ![4, 2048, 1024]⟩
abbrev S1024 : Shape := ⟨1, ![1024]⟩
abbrev S4x2048x3072 : Shape := ⟨3, ![4, 2048, 3072]⟩
abbrev S_ : Shape := ⟨0, ![]⟩
abbrev S1024x3072 : Shape := ⟨2, ![1024, 3072]⟩
abbrev S4x2048 : Shape := ⟨2, ![4, 2048]⟩
abbrev S4x2048x1 : Shape := ⟨3, ![4, 2048, 1]⟩
abbrev S1x1x1024 : Shape := ⟨3, ![1, 1, 1024]⟩
abbrev S3072x1024 : Shape := ⟨2, ![3072, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x3072, .f32⟩
  | .hbm, ⟨3, _⟩ => ⟨S_, .f32⟩
  | .hbm, ⟨4, _⟩ => ⟨S1024x3072, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x3072, .f32⟩
  | .hbm, ⟨22, _⟩ => ⟨S3072x1024, .f32⟩
  | .hbm, ⟨23, _⟩ => ⟨S1024x3072, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S4x2048x1024 : Shape := ⟨3, ![4, 2048, 1024]⟩
abbrev S1024 : Shape := ⟨1, ![1024]⟩
abbrev S4x2048x1536 : Shape := ⟨3, ![4, 2048, 1536]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1536, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S8192x1024, .bf16⟩
  | .hbm, ⟨21, _⟩ => ⟨S8192x1536, .f32⟩
  | .hbm, ⟨22, _⟩ => ⟨S8192x1536, .bf16⟩
  | .hbm, ⟨23, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel4Ideal.lean ====
abbrev S4x2048x1024 : Shape := ⟨3, ![4, 2048, 1024]⟩
abbrev S1024 : Shape := ⟨1, ![1024]⟩
abbrev S4x2048x1536 : Shape := ⟨3, ![4, 2048, 1536]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1536, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S8192x1024, .bf16⟩
  | .hbm, ⟨21, _⟩ => ⟨S8192x1536, .f32⟩
  | .hbm, ⟨22, _⟩ => ⟨S8192x1536, .bf16⟩
  | .hbm, ⟨23, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S4x2048x1024 : Shape := ⟨3, ![4, 2048, 1024]⟩
abbrev S1024 : Shape := ⟨1, ![1024]⟩
abbrev S4x2048x1536 : Shape := ⟨3, ![4, 2048, 1536]⟩
abbrev S_ : Shape := ⟨0, ![]⟩
abbrev S1024x1536 : Shape := ⟨2, ![1024, 1536]⟩
abbrev S4x2048 : Shape := ⟨2, ![4, 2048]⟩
abbrev S4x2048x1 : Shape := ⟨3, ![4, 2048, 1]⟩
abbrev S1x1x1024 : Shape := ⟨3, ![1, 1, 1024]⟩
abbrev S1536x1024 : Shape := ⟨2, ![1536, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1536, .f32⟩
  | .hbm, ⟨3, _⟩ => ⟨S_, .f32⟩
  | .hbm, ⟨4, _⟩ => ⟨S1024x1536, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1536, .f32⟩
  | .hbm, ⟨22, _⟩ => ⟨S1536x1024, .f32⟩
  | .hbm, ⟨23, _⟩ => ⟨S1024x1536, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S4x2048x1024 : Shape := ⟨3, ![4, 2048, 1024]⟩
abbrev S1024 : Shape := ⟨1, ![1024]⟩
abbrev S4x2048x1536 : Shape := ⟨3, ![4, 2048, 1536]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x512x4x1024 : Shape := ⟨4, ![4, 512, 4, 1024]⟩
abbrev S4x4x512x1024 : Shape := ⟨4, ![4, 4, 512, 1024]⟩
abbrev S8192x1024 : Shape := ⟨2, ![8192, 1024]⟩
abbrev S4x512x4x1536 : Shape := ⟨4, ![4, 512, 4, 1536]⟩
abbrev S4x4x512x1536 : Shape := ⟨4, ![4, 4, 512, 1536]⟩
abbrev S8192x1536 : Shape := ⟨2, ![8192, 1536]⟩
abbrev S1024x1536 : Shape := ⟨2, ![1024, 1536]⟩
abbrev S1024x1024 : Shape := ⟨2, ![1024, 1024]⟩

abbrev nBuf : Space → Nat
  | .hbm => 28
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1536, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x512x4x1024, .f32⟩
  | .hbm, ⟨20, _⟩ => ⟨S4x4x512x1024, .f32⟩
  | .hbm, ⟨21, _⟩ => ⟨S8192x1024, .f32⟩
  | .hbm, ⟨22, _⟩ => ⟨S8192x1024, .bf16⟩
  | .hbm, ⟨23, _⟩ => ⟨S4x512x4x1536, .f32⟩
  | .hbm, ⟨24, _⟩ => ⟨S4x4x512x1536, .f32⟩
  | .hbm, ⟨25, _⟩ => ⟨S8192x1536, .f32⟩
  | .hbm, ⟨26, _⟩ => ⟨S8192x1536, .bf16⟩
  | .hbm, ⟨27, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel5Ideal.lean ====
abbrev S4x2048x1024 : Shape := ⟨3, ![4, 2048, 1024]⟩
abbrev S1024 : Shape := ⟨1, ![1024]⟩
abbrev S4x2048x1536 : Shape := ⟨3, ![4, 2048, 1536]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x512x4x1024 : Shape := ⟨4, ![4, 512, 4, 1024]⟩
abbrev S4x4x512x1024 : Shape := ⟨4, ![4, 4, 512, 1024]⟩
abbrev S8192x1024 : Shape := ⟨2, ![8192, 1024]⟩
abbrev S4x512x4x1536 : Shape := ⟨4, ![4, 512, 4, 1536]⟩
abbrev S4x4x512x1536 : Shape := ⟨4, ![4, 4, 512, 1536]⟩
abbrev S8192x1536 : Shape := ⟨2, ![8192, 1536]⟩
abbrev S1024x1536 : Shape := ⟨2, ![1024, 1536]⟩
abbrev S1024x1024 : Shape := ⟨2, ![1024, 1024]⟩

abbrev nBuf : Space → Nat
  | .hbm => 28
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1536, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x512x4x1024, .f32⟩
  | .hbm, ⟨20, _⟩ => ⟨S4x4x512x1024, .f32⟩
  | .hbm, ⟨21, _⟩ => ⟨S8192x1024, .f32⟩
  | .hbm, ⟨22, _⟩ => ⟨S8192x1024, .bf16⟩
  | .hbm, ⟨23, _⟩ => ⟨S4x512x4x1536, .f32⟩
  | .hbm, ⟨24, _⟩ => ⟨S4x4x512x1536, .f32⟩
  | .hbm, ⟨25, _⟩ => ⟨S8192x1536, .f32⟩
  | .hbm, ⟨26, _⟩ => ⟨S8192x1536, .bf16⟩
  | .hbm, ⟨27, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S4x2048x1024 : Shape := ⟨3, ![4, 2048, 1024]⟩
abbrev S1024 : Shape := ⟨1, ![1024]⟩
abbrev S4x2048x1536 : Shape := ⟨3, ![4, 2048, 1536]⟩
abbrev S_ : Shape := ⟨0, ![]⟩
abbrev S1024x1536 : Shape := ⟨2, ![1024, 1536]⟩
abbrev S4x2048 : Shape := ⟨2, ![4, 2048]⟩
abbrev S4x2048x1 : Shape := ⟨3, ![4, 2048, 1]⟩
abbrev S1x1x1024 : Shape := ⟨3, ![1, 1, 1024]⟩
abbrev S1536x1024 : Shape := ⟨2, ![1536, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1536, .f32⟩
  | .hbm, ⟨3, _⟩ => ⟨S_, .f32⟩
  | .hbm, ⟨4, _⟩ => ⟨S1024x1536, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1536, .f32⟩
  | .hbm, ⟨22, _⟩ => ⟨S1536x1024, .f32⟩
  | .hbm, ⟨23, _⟩ => ⟨S1024x1536, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S4x2048x1024 : Shape := ⟨3, ![4, 2048, 1024]⟩
abbrev S1024 : Shape := ⟨1, ![1024]⟩
abbrev S4x2048x1536 : Shape := ⟨3, ![4, 2048, 1536]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x128x16x1024 : Shape := ⟨4, ![4, 128, 16, 1024]⟩
abbrev S4x16x128x1024 : Shape := ⟨4, ![4, 16, 128, 1024]⟩
abbrev S8192x1024 : Shape := ⟨2, ![8192, 1024]⟩
abbrev S4x128x16x1536 : Shape := ⟨4, ![4, 128, 16, 1536]⟩
abbrev S4x16x128x1536 : Shape := ⟨4, ![4, 16, 128, 1536]⟩
abbrev S8192x1536 : Shape := ⟨2, ![8192, 1536]⟩
abbrev S1024x1536 : Shape := ⟨2, ![1024, 1536]⟩
abbrev S1024x1024 : Shape := ⟨2, ![1024, 1024]⟩

abbrev nBuf : Space → Nat
  | .hbm => 28
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1536, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x128x16x1024, .f32⟩
  | .hbm, ⟨20, _⟩ => ⟨S4x16x128x1024, .f32⟩
  | .hbm, ⟨21, _⟩ => ⟨S8192x1024, .f32⟩
  | .hbm, ⟨22, _⟩ => ⟨S8192x1024, .bf16⟩
  | .hbm, ⟨23, _⟩ => ⟨S4x128x16x1536, .f32⟩
  | .hbm, ⟨24, _⟩ => ⟨S4x16x128x1536, .f32⟩
  | .hbm, ⟨25, _⟩ => ⟨S8192x1536, .f32⟩
  | .hbm, ⟨26, _⟩ => ⟨S8192x1536, .bf16⟩
  | .hbm, ⟨27, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel6Ideal.lean ====
abbrev S4x2048x1024 : Shape := ⟨3, ![4, 2048, 1024]⟩
abbrev S1024 : Shape := ⟨1, ![1024]⟩
abbrev S4x2048x1536 : Shape := ⟨3, ![4, 2048, 1536]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x128x16x1024 : Shape := ⟨4, ![4, 128, 16, 1024]⟩
abbrev S4x16x128x1024 : Shape := ⟨4, ![4, 16, 128, 1024]⟩
abbrev S8192x1024 : Shape := ⟨2, ![8192, 1024]⟩
abbrev S4x128x16x1536 : Shape := ⟨4, ![4, 128, 16, 1536]⟩
abbrev S4x16x128x1536 : Shape := ⟨4, ![4, 16, 128, 1536]⟩
abbrev S8192x1536 : Shape := ⟨2, ![8192, 1536]⟩
abbrev S1024x1536 : Shape := ⟨2, ![1024, 1536]⟩
abbrev S1024x1024 : Shape := ⟨2, ![1024, 1024]⟩

abbrev nBuf : Space → Nat
  | .hbm => 28
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1536, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x128x16x1024, .f32⟩
  | .hbm, ⟨20, _⟩ => ⟨S4x16x128x1024, .f32⟩
  | .hbm, ⟨21, _⟩ => ⟨S8192x1024, .f32⟩
  | .hbm, ⟨22, _⟩ => ⟨S8192x1024, .bf16⟩
  | .hbm, ⟨23, _⟩ => ⟨S4x128x16x1536, .f32⟩
  | .hbm, ⟨24, _⟩ => ⟨S4x16x128x1536, .f32⟩
  | .hbm, ⟨25, _⟩ => ⟨S8192x1536, .f32⟩
  | .hbm, ⟨26, _⟩ => ⟨S8192x1536, .bf16⟩
  | .hbm, ⟨27, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4x2048x1024 : Shape := ⟨3, ![4, 2048, 1024]⟩
abbrev S1024 : Shape := ⟨1, ![1024]⟩
abbrev S4x2048x1536 : Shape := ⟨3, ![4, 2048, 1536]⟩
abbrev S_ : Shape := ⟨0, ![]⟩
abbrev S1024x1536 : Shape := ⟨2, ![1024, 1536]⟩
abbrev S4x2048 : Shape := ⟨2, ![4, 2048]⟩
abbrev S4x2048x1 : Shape := ⟨3, ![4, 2048, 1]⟩
abbrev S1x1x1024 : Shape := ⟨3, ![1, 1, 1024]⟩
abbrev S1536x1024 : Shape := ⟨2, ![1536, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1536, .f32⟩
  | .hbm, ⟨3, _⟩ => ⟨S_, .f32⟩
  | .hbm, ⟨4, _⟩ => ⟨S1024x1536, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1536, .f32⟩
  | .hbm, ⟨22, _⟩ => ⟨S1536x1024, .f32⟩
  | .hbm, ⟨23, _⟩ => ⟨S1024x1536, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S4x2048x1024 : Shape := ⟨3, ![4, 2048, 1024]⟩
abbrev S2816x1024 : Shape := ⟨2, ![2816, 1024]⟩
abbrev S8192x1024 : Shape := ⟨2, ![8192, 1024]⟩
abbrev S8192x2816 : Shape := ⟨2, ![8192, 2816]⟩
abbrev S512x1024 : Shape := ⟨2, ![512, 1024]⟩
abbrev S512x2816 : Shape := ⟨2, ![512, 2816]⟩
abbrev S1408x1024 : Shape := ⟨2, ![1408, 1024]⟩
abbrev S512x1408 : Shape := ⟨2, ![512, 1408]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S2816x1024, .f32⟩
  | .hbm, ⟨2, _⟩ => ⟨S8192x1024, .f32⟩
  | .hbm, ⟨3, _⟩ => ⟨S2816x1024, .bf16⟩
  | .hbm, ⟨4, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4x2048x1024 : Shape := ⟨3, ![4, 2048, 1024]⟩
abbrev S2816x1024 : Shape := ⟨2, ![2816, 1024]⟩
abbrev S_ : Shape := ⟨0, ![]⟩
abbrev S4x2048x2816 : Shape := ⟨3, ![4, 2048, 2816]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2816x1024, .f32⟩
  | .hbm, ⟨2, _⟩ => ⟨S_, .f32⟩
  | .hbm, ⟨3, _⟩ => ⟨S4x2048x2816, .f32⟩
  | .hbm, ⟨4, _⟩ => ⟨S4x2048x1024, .f32⟩
  | .hbm, ⟨5, _⟩ => ⟨S4x2048x2816, .f32⟩
  | .hbm, ⟨6, _⟩ => ⟨S8192x2816, .f32⟩
  | .hbm, ⟨7, _⟩ => ⟨S8192x2816, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4x2048x2816 : Shape := ⟨3, ![4, 2048, 2816]⟩
abbrev S4x2048x1024 : Shape := ⟨3, ![4, 2048, 1024]⟩
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S8192x2816, .f32⟩
  | .hbm, ⟨3, _⟩ => ⟨S8192x2816, .bf16⟩
  | .hbm, ⟨4, _⟩ => ⟨S8192x1024, .f32⟩
  | .hbm, ⟨5, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4x2048x2816 : Shape := ⟨3, ![4, 2048, 2816]⟩
abbrev S4x2048x1024 : Shape := ⟨3, ![4, 2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S_, .f32⟩
  | .hbm, ⟨3, _⟩ => ⟨S2816x1024, .f32⟩
  | .hbm, ⟨4, _⟩ => ⟨S4x2048x1024, .f32⟩
  | .hbm, ⟨5, _⟩ => ⟨S1024x2816, .f32⟩
  | .hbm, ⟨6, _⟩ => ⟨S2816x1024, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4x2048x1024 : Shape := ⟨3, ![4, 2048, 1024]⟩
abbrev S1024 : Shape := ⟨1, ![1024]⟩
abbrev S1024x5632 : Shape := ⟨2, ![1024, 5632]⟩
abbrev S8192x1024 : Shape := ⟨2, ![8192, 1024]⟩
abbrev S1x1024 : Shape := ⟨2, ![1, 1024]⟩
abbrev S2x8192x2816 : Shape := ⟨3, ![2, 8192, 2816]⟩
abbrev S512x1024 : Shape := ⟨2, ![512, 1024]⟩
abbrev S2x512x2816 : Shape := ⟨3, ![2, 512, 2816]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1x512x1408 : Shape := ⟨3, ![1, 512, 1408]⟩
abbrev S8192x2x2816 : Shape := ⟨3, ![8192, 2, 2816]⟩
abbrev S4x2048x5632 : Shape := ⟨3, ![4, 2048, 5632]⟩

abbrev nBuf : Space → Nat
  | .hbm => 11
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S1024x5632, .bf16⟩
  | .hbm, ⟨5, _⟩ => ⟨S1x1024, .f32⟩
  | .hbm, ⟨6, _⟩ => ⟨S2x8192x2816, .bf16⟩
  | .hbm, ⟨7, _⟩ => ⟨S8192x1024, .bf16⟩
  | .hbm, ⟨8, _⟩ => ⟨S8192x2x2816, .bf16⟩
  | .hbm, ⟨9, _⟩ => ⟨S4x2048x5632, .bf16⟩
  | .hbm, ⟨10, _⟩ => ⟨S4x2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2x512x2816, .bf16⟩
  | .local _ .vmem, ⟨5, _⟩ => ⟨S2x512x2816, .bf16⟩
  | .local _ .vmem, ⟨6, _⟩ => ⟨S512x1024, .bf16⟩
  | .local _ .vmem, ⟨7, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4x2048x1024 : Shape := ⟨3, ![4, 2048, 1024]⟩
abbrev S1024 : Shape := ⟨1, ![1024]⟩
abbrev S1024x5632 : Shape := ⟨2, ![1024, 5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x5632 : Shape := ⟨3, ![4, 2048, 5632]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x5632, .f32⟩
  | .hbm, ⟨20, _⟩ => ⟨S4x2048x5632, .bf16⟩
  | .hbm, ⟨21, _⟩ => ⟨S4x2048x1024, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel10.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S8192x2816 : Shape := ⟨2, ![8192, 2816]⟩
abbrev S8192x1024 : Shape := ⟨2, ![8192, 1024]⟩
abbrev S512x2816 : Shape := ⟨2, ![512, 2816]⟩
abbrev S512x1024 : Shape := ⟨2, ![512, 1024]⟩
abbrev S2816x512 : Shape := ⟨2, ![2816, 512]⟩
abbrev S512x512 : Shape := ⟨2, ![512, 512]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x2816, .f32⟩
  | .hbm, ⟨1, _⟩ => ⟨S2816x1024, .f32⟩
  | .hbm, ⟨2, _⟩ => ⟨S4x2048x1024, .f32⟩
  | .hbm, ⟨3, _⟩ => ⟨S8192x2816, .f32⟩
  | .hbm, ⟨4, _⟩ => ⟨S8192x2816, .bf16⟩
  | .hbm, ⟨5, _⟩ => ⟨S2816x1024, .bf16⟩
  | .hbm, ⟨6, _⟩ => ⟨S8192x1024, .f32⟩
  | .hbm, ⟨7, _⟩ => ⟨S8192x1024, .f32⟩
  | .hbm, ⟨8, _⟩ => ⟨S4x2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S4x2048x2816 : Shape := ⟨3, ![4, 2048, 2816]⟩
abbrev S2816x1024 : Shape := ⟨2, ![2816, 1024]⟩
abbrev S4x2048x1024 : Shape := ⟨3, ![4, 2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S2816x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S4x2048x1024 : Shape := ⟨3, ![4, 2048, 1024]⟩
abbrev S1024 : Shape := ⟨1, ![1024]⟩
abbrev S1024x7680 : Shape := ⟨2, ![1024, 7680]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1024x3072 : Shape := ⟨2, ![1024, 3072]⟩
abbrev S1024x512 : Shape := ⟨2, ![1024, 512]⟩
abbrev S8192x3072 : Shape := ⟨2, ![8192, 3072]⟩
abbrev S512x1024 : Shape := ⟨2, ![512, 1024]⟩
abbrev S512x3072 : Shape := ⟨2, ![512, 3072]⟩
abbrev S1024x1024 : Shape := ⟨2, ![1024, 1024]⟩
abbrev S4x2048x3072 : Shape := ⟨3, ![4, 2048, 3072]⟩

abbrev nBuf : Space → Nat
  | .hbm => 35
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7680, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S8192x1024, .bf16⟩
  | .hbm, ⟨21, _⟩ => ⟨S1024x3072, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S1024x7680, .f32⟩
  | .hbm, ⟨32, _⟩ => ⟨S1024x7680, .bf16⟩
  | .hbm, ⟨33, _⟩ => ⟨S8192x3072, .f32⟩
  | .hbm, ⟨34, _⟩ => ⟨S4x2048x3072, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .f32⟩
  | .local _ .vmem, ⟨4, _⟩ => ⟨S512x3072, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4x2048x1024 : Shape := ⟨3, ![4, 2048, 1024]⟩
abbrev S1024 : Shape := ⟨1, ![1024]⟩
abbrev S1024x7680 : Shape := ⟨2, ![1024, 7680]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x7680 : Shape := ⟨3, ![4, 2048, 7680]⟩
abbrev S4x2048x3072 : Shape := ⟨3, ![4, 2048, 3072]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7680, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x7680, .f32⟩
  | .hbm, ⟨20, _⟩ => ⟨S4x2048x3072, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel12.lean ====
abbrev S4x2048x1024 : Shape := ⟨3, ![4, 2048, 1024]⟩
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4x2048x1024 : Shape := ⟨3, ![4, 2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S1024x1024, .f32⟩
  | .hbm, ⟨4, _⟩ => ⟨S4x2048x1024, .f32⟩
  | .hbm, ⟨5, _⟩ => ⟨S1024x1024, .f32⟩
  | .hbm, ⟨6, _⟩ => ⟨S1024x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4x2048x512 : Shape := ⟨3, ![4, 2048, 512]⟩
abbrev S4x2048x1024 : Shape := ⟨3, ![4, 2048, 1024]⟩
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x512, .f32⟩
  | .hbm, ⟨1, _⟩ => ⟨S4x2048x1024, .f32⟩
  | .hbm, ⟨2, _⟩ => ⟨S8192x512, .f32⟩
  | .hbm, ⟨3, _⟩ => ⟨S8192x512, .bf16⟩
  | .hbm, ⟨4, _⟩ => ⟨S8192x1024, .f32⟩
  | .hbm, ⟨5, _⟩ => ⟨S8192x1024, .bf16⟩
  | .hbm, ⟨6, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4x2048x512 : Shape := ⟨3, ![4, 2048, 512]⟩
abbrev S4x2048x1024 : Shape := ⟨3, ![4, 2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x1024, .f32⟩
  | .hbm, ⟨2, _⟩ => ⟨S_, .f32⟩
  | .hbm, ⟨3, _⟩ => ⟨S512x1024, .f32⟩
  | .hbm, ⟨4, _⟩ => ⟨S4x2048x1024, .f32⟩
  | .hbm, ⟨5, _⟩ => ⟨S1024x512, .f32⟩
  | .hbm, ⟨6, _⟩ => ⟨S512x1024, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4x2048x1024 : Shape := ⟨3, ![4, 2048, 1024]⟩
abbrev S8192x1024 : Shape := ⟨2, ![8192, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4x2048x1024 : Shape := ⟨3, ![4, 2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S1024x1024, .f32⟩
  | .hbm, ⟨4, _⟩ => ⟨S4x2048x1024, .f32⟩
  | .hbm, ⟨5, _⟩ => ⟨S1024x1024, .f32⟩
  | .hbm, ⟨6, _⟩ => ⟨S1024x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4x2048x256 : Shape := ⟨3, ![4, 2048, 256]⟩
abbrev S4x2048x1024 : Shape := ⟨3, ![4, 2048, 1024]⟩
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x256, .f32⟩
  | .hbm, ⟨1, _⟩ => ⟨S4x2048x1024, .f32⟩
  | .hbm, ⟨2, _⟩ => ⟨S8192x256, .f32⟩
  | .hbm, ⟨3, _⟩ => ⟨S8192x256, .bf16⟩
  | .hbm, ⟨4, _⟩ => ⟨S8192x1024, .f32⟩
  | .hbm, ⟨5, _⟩ => ⟨S8192x1024, .bf16⟩
  | .hbm, ⟨6, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4x2048x256 : Shape := ⟨3, ![4, 2048, 256]⟩
abbrev S4x2048x1024 : Shape := ⟨3, ![4, 2048, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S4x2048x1024, .f32⟩
  | .hbm, ⟨2, _⟩ => ⟨S_, .f32⟩
  | .hbm, ⟨3, _⟩ => ⟨S256x1024, .f32⟩
  | .hbm, ⟨4, _⟩ => ⟨S4x2048x1024, .f32⟩
  | .hbm, ⟨5, _⟩ => ⟨S1024x256, .f32⟩
  | .hbm, ⟨6, _⟩ => ⟨S256x1024, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S8192x1024, .bf16⟩
  | .hbm, ⟨23, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4x2048x1024 : Shape := ⟨3, ![4, 2048, 1024]⟩
abbrev S1024 : Shape := ⟨1, ![1024]⟩
abbrev S_ : Shape := ⟨0, ![]⟩
abbrev S1024x1024 : Shape := ⟨2, ![1024, 1024]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S_, .f32⟩
  | .hbm, ⟨4, _⟩ => ⟨S1024x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S1024x1024, .f32⟩
  | .hbm, ⟨23, _⟩ => ⟨S1024x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel17.lean ====
abbrev S4x2048x1024 : Shape := ⟨3, ![4, 2048, 1024]⟩
abbrev S8192x1024 : Shape := ⟨2, ![8192, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S4x256x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference17Ideal.lean ====
abbrev S4x2048x1024 : Shape := ⟨3, ![4, 2048, 1024]⟩
abbrev S_ : Shape := ⟨0, ![]⟩
abbrev S4x256x256 : Shape := ⟨3, ![4, 256, 256]⟩
abbrev S4x2048x4x256 : Shape := ⟨4, ![4, 2048, 4, 256]⟩
abbrev S4x256x4x2048 : Shape := ⟨4, ![4, 256, 4, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S4x256x256, .f32⟩
  | .hbm, ⟨4, _⟩ => ⟨S4x2048x4x256, .f32⟩
  | .hbm, ⟨5, _⟩ => ⟨S4x256x4x2048, .f32⟩
  | .hbm, ⟨6, _⟩ => ⟨S4x2048x4x256, .f32⟩
  | .hbm, ⟨7, _⟩ => ⟨S4x2048x4x256, .f32⟩
  | .hbm, ⟨8, _⟩ => ⟨S4x256x4x2048, .f32⟩
  | .hbm, ⟨9, _⟩ => ⟨S4x256x256, .f32⟩
  | .hbm, ⟨10, _⟩ => ⟨S4x256x256, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S4x2048x1024 : Shape := ⟨3, ![4, 2048, 1024]⟩
abbrev S4x2048x256 : Shape := ⟨3, ![4, 2048, 256]⟩
abbrev S1024 : Shape := ⟨1, ![1024]⟩
abbrev S1024x1024 : Shape := ⟨2, ![1024, 1024]⟩
abbrev S256x1024 : Shape := ⟨2, ![256, 1024]⟩
abbrev S8192x1024 : Shape := ⟨2, ![8192, 1024]⟩
abbrev S8192x256 : Shape := ⟨2, ![8192, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S4x2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S8192x256, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x256, .bf16⟩
  | .hbm, ⟨14, _⟩ => ⟨S4x2048x1024, .f32⟩
  | .hbm, ⟨15, _⟩ => ⟨S4x2048x1024, .bf16⟩
  | .hbm, ⟨16, _⟩ => ⟨S4x2048x1024, .bf16⟩
  | .hbm, ⟨17, _⟩ => ⟨S4x2048x256, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x256, .bf16⟩
  | .local _ .vmem, ⟨14, _⟩ => ⟨S512x256, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S4x2048x1024 : Shape := ⟨3, ![4, 2048, 1024]⟩
abbrev S4x2048x256 : Shape := ⟨3, ![4, 2048, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .bf16⟩
  | .hbm, ⟨34, _⟩ => ⟨S4x2048x1024, .bf16⟩
  | .hbm, ⟨35, _⟩ => ⟨S4x2048x256, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel19.lean ====
abbrev S4x2048x1024 : Shape := ⟨3, ![4, 2048, 1024]⟩
abbrev S1024 : Shape := ⟨1, ![1024]⟩
abbrev S1024x7680 : Shape := ⟨2, ![1024, 7680]⟩
abbrev S2048x16 : Shape := ⟨2, ![2048, 16]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S2048x96 : Shape := ⟨2, ![2048, 96]⟩
abbrev S2048x128 : Shape := ⟨2, ![2048, 128]⟩
abbrev S1024x3072 : Shape := ⟨2, ![1024, 3072]⟩
abbrev S1024x512 : Shape := ⟨2, ![1024, 512]⟩
abbrev S8192x1536 : Shape := ⟨2, ![8192, 1536]⟩
abbrev S512x1024 : Shape := ⟨2, ![512, 1024]⟩
abbrev S1024x1536 : Shape := ⟨2, ![1024, 1536]⟩
abbrev S512x128 : Shape := ⟨2, ![512, 128]⟩
abbrev S512x1536 : Shape := ⟨2, ![512, 1536]⟩
abbrev S512x512 : Shape := ⟨2, ![512, 512]⟩
abbrev S4x2048x1536 : Shape := ⟨3, ![4, 2048, 1536]⟩

abbrev nBuf : Space → Nat
  | .hbm => 47
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7680, .f32⟩
  | .hbm, ⟨3, _⟩ => ⟨S2048x16, .f32⟩
  | .hbm, ⟨4, _⟩ => ⟨S2048x16, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S8192x1024, .f32⟩
  | .hbm, ⟨22, _⟩ => ⟨S8192x1024, .bf16⟩
  | .hbm, ⟨23, _⟩ => ⟨S_, .f32⟩
  | .hbm, ⟨24, _⟩ => ⟨S2048x96, .f32⟩
  | .hbm, ⟨25, _⟩ => ⟨S_, .f32⟩
  | .hbm, ⟨26, _⟩ => ⟨S2048x16, .f32⟩
  | .hbm, ⟨27, _⟩ => ⟨S_, .f32⟩
  | .hbm, ⟨28, _⟩ => ⟨S2048x96, .f32⟩
  | .hbm, ⟨29, _⟩ => ⟨S2048x128, .f32⟩
  | .hbm, ⟨30, _⟩ => ⟨S2048x16, .f32⟩
  | .hbm, ⟨31, _⟩ => ⟨S2048x128, .f32⟩
  | .hbm, ⟨32, _⟩ => ⟨S2048x128, .f32⟩
  | .hbm, ⟨33, _⟩ => ⟨S1024x3072, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S1024x7680, .f32⟩
  | .hbm, ⟨44, _⟩ => ⟨S1024x7680, .bf16⟩
  | .hbm, ⟨45, _⟩ => ⟨S8192x1536, .bf16⟩
  | .hbm, ⟨46, _⟩ => ⟨S4x2048x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1536, .bf16⟩
  | .local _ .vmem, ⟨10, _⟩ => ⟨S512x1536, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel19Ideal.lean ====
abbrev S4x2048x1024 : Shape := ⟨3, ![4, 2048, 1024]⟩
abbrev S1024 : Shape := ⟨1, ![1024]⟩
abbrev S1024x7680 : Shape := ⟨2, ![1024, 7680]⟩
abbrev S2048x16 : Shape := ⟨2, ![2048, 16]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S2048x96 : Shape := ⟨2, ![2048, 96]⟩
abbrev S2048x128 : Shape := ⟨2, ![2048, 128]⟩
abbrev S1024x3072 : Shape := ⟨2, ![1024, 3072]⟩
abbrev S1024x512 : Shape := ⟨2, ![1024, 512]⟩
abbrev S8192x1536 : Shape := ⟨2, ![8192, 1536]⟩
abbrev S512x1024 : Shape := ⟨2, ![512, 1024]⟩
abbrev S1024x1536 : Shape := ⟨2, ![1024, 1536]⟩
abbrev S512x128 : Shape := ⟨2, ![512, 128]⟩
abbrev S512x1536 : Shape := ⟨2, ![512, 1536]⟩
abbrev S512x512 : Shape := ⟨2, ![512, 512]⟩
abbrev S4x2048x1536 : Shape := ⟨3, ![4, 2048, 1536]⟩

abbrev nBuf : Space → Nat
  | .hbm => 47
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7680, .f32⟩
  | .hbm, ⟨3, _⟩ => ⟨S2048x16, .f32⟩
  | .hbm, ⟨4, _⟩ => ⟨S2048x16, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S8192x1024, .f32⟩
  | .hbm, ⟨22, _⟩ => ⟨S8192x1024, .bf16⟩
  | .hbm, ⟨23, _⟩ => ⟨S_, .f32⟩
  | .hbm, ⟨24, _⟩ => ⟨S2048x96, .f32⟩
  | .hbm, ⟨25, _⟩ => ⟨S_, .f32⟩
  | .hbm, ⟨26, _⟩ => ⟨S2048x16, .f32⟩
  | .hbm, ⟨27, _⟩ => ⟨S_, .f32⟩
  | .hbm, ⟨28, _⟩ => ⟨S2048x96, .f32⟩
  | .hbm, ⟨29, _⟩ => ⟨S2048x128, .f32⟩
  | .hbm, ⟨30, _⟩ => ⟨S2048x16, .f32⟩
  | .hbm, ⟨31, _⟩ => ⟨S2048x128, .f32⟩
  | .hbm, ⟨32, _⟩ => ⟨S2048x128, .f32⟩
  | .hbm, ⟨33, _⟩ => ⟨S1024x3072, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S1024x7680, .f32⟩
  | .hbm, ⟨44, _⟩ => ⟨S1024x7680, .bf16⟩
  | .hbm, ⟨45, _⟩ => ⟨S8192x1536, .bf16⟩
  | .hbm, ⟨46, _⟩ => ⟨S4x2048x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1536, .bf16⟩
  | .local _ .vmem, ⟨10, _⟩ => ⟨S512x1536, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference19Ideal.lean ====
abbrev S4x2048x1024 : Shape := ⟨3, ![4, 2048, 1024]⟩
abbrev S1024 : Shape := ⟨1, ![1024]⟩
abbrev S1024x7680 : Shape := ⟨2, ![1024, 7680]⟩
abbrev S2048x16 : Shape := ⟨2, ![2048, 16]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x7680 : Shape := ⟨3, ![4, 2048, 7680]⟩
abbrev S4x2048x1536 : Shape := ⟨3, ![4, 2048, 1536]⟩
abbrev S4x2048x3x4x128 : Shape := ⟨5, ![4, 2048, 3, 4, 128]⟩
abbrev S4x2048x3x4x16 : Shape := ⟨5, ![4, 2048, 3, 4, 16]⟩
abbrev S2048x1x1x16 : Shape := ⟨4, ![2048, 1, 1, 16]⟩
abbrev S1x2048x1x1x16 : Shape := ⟨5, ![1, 2048, 1, 1, 16]⟩
abbrev S4x2048x3x4x96 : Shape := ⟨5, ![4, 2048, 3, 4, 96]⟩
abbrev S4x2048x1x4x128 : Shape := ⟨5, ![4, 2048, 1, 4, 128]⟩
abbrev S4x2048x4x128 : Shape := ⟨4, ![4, 2048, 4, 128]⟩
abbrev S4x2048x512 : Shape := ⟨3, ![4, 2048, 512]⟩

abbrev nBuf : Space → Nat
  | .hbm => 79
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7680, .f32⟩
  | .hbm, ⟨3, _⟩ => ⟨S2048x16, .f32⟩
  | .hbm, ⟨4, _⟩ => ⟨S2048x16, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x7680, .f32⟩
  | .hbm, ⟨22, _⟩ => ⟨S4x2048x1536, .f32⟩
  | .hbm, ⟨23, _⟩ => ⟨S4x2048x3x4x128, .f32⟩
  | .hbm, ⟨24, _⟩ => ⟨S4x2048x1536, .f32⟩
  | .hbm, ⟨25, _⟩ => ⟨S4x2048x3x4x128, .f32⟩
  | .hbm, ⟨26, _⟩ => ⟨S4x2048x1536, .f32⟩
  | .hbm, ⟨27, _⟩ => ⟨S4x2048x3x4x128, .f32⟩
  | .hbm, ⟨28, _⟩ => ⟨S4x2048x3x4x16, .f32⟩
  | .hbm, ⟨29, _⟩ => ⟨S4x2048x3x4x16, .f32⟩
  | .hbm, ⟨30, _⟩ => ⟨S2048x1x1x16, .f32⟩
  | .hbm, ⟨31, _⟩ => ⟨S2048x1x1x16, .f32⟩
  | .hbm, ⟨32, _⟩ => ⟨S1x2048x1x1x16, .f32⟩
  | .hbm, ⟨33, _⟩ => ⟨S4x2048x3x4x16, .f32⟩
  | .hbm, ⟨34, _⟩ => ⟨S4x2048x3x4x16, .f32⟩
  | .hbm, ⟨35, _⟩ => ⟨S1x2048x1x1x16, .f32⟩
  | .hbm, ⟨36, _⟩ => ⟨S4x2048x3x4x16, .f32⟩
  | .hbm, ⟨37, _⟩ => ⟨S4x2048x3x4x16, .f32⟩
  | .hbm, ⟨38, _⟩ => ⟨S4x2048x3x4x16, .f32⟩
  | .hbm, ⟨39, _⟩ => ⟨S1x2048x1x1x16, .f32⟩
  | .hbm, ⟨40, _⟩ => ⟨S4x2048x3x4x16, .f32⟩
  | .hbm, ⟨41, _⟩ => ⟨S4x2048x3x4x16, .f32⟩
  | .hbm, ⟨42, _⟩ => ⟨S1x2048x1x1x16, .f32⟩
  | .hbm, ⟨43, _⟩ => ⟨S4x2048x3x4x16, .f32⟩
  | .hbm, ⟨44, _⟩ => ⟨S4x2048x3x4x16, .f32⟩
  | .hbm, ⟨45, _⟩ => ⟨S4x2048x3x4x16, .f32⟩
  | .hbm, ⟨46, _⟩ => ⟨S4x2048x3x4x96, .f32⟩
  | .hbm, ⟨47, _⟩ => ⟨S4x2048x3x4x128, .f32⟩
  | .hbm, ⟨48, _⟩ => ⟨S4x2048x3x4x16, .f32⟩
  | .hbm, ⟨49, _⟩ => ⟨S4x2048x3x4x16, .f32⟩
  | .hbm, ⟨50, _⟩ => ⟨S2048x1x1x16, .f32⟩
  | .hbm, ⟨51, _⟩ => ⟨S2048x1x1x16, .f32⟩
  | .hbm, ⟨52, _⟩ => ⟨S1x2048x1x1x16, .f32⟩
  | .hbm, ⟨53, _⟩ => ⟨S4x2048x3x4x16, .f32⟩
  | .hbm, ⟨54, _⟩ => ⟨S4x2048x3x4x16, .f32⟩
  | .hbm, ⟨55, _⟩ => ⟨S1x2048x1x1x16, .f32⟩
  | .hbm, ⟨56, _⟩ => ⟨S4x2048x3x4x16, .f32⟩
  | .hbm, ⟨57, _⟩ => ⟨S4x2048x3x4x16, .f32⟩
  | .hbm, ⟨58, _⟩ => ⟨S4x2048x3x4x16, .f32⟩
  | .hbm, ⟨59, _⟩ => ⟨S1x2048x1x1x16, .f32⟩
  | .hbm, ⟨60, _⟩ => ⟨S4x2048x3x4x16, .f32⟩
  | .hbm, ⟨61, _⟩ => ⟨S4x2048x3x4x16, .f32⟩
  | .hbm, ⟨62, _⟩ => ⟨S1x2048x1x1x16, .f32⟩
  | .hbm, ⟨63, _⟩ => ⟨S4x2048x3x4x16, .f32⟩
  | .hbm, ⟨64, _⟩ => ⟨S4x2048x3x4x16, .f32⟩
  | .hbm, ⟨65, _⟩ => ⟨S4x2048x3x4x16, .f32⟩
  | .hbm, ⟨66, _⟩ => ⟨S4x2048x3x4x96, .f32⟩
  | .hbm, ⟨67, _⟩ => ⟨S4x2048x3x4x128, .f32⟩
  | .hbm, ⟨68, _⟩ => ⟨S4x2048x1x4x128, .f32⟩
  | .hbm, ⟨69, _⟩ => ⟨S4x2048x4x128, .f32⟩
  | .hbm, ⟨70, _⟩ => ⟨S4x2048x512, .f32⟩
  | .hbm, ⟨71, _⟩ => ⟨S4x2048x1x4x128, .f32⟩
  | .hbm, ⟨72, _⟩ => ⟨S4x2048x4x128, .f32⟩
  | .hbm, ⟨73, _⟩ => ⟨S4x2048x512, .f32⟩
  | .hbm, ⟨74, _⟩ => ⟨S4x2048x1x4x128, .f32⟩
  | .hbm, ⟨75, _⟩ => ⟨S4x2048x4x128, .f32⟩
  | .hbm, ⟨76, _⟩ => ⟨S4x2048x512, .f32⟩
  | .hbm, ⟨77, _⟩ => ⟨S4x2048x1536, .f32⟩
  | .hbm, ⟨78, _⟩ => ⟨S4x2048x1536, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩

abbrev nD : Nat := 1
abbrev τ : Topo := Topo.v7x

variable {F : FTy → Type} [FloatOps F]
-- ==== Kernel20.lean ====
abbrev S4x2048x1024 : Shape := ⟨3, ![4, 2048, 1024]⟩
abbrev S1024 : Shape := ⟨1, ![1024]⟩
abbrev S1024x7680 : Shape := ⟨2, ![1024, 7680]⟩
abbrev S2048x16 : Shape := ⟨2, ![2048, 16]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x512x4x1024 : Shape := ⟨4, ![4, 512, 4, 1024]⟩
abbrev S4x4x512x1024 : Shape := ⟨4, ![4, 4, 512, 1024]⟩
abbrev S8192x1024 : Shape := ⟨2, ![8192, 1024]⟩
abbrev S2048x96 : Shape := ⟨2, ![2048, 96]⟩
abbrev S2048x128 : Shape := ⟨2, ![2048, 128]⟩
abbrev S512x4x128 : Shape := ⟨3, ![512, 4, 128]⟩
abbrev S4x512x128 : Shape := ⟨3, ![4, 512, 128]⟩
abbrev S1024x3072 : Shape := ⟨2, ![1024, 3072]⟩
abbrev S1024x512 : Shape := ⟨2, ![1024, 512]⟩
abbrev S8192x1536 : Shape := ⟨2, ![8192, 1536]⟩
abbrev S512x1024 : Shape := ⟨2, ![512, 1024]⟩
abbrev S1024x1536 : Shape := ⟨2, ![1024, 1536]⟩
abbrev S512x128 : Shape := ⟨2, ![512, 128]⟩
abbrev S512x1536 : Shape := ⟨2, ![512, 1536]⟩
abbrev S512x512 : Shape := ⟨2, ![512, 512]⟩
abbrev S4x4x512x1536 : Shape := ⟨4, ![4, 4, 512, 1536]⟩
abbrev S4x512x4x1536 : Shape := ⟨4, ![4, 512, 4, 1536]⟩
abbrev S4x2048x1536 : Shape := ⟨3, ![4, 2048, 1536]⟩

abbrev nBuf : Space → Nat
  | .hbm => 60
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7680, .f32⟩
  | .hbm, ⟨3, _⟩ => ⟨S2048x16, .f32⟩
  | .hbm, ⟨4, _⟩ => ⟨S2048x16, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x512x4x1024, .f32⟩
  | .hbm, ⟨22, _⟩ => ⟨S4x4x512x1024, .f32⟩
  | .hbm, ⟨23, _⟩ => ⟨S8192x1024, .f32⟩
  | .hbm, ⟨24, _⟩ => ⟨S8192x1024, .bf16⟩
  | .hbm, ⟨25, _⟩ => ⟨S_, .f32⟩
  | .hbm, ⟨26, _⟩ => ⟨S2048x96, .f32⟩
  | .hbm, ⟨27, _⟩ => ⟨S_, .f32⟩
  | .hbm, ⟨28, _⟩ => ⟨S2048x16, .f32⟩
  | .hbm, ⟨29, _⟩ => ⟨S_, .f32⟩
  | .hbm, ⟨30, _⟩ => ⟨S2048x96, .f32⟩
  | .hbm, ⟨31, _⟩ => ⟨S2048x128, .f32⟩
  | .hbm, ⟨32, _⟩ => ⟨S2048x16, .f32⟩
  | .hbm, ⟨33, _⟩ => ⟨S2048x128, .f32⟩
  | .hbm, ⟨34, _⟩ => ⟨S2048x128, .f32⟩
  | .hbm, ⟨35, _⟩ => ⟨S512x4x128, .f32⟩
  | .hbm, ⟨36, _⟩ => ⟨S4x512x128, .f32⟩
  | .hbm, ⟨37, _⟩ => ⟨S2048x128, .f32⟩
  | .hbm, ⟨38, _⟩ => ⟨S512x4x128, .f32⟩
  | .hbm, ⟨39, _⟩ => ⟨S4x512x128, .f32⟩
  | .hbm, ⟨40, _⟩ => ⟨S2048x128, .f32⟩
  | .hbm, ⟨41, _⟩ => ⟨S512x4x128, .f32⟩
  | .hbm, ⟨42, _⟩ => ⟨S4x512x128, .f32⟩
  | .hbm, ⟨43, _⟩ => ⟨S2048x128, .f32⟩
  | .hbm, ⟨44, _⟩ => ⟨S1024x3072, .f32⟩
  | .hbm, ⟨45, _⟩ => ⟨S1024x512, .f32⟩
  | .hbm, ⟨46, _⟩ => ⟨S1024x512, .f32⟩
  | .hbm, ⟨47, _⟩ => ⟨S1024x512, .f32⟩
  | .hbm, ⟨48, _⟩ => ⟨S1024x512, .f32⟩
  | .hbm, ⟨49, _⟩ => ⟨S1024x512, .f32⟩
  | .hbm, ⟨50, _⟩ => ⟨S1024x512, .f32⟩
  | .hbm, ⟨51, _⟩ => ⟨S1024x512, .f32⟩
  | .hbm, ⟨52, _⟩ => ⟨S1024x512, .f32⟩
  | .hbm, ⟨53, _⟩ => ⟨S1024x512, .f32⟩
  | .hbm, ⟨54, _⟩ => ⟨S1024x7680, .f32⟩
  | .hbm, ⟨55, _⟩ => ⟨S1024x7680, .bf16⟩
  | .hbm, ⟨56, _⟩ => ⟨S8192x1536, .bf16⟩
  | .hbm, ⟨57, _⟩ => ⟨S4x4x512x1536, .bf16⟩
  | .hbm, ⟨58, _⟩ => ⟨S4x512x4x1536, .bf16⟩
  | .hbm, ⟨59, _⟩ => ⟨S4x2048x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1536, .bf16⟩
  | .local _ .vmem, ⟨10, _⟩ => ⟨S512x1536, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel20Ideal.lean ====
abbrev S4x2048x1024 : Shape := ⟨3, ![4, 2048, 1024]⟩
abbrev S1024 : Shape := ⟨1, ![1024]⟩
abbrev S1024x7680 : Shape := ⟨2, ![1024, 7680]⟩
abbrev S2048x16 : Shape := ⟨2, ![2048, 16]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x512x4x1024 : Shape := ⟨4, ![4, 512, 4, 1024]⟩
abbrev S4x4x512x1024 : Shape := ⟨4, ![4, 4, 512, 1024]⟩
abbrev S8192x1024 : Shape := ⟨2, ![8192, 1024]⟩
abbrev S2048x96 : Shape := ⟨2, ![2048, 96]⟩
abbrev S2048x128 : Shape := ⟨2, ![2048, 128]⟩
abbrev S512x4x128 : Shape := ⟨3, ![512, 4, 128]⟩
abbrev S4x512x128 : Shape := ⟨3, ![4, 512, 128]⟩
abbrev S1024x3072 : Shape := ⟨2, ![1024, 3072]⟩
abbrev S1024x512 : Shape := ⟨2, ![1024, 512]⟩
abbrev S8192x1536 : Shape := ⟨2, ![8192, 1536]⟩
abbrev S512x1024 : Shape := ⟨2, ![512, 1024]⟩
abbrev S1024x1536 : Shape := ⟨2, ![1024, 1536]⟩
abbrev S512x128 : Shape := ⟨2, ![512, 128]⟩
abbrev S512x1536 : Shape := ⟨2, ![512, 1536]⟩
abbrev S512x512 : Shape := ⟨2, ![512, 512]⟩
abbrev S4x4x512x1536 : Shape := ⟨4, ![4, 4, 512, 1536]⟩
abbrev S4x512x4x1536 : Shape := ⟨4, ![4, 512, 4, 1536]⟩
abbrev S4x2048x1536 : Shape := ⟨3, ![4, 2048, 1536]⟩

abbrev nBuf : Space → Nat
  | .hbm => 60
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7680, .f32⟩
  | .hbm, ⟨3, _⟩ => ⟨S2048x16, .f32⟩
  | .hbm, ⟨4, _⟩ => ⟨S2048x16, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x512x4x1024, .f32⟩
  | .hbm, ⟨22, _⟩ => ⟨S4x4x512x1024, .f32⟩
  | .hbm, ⟨23, _⟩ => ⟨S8192x1024, .f32⟩
  | .hbm, ⟨24, _⟩ => ⟨S8192x1024, .bf16⟩
  | .hbm, ⟨25, _⟩ => ⟨S_, .f32⟩
  | .hbm, ⟨26, _⟩ => ⟨S2048x96, .f32⟩
  | .hbm, ⟨27, _⟩ => ⟨S_, .f32⟩
  | .hbm, ⟨28, _⟩ => ⟨S2048x16, .f32⟩
  | .hbm, ⟨29, _⟩ => ⟨S_, .f32⟩
  | .hbm, ⟨30, _⟩ => ⟨S2048x96, .f32⟩
  | .hbm, ⟨31, _⟩ => ⟨S2048x128, .f32⟩
  | .hbm, ⟨32, _⟩ => ⟨S2048x16, .f32⟩
  | .hbm, ⟨33, _⟩ => ⟨S2048x128, .f32⟩
  | .hbm, ⟨34, _⟩ => ⟨S2048x128, .f32⟩
  | .hbm, ⟨35, _⟩ => ⟨S512x4x128, .f32⟩
  | .hbm, ⟨36, _⟩ => ⟨S4x512x128, .f32⟩
  | .hbm, ⟨37, _⟩ => ⟨S2048x128, .f32⟩
  | .hbm, ⟨38, _⟩ => ⟨S512x4x128, .f32⟩
  | .hbm, ⟨39, _⟩ => ⟨S4x512x128, .f32⟩
  | .hbm, ⟨40, _⟩ => ⟨S2048x128, .f32⟩
  | .hbm, ⟨41, _⟩ => ⟨S512x4x128, .f32⟩
  | .hbm, ⟨42, _⟩ => ⟨S4x512x128, .f32⟩
  | .hbm, ⟨43, _⟩ => ⟨S2048x128, .f32⟩
  | .hbm, ⟨44, _⟩ => ⟨S1024x3072, .f32⟩
  | .hbm, ⟨45, _⟩ => ⟨S1024x512, .f32⟩
  | .hbm, ⟨46, _⟩ => ⟨S1024x512, .f32⟩
  | .hbm, ⟨47, _⟩ => ⟨S1024x512, .f32⟩
  | .hbm, ⟨48, _⟩ => ⟨S1024x512, .f32⟩
  | .hbm, ⟨49, _⟩ => ⟨S1024x512, .f32⟩
  | .hbm, ⟨50, _⟩ => ⟨S1024x512, .f32⟩
  | .hbm, ⟨51, _⟩ => ⟨S1024x512, .f32⟩
  | .hbm, ⟨52, _⟩ => ⟨S1024x512, .f32⟩
  | .hbm, ⟨53, _⟩ => ⟨S1024x512, .f32⟩
  | .hbm, ⟨54, _⟩ => ⟨S1024x7680, .f32⟩
  | .hbm, ⟨55, _⟩ => ⟨S1024x7680, .bf16⟩
  | .hbm, ⟨56, _⟩ => ⟨S8192x1536, .bf16⟩
  | .hbm, ⟨57, _⟩ => ⟨S4x4x512x1536, .bf16⟩
  | .hbm, ⟨58, _⟩ => ⟨S4x512x4x1536, .bf16⟩
  | .hbm, ⟨59, _⟩ => ⟨S4x2048x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1536, .bf16⟩
  | .local _ .vmem, ⟨10, _⟩ => ⟨S512x1536, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference20Ideal.lean ====
abbrev S4x2048x1024 : Shape := ⟨3, ![4, 2048, 1024]⟩
abbrev S1024 : Shape := ⟨1, ![1024]⟩
abbrev S1024x7680 : Shape := ⟨2, ![1024, 7680]⟩
abbrev S2048x16 : Shape := ⟨2, ![2048, 16]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x7680 : Shape := ⟨3, ![4, 2048, 7680]⟩
abbrev S4x2048x1536 : Shape := ⟨3, ![4, 2048, 1536]⟩
abbrev S4x2048x3x4x128 : Shape := ⟨5, ![4, 2048, 3, 4, 128]⟩
abbrev S4x2048x3x4x16 : Shape := ⟨5, ![4, 2048, 3, 4, 16]⟩
abbrev S2048x1x1x16 : Shape := ⟨4, ![2048, 1, 1, 16]⟩
abbrev S1x2048x1x1x16 : Shape := ⟨5, ![1, 2048, 1, 1, 16]⟩
abbrev S4x2048x3x4x96 : Shape := ⟨5, ![4, 2048, 3, 4, 96]⟩
abbrev S4x2048x1x4x128 : Shape := ⟨5, ![4, 2048, 1, 4, 128]⟩
abbrev S4x2048x4x128 : Shape := ⟨4, ![4, 2048, 4, 128]⟩
abbrev S4x2048x512 : Shape := ⟨3, ![4, 2048, 512]⟩

abbrev nBuf : Space → Nat
  | .hbm => 79
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7680, .f32⟩
  | .hbm, ⟨3, _⟩ => ⟨S2048x16, .f32⟩
  | .hbm, ⟨4, _⟩ => ⟨S2048x16, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x7680, .f32⟩
  | .hbm, ⟨22, _⟩ => ⟨S4x2048x1536, .f32⟩
  | .hbm, ⟨23, _⟩ => ⟨S4x2048x3x4x128, .f32⟩
  | .hbm, ⟨24, _⟩ => ⟨S4x2048x1536, .f32⟩
  | .hbm, ⟨25, _⟩ => ⟨S4x2048x3x4x128, .f32⟩
  | .hbm, ⟨26, _⟩ => ⟨S4x2048x1536, .f32⟩
  | .hbm, ⟨27, _⟩ => ⟨S4x2048x3x4x128, .f32⟩
  | .hbm, ⟨28, _⟩ => ⟨S4x2048x3x4x16, .f32⟩
  | .hbm, ⟨29, _⟩ => ⟨S4x2048x3x4x16, .f32⟩
  | .hbm, ⟨30, _⟩ => ⟨S2048x1x1x16, .f32⟩
  | .hbm, ⟨31, _⟩ => ⟨S2048x1x1x16, .f32⟩
  | .hbm, ⟨32, _⟩ => ⟨S1x2048x1x1x16, .f32⟩
  | .hbm, ⟨33, _⟩ => ⟨S4x2048x3x4x16, .f32⟩
  | .hbm, ⟨34, _⟩ => ⟨S4x2048x3x4x16, .f32⟩
  | .hbm, ⟨35, _⟩ => ⟨S1x2048x1x1x16, .f32⟩
  | .hbm, ⟨36, _⟩ => ⟨S4x2048x3x4x16, .f32⟩
  | .hbm, ⟨37, _⟩ => ⟨S4x2048x3x4x16, .f32⟩
  | .hbm, ⟨38, _⟩ => ⟨S4x2048x3x4x16, .f32⟩
  | .hbm, ⟨39, _⟩ => ⟨S1x2048x1x1x16, .f32⟩
  | .hbm, ⟨40, _⟩ => ⟨S4x2048x3x4x16, .f32⟩
  | .hbm, ⟨41, _⟩ => ⟨S4x2048x3x4x16, .f32⟩
  | .hbm, ⟨42, _⟩ => ⟨S1x2048x1x1x16, .f32⟩
  | .hbm, ⟨43, _⟩ => ⟨S4x2048x3x4x16, .f32⟩
  | .hbm, ⟨44, _⟩ => ⟨S4x2048x3x4x16, .f32⟩
  | .hbm, ⟨45, _⟩ => ⟨S4x2048x3x4x16, .f32⟩
  | .hbm, ⟨46, _⟩ => ⟨S4x2048x3x4x96, .f32⟩
  | .hbm, ⟨47, _⟩ => ⟨S4x2048x3x4x128, .f32⟩
  | .hbm, ⟨48, _⟩ => ⟨S4x2048x3x4x16, .f32⟩
  | .hbm, ⟨49, _⟩ => ⟨S4x2048x3x4x16, .f32⟩
  | .hbm, ⟨50, _⟩ => ⟨S2048x1x1x16, .f32⟩
  | .hbm, ⟨51, _⟩ => ⟨S2048x1x1x16, .f32⟩
  | .hbm, ⟨52, _⟩ => ⟨S1x2048x1x1x16, .f32⟩
  | .hbm, ⟨53, _⟩ => ⟨S4x2048x3x4x16, .f32⟩
  | .hbm, ⟨54, _⟩ => ⟨S4x2048x3x4x16, .f32⟩
  | .hbm, ⟨55, _⟩ => ⟨S1x2048x1x1x16, .f32⟩
  | .hbm, ⟨56, _⟩ => ⟨S4x2048x3x4x16, .f32⟩
  | .hbm, ⟨57, _⟩ => ⟨S4x2048x3x4x16, .f32⟩
  | .hbm, ⟨58, _⟩ => ⟨S4x2048x3x4x16, .f32⟩
  | .hbm, ⟨59, _⟩ => ⟨S1x2048x1x1x16, .f32⟩
  | .hbm, ⟨60, _⟩ => ⟨S4x2048x3x4x16, .f32⟩
  | .hbm, ⟨61, _⟩ => ⟨S4x2048x3x4x16, .f32⟩
  | .hbm, ⟨62, _⟩ => ⟨S1x2048x1x1x16, .f32⟩
  | .hbm, ⟨63, _⟩ => ⟨S4x2048x3x4x16, .f32⟩
  | .hbm, ⟨64, _⟩ => ⟨S4x2048x3x4x16, .f32⟩
  | .hbm, ⟨65, _⟩ => ⟨S4x2048x3x4x16, .f32⟩
  | .hbm, ⟨66, _⟩ => ⟨S4x2048x3x4x96, .f32⟩
  | .hbm, ⟨67, _⟩ => ⟨S4x2048x3x4x128, .f32⟩
  | .hbm, ⟨68, _⟩ => ⟨S4x2048x1x4x128, .f32⟩
  | .hbm, ⟨69, _⟩ => ⟨S4x2048x4x128, .f32⟩
  | .hbm, ⟨70, _⟩ => ⟨S4x2048x512, .f32⟩
  | .hbm, ⟨71, _⟩ => ⟨S4x2048x1x4x128, .f32⟩
  | .hbm, ⟨72, _⟩ => ⟨S4x2048x4x128, .f32⟩
  | .hbm, ⟨73, _⟩ => ⟨S4x2048x512, .f32⟩
  | .hbm, ⟨74, _⟩ => ⟨S4x2048x1x4x128, .f32⟩
  | .hbm, ⟨75, _⟩ => ⟨S4x2048x4x128, .f32⟩
  | .hbm, ⟨76, _⟩ => ⟨S4x2048x512, .f32⟩
  | .hbm, ⟨77, _⟩ => ⟨S4x2048x1536, .f32⟩
  | .hbm, ⟨78, _⟩ => ⟨S4x2048x1536, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩

abbrev nD : Nat := 1
abbrev τ : Topo := Topo.v7x

variable {F : FTy → Type} [FloatOps F]
-- ==== Kernel21.lean ====
abbrev S4x2048x1024 : Shape := ⟨3, ![4, 2048, 1024]⟩
abbrev S1024 : Shape := ⟨1, ![1024]⟩
abbrev S1024x7680 : Shape := ⟨2, ![1024, 7680]⟩
abbrev S2048x16 : Shape := ⟨2, ![2048, 16]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x128x16x1024 : Shape := ⟨4, ![4, 128, 16, 1024]⟩
abbrev S4x16x128x1024 : Shape := ⟨4, ![4, 16, 128, 1024]⟩
abbrev S8192x1024 : Shape := ⟨2, ![8192, 1024]⟩
abbrev S2048x96 : Shape := ⟨2, ![2048, 96]⟩
abbrev S2048x128 : Shape := ⟨2, ![2048, 128]⟩
abbrev S128x16x128 : Shape := ⟨3, ![128, 16, 128]⟩
abbrev S16x128x128 : Shape := ⟨3, ![16, 128, 128]⟩
abbrev S1024x3072 : Shape := ⟨2, ![1024, 3072]⟩
abbrev S1024x512 : Shape := ⟨2, ![1024, 512]⟩
abbrev S8192x1536 : Shape := ⟨2, ![8192, 1536]⟩
abbrev S512x1024 : Shape := ⟨2, ![512, 1024]⟩
abbrev S1024x1536 : Shape := ⟨2, ![1024, 1536]⟩
abbrev S512x128 : Shape := ⟨2, ![512, 128]⟩
abbrev S512x1536 : Shape := ⟨2, ![512, 1536]⟩
abbrev S512x512 : Shape := ⟨2, ![512, 512]⟩
abbrev S4x16x128x1536 : Shape := ⟨4, ![4, 16, 128, 1536]⟩
abbrev S4x128x16x1536 : Shape := ⟨4, ![4, 128, 16, 1536]⟩
abbrev S4x2048x1536 : Shape := ⟨3, ![4, 2048, 1536]⟩

abbrev nBuf : Space → Nat
  | .hbm => 60
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7680, .f32⟩
  | .hbm, ⟨3, _⟩ => ⟨S2048x16, .f32⟩
  | .hbm, ⟨4, _⟩ => ⟨S2048x16, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x128x16x1024, .f32⟩
  | .hbm, ⟨22, _⟩ => ⟨S4x16x128x1024, .f32⟩
  | .hbm, ⟨23, _⟩ => ⟨S8192x1024, .f32⟩
  | .hbm, ⟨24, _⟩ => ⟨S8192x1024, .bf16⟩
  | .hbm, ⟨25, _⟩ => ⟨S_, .f32⟩
  | .hbm, ⟨26, _⟩ => ⟨S2048x96, .f32⟩
  | .hbm, ⟨27, _⟩ => ⟨S_, .f32⟩
  | .hbm, ⟨28, _⟩ => ⟨S2048x16, .f32⟩
  | .hbm, ⟨29, _⟩ => ⟨S_, .f32⟩
  | .hbm, ⟨30, _⟩ => ⟨S2048x96, .f32⟩
  | .hbm, ⟨31, _⟩ => ⟨S2048x128, .f32⟩
  | .hbm, ⟨32, _⟩ => ⟨S2048x16, .f32⟩
  | .hbm, ⟨33, _⟩ => ⟨S2048x128, .f32⟩
  | .hbm, ⟨34, _⟩ => ⟨S2048x128, .f32⟩
  | .hbm, ⟨35, _⟩ => ⟨S128x16x128, .f32⟩
  | .hbm, ⟨36, _⟩ => ⟨S16x128x128, .f32⟩
  | .hbm, ⟨37, _⟩ => ⟨S2048x128, .f32⟩
  | .hbm, ⟨38, _⟩ => ⟨S128x16x128, .f32⟩
  | .hbm, ⟨39, _⟩ => ⟨S16x128x128, .f32⟩
  | .hbm, ⟨40, _⟩ => ⟨S2048x128, .f32⟩
  | .hbm, ⟨41, _⟩ => ⟨S128x16x128, .f32⟩
  | .hbm, ⟨42, _⟩ => ⟨S16x128x128, .f32⟩
  | .hbm, ⟨43, _⟩ => ⟨S2048x128, .f32⟩
  | .hbm, ⟨44, _⟩ => ⟨S1024x3072, .f32⟩
  | .hbm, ⟨45, _⟩ => ⟨S1024x512, .f32⟩
  | .hbm, ⟨46, _⟩ => ⟨S1024x512, .f32⟩
  | .hbm, ⟨47, _⟩ => ⟨S1024x512, .f32⟩
  | .hbm, ⟨48, _⟩ => ⟨S1024x512, .f32⟩
  | .hbm, ⟨49, _⟩ => ⟨S1024x512, .f32⟩
  | .hbm, ⟨50, _⟩ => ⟨S1024x512, .f32⟩
  | .hbm, ⟨51, _⟩ => ⟨S1024x512, .f32⟩
  | .hbm, ⟨52, _⟩ => ⟨S1024x512, .f32⟩
  | .hbm, ⟨53, _⟩ => ⟨S1024x512, .f32⟩
  | .hbm, ⟨54, _⟩ => ⟨S1024x7680, .f32⟩
  | .hbm, ⟨55, _⟩ => ⟨S1024x7680, .bf16⟩
  | .hbm, ⟨56, _⟩ => ⟨S8192x1536, .bf16⟩
  | .hbm, ⟨57, _⟩ => ⟨S4x16x128x1536, .bf16⟩
  | .hbm, ⟨58, _⟩ => ⟨S4x128x16x1536, .bf16⟩
  | .hbm, ⟨59, _⟩ => ⟨S4x2048x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1536, .bf16⟩
  | .local _ .vmem, ⟨10, _⟩ => ⟨S512x1536, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S4x2048x1024 : Shape := ⟨3, ![4, 2048, 1024]⟩
abbrev S1024 : Shape := ⟨1, ![1024]⟩
abbrev S1024x7680 : Shape := ⟨2, ![1024, 7680]⟩
abbrev S2048x16 : Shape := ⟨2, ![2048, 16]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x7680 : Shape := ⟨3, ![4, 2048, 7680]⟩
abbrev S4x2048x1536 : Shape := ⟨3, ![4, 2048, 1536]⟩
abbrev S4x2048x3x4x128 : Shape := ⟨5, ![4, 2048, 3, 4, 128]⟩
abbrev S4x2048x3x4x16 : Shape := ⟨5, ![4, 2048, 3, 4, 16]⟩
abbrev S2048x1x1x16 : Shape := ⟨4, ![2048, 1, 1, 16]⟩
abbrev S1x2048x1x1x16 : Shape := ⟨5, ![1, 2048, 1, 1, 16]⟩
abbrev S4x2048x3x4x96 : Shape := ⟨5, ![4, 2048, 3, 4, 96]⟩
abbrev S4x2048x1x4x128 : Shape := ⟨5, ![4, 2048, 1, 4, 128]⟩
abbrev S4x2048x4x128 : Shape := ⟨4, ![4, 2048, 4, 128]⟩
abbrev S4x2048x512 : Shape := ⟨3, ![4, 2048, 512]⟩

abbrev nBuf : Space → Nat
  | .hbm => 79
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x7680, .f32⟩
  | .hbm, ⟨3, _⟩ => ⟨S2048x16, .f32⟩
  | .hbm, ⟨4, _⟩ => ⟨S2048x16, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x7680, .f32⟩
  | .hbm, ⟨22, _⟩ => ⟨S4x2048x1536, .f32⟩
  | .hbm, ⟨23, _⟩ => ⟨S4x2048x3x4x128, .f32⟩
  | .hbm, ⟨24, _⟩ => ⟨S4x2048x1536, .f32⟩
  | .hbm, ⟨25, _⟩ => ⟨S4x2048x3x4x128, .f32⟩
  | .hbm, ⟨26, _⟩ => ⟨S4x2048x1536, .f32⟩
  | .hbm, ⟨27, _⟩ => ⟨S4x2048x3x4x128, .f32⟩
  | .hbm, ⟨28, _⟩ => ⟨S4x2048x3x4x16, .f32⟩
  | .hbm, ⟨29, _⟩ => ⟨S4x2048x3x4x16, .f32⟩
  | .hbm, ⟨30, _⟩ => ⟨S2048x1x1x16, .f32⟩
  | .hbm, ⟨31, _⟩ => ⟨S2048x1x1x16, .f32⟩
  | .hbm, ⟨32, _⟩ => ⟨S1x2048x1x1x16, .f32⟩
  | .hbm, ⟨33, _⟩ => ⟨S4x2048x3x4x16, .f32⟩
  | .hbm, ⟨34, _⟩ => ⟨S4x2048x3x4x16, .f32⟩
  | .hbm, ⟨35, _⟩ => ⟨S1x2048x1x1x16, .f32⟩
  | .hbm, ⟨36, _⟩ => ⟨S4x2048x3x4x16, .f32⟩
  | .hbm, ⟨37, _⟩ => ⟨S4x2048x3x4x16, .f32⟩
  | .hbm, ⟨38, _⟩ => ⟨S4x2048x3x4x16, .f32⟩
  | .hbm, ⟨39, _⟩ => ⟨S1x2048x1x1x16, .f32⟩
  | .hbm, ⟨40, _⟩ => ⟨S4x2048x3x4x16, .f32⟩
  | .hbm, ⟨41, _⟩ => ⟨S4x2048x3x4x16, .f32⟩
  | .hbm, ⟨42, _⟩ => ⟨S1x2048x1x1x16, .f32⟩
  | .hbm, ⟨43, _⟩ => ⟨S4x2048x3x4x16, .f32⟩
  | .hbm, ⟨44, _⟩ => ⟨S4x2048x3x4x16, .f32⟩
  | .hbm, ⟨45, _⟩ => ⟨S4x2048x3x4x16, .f32⟩
  | .hbm, ⟨46, _⟩ => ⟨S4x2048x3x4x96, .f32⟩
  | .hbm, ⟨47, _⟩ => ⟨S4x2048x3x4x128, .f32⟩
  | .hbm, ⟨48, _⟩ => ⟨S4x2048x3x4x16, .f32⟩
  | .hbm, ⟨49, _⟩ => ⟨S4x2048x3x4x16, .f32⟩
  | .hbm, ⟨50, _⟩ => ⟨S2048x1x1x16, .f32⟩
  | .hbm, ⟨51, _⟩ => ⟨S2048x1x1x16, .f32⟩
  | .hbm, ⟨52, _⟩ => ⟨S1x2048x1x1x16, .f32⟩
  | .hbm, ⟨53, _⟩ => ⟨S4x2048x3x4x16, .f32⟩
  | .hbm, ⟨54, _⟩ => ⟨S4x2048x3x4x16, .f32⟩
  | .hbm, ⟨55, _⟩ => ⟨S1x2048x1x1x16, .f32⟩
  | .hbm, ⟨56, _⟩ => ⟨S4x2048x3x4x16, .f32⟩
  | .hbm, ⟨57, _⟩ => ⟨S4x2048x3x4x16, .f32⟩
  | .hbm, ⟨58, _⟩ => ⟨S4x2048x3x4x16, .f32⟩
  | .hbm, ⟨59, _⟩ => ⟨S1x2048x1x1x16, .f32⟩
  | .hbm, ⟨60, _⟩ => ⟨S4x2048x3x4x16, .f32⟩
  | .hbm, ⟨61, _⟩ => ⟨S4x2048x3x4x16, .f32⟩
  | .hbm, ⟨62, _⟩ => ⟨S1x2048x1x1x16, .f32⟩
  | .hbm, ⟨63, _⟩ => ⟨S4x2048x3x4x16, .f32⟩
  | .hbm, ⟨64, _⟩ => ⟨S4x2048x3x4x16, .f32⟩
  | .hbm, ⟨65, _⟩ => ⟨S4x2048x3x4x16, .f32⟩
  | .hbm, ⟨66, _⟩ => ⟨S4x2048x3x4x96, .f32⟩
  | .hbm, ⟨67, _⟩ => ⟨S4x2048x3x4x128, .f32⟩
  | .hbm, ⟨68, _⟩ => ⟨S4x2048x1x4x128, .f32⟩
  | .hbm, ⟨69, _⟩ => ⟨S4x2048x4x128, .f32⟩
  | .hbm, ⟨70, _⟩ => ⟨S4x2048x512, .f32⟩
  | .hbm, ⟨71, _⟩ => ⟨S4x2048x1x4x128, .f32⟩
  | .hbm, ⟨72, _⟩ => ⟨S4x2048x4x128, .f32⟩
  | .hbm, ⟨73, _⟩ => ⟨S4x2048x512, .f32⟩
  | .hbm, ⟨74, _⟩ => ⟨S4x2048x1x4x128, .f32⟩
  | .hbm, ⟨75, _⟩ => ⟨S4x2048x4x128, .f32⟩
  | .hbm, ⟨76, _⟩ => ⟨S4x2048x512, .f32⟩
  | .hbm, ⟨77, _⟩ => ⟨S4x2048x1536, .f32⟩
  | .hbm, ⟨78, _⟩ => ⟨S4x2048x1536, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩

abbrev nD : Nat := 1
abbrev τ : Topo := Topo.v7x

variable {F : FTy → Type} [FloatOps F]
-- ==== Proof.Reals.lean ====
/- Extended reals that are real numbers: sums and products of them, the real numbers an all-elements-finite test
   guarantees, and the one identity of the norm's gradient, between real numbers. -/
module

public import proofs.«01_k».proof.Defs
public import proofs.«01_k».proof.Proof.Gen.Pre_finite
public import Idealize.ShloMosaic.Lib.Pipeline.ValueKit
public import Idealize.ShloMosaic.Lib.Claim

@[expose] public section

set_option maxRecDepth 16384

noncomputable section

open Idealize.ShloMosaic

namespace Cert.Reals

/-- The extended real is a real number. -/
def IsReal (a : EReal) : Prop := ∃ r : ℝ, a = (r : EReal)

/-- A product of real numbers is one. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A sum of real numbers is one. -/
theorem IsReal.sum {n : ℕ} {f : Fin n → EReal} (hf : ∀ k, IsReal (f k)) : IsReal (∑ k, f k) := by
  choose g hg using hf
  refine ⟨∑ k, g k, ?_⟩
  simp only [hg]
  induction (Finset.univ : Finset (Fin n)) using Finset.induction_on with
  | empty => simp
  | insert a s ha ih => rw [Finset.sum_insert ha, Finset.sum_insert ha, EReal.coe_add, ih]

/-- A sum of squares of real numbers is a real number, not negative. -/
theorem sum_sq {n : ℕ} {f : Fin n → EReal} (hf : ∀ k, IsReal (f k)) : ∃ r : ℝ, 0 ≤ r ∧ ∑ k, f k * f k = (r : EReal) := by
  obtain ⟨r, hr⟩ := IsReal.sum fun k => (hf k).mul (hf k)
  refine ⟨r, ?_, hr⟩
  have h : (0 : EReal) ≤ ∑ k, f k * f k := Finset.sum_nonneg fun k _ => by
    obtain ⟨x, hx⟩ := hf k
    rw [hx, ← EReal.coe_mul]
    exact_mod_cast mul_self_nonneg x
  rw [hr] at h
  exact_mod_cast h

/-- A conjunction over a list is true only if each member is. -/
theorem foldl_and {ι : Type} (l : List ι) (f : ι → BitVec 1) (z : BitVec 1)
    (h : l.foldl (fun a n => IntOp.andi a (f n)) z = 1#1) : z = 1#1 ∧ ∀ n ∈ l, f n = 1#1 := by
  induction l generalizing z with
  | nil => exact ⟨h, by simp⟩
  | cons a l ih =>
    obtain ⟨h1, h2⟩ := ih _ h
    obtain ⟨h3, h4⟩ := IntOp.andi_eq_one.mp h1
    exact ⟨h3, by simpa using ⟨h4, h2⟩⟩

/-- An array whose every element passes "its magnitude is below infinity" holds real numbers. -/
theorem real_of_all {s t u : Shape} {axes : List (Fin s.rank)} (ht : ∀ j j' : t.Idx, j = j') (x : FVec Ideal s .f32)
    (d : Fin u.rank → Fin s.rank) (hb : u.BroadcastsInDim s d) (h : s.ReducesTo axes t) (hu : 0 < u.numel) (j : t.Idx)
    (e : Host.reduce IntOp.andi (cmpf .olt (Host.absf x) (broadcastInDim s d hb (constant u .f32 0x7F800000#32)))
      (constantI u 1 1#1) h hu j = 1#1) (i) : IsReal (x i) := by
  have := (foldl_and _ _ _ e).2 (s.rowMajor i) (by
    rw [List.mem_filter]; exact ⟨List.mem_finRange _, by simpa using ht _ _⟩)
  simp only [Equiv.symm_apply_apply] at this
  have hlt : max (x i : EReal) (-x i) < Ideal.ofBits .f32 0x7F800000#32 := by
    have h1 : Ideal.cmp .olt (max (x i : EReal) (-x i)) (Ideal.ofBits .f32 0x7F800000#32) = 1#1 := this
    by_contra hn
    simp [Ideal.cmp, hn] at h1
  have hi : Ideal.ofBits .f32 0x7F800000#32 = ⊤ := by simp [Ideal.ofBits, Ideal.ieee]
  rw [hi, max_lt_iff] at hlt
  refine ⟨(x i : EReal).toReal, (EReal.coe_toReal hlt.1.ne fun hb => ?_).symm⟩
  rw [hb] at hlt
  exact absurd hlt.2 (by simp)

/-- The pattern of 1024. -/
theorem bits_1024 : Ideal.ofBits .f32 1149239296#32 = ((1024 : ℝ) : EReal) := by
  simp [Ideal.ofBits, Ideal.ieee, -EReal.coe_mul]; norm_num

/-- The pattern of minus one half. -/
theorem bits_neg_half : Ideal.ofBits .f32 3204448256#32 = ((-(1 / 2) : ℝ) : EReal) := by
  simp [Ideal.ofBits, Ideal.ieee, -EReal.coe_mul]; norm_num

/-- The pattern of the norm's addend: a positive real number. -/
theorem bits_eps : ∃ r : ℝ, 0 < r ∧ Ideal.ofBits .f32 897988541#32 = (r : EReal) := by
  refine ⟨(8796093 : ℝ) * ((2 : ℝ) ^ (43 : ℕ))⁻¹, by positivity, ?_⟩
  simp [Ideal.ofBits, Ideal.ieee, -EReal.coe_mul]

/-- The mean of squares plus the addend is a positive real number. -/
theorem mean_pos {n : ℕ} {f : Fin n → EReal} (hf : ∀ k, IsReal (f k)) : ∃ y : ℝ, 0 < y ∧
    Ideal.div (∑ k, f k * f k) (Ideal.ofBits .f32 1149239296#32) + Ideal.ofBits .f32 897988541#32 = (y : EReal) := by
  obtain ⟨s, h0, hs⟩ := sum_sq hf
  obtain ⟨e, he, hb⟩ := bits_eps
  refine ⟨s * (1 / 1024) + e, by positivity, ?_⟩
  rw [hs, bits_1024, hb, Ideal.div_coe (by norm_num), EReal.coe_add, EReal.coe_mul]

/-- The reciprocal square root of a positive real number. -/
theorem rsqrt_pos {y : ℝ} (hy : 0 < y) : Ideal.rsqrt (y : EReal) = (((Real.sqrt y)⁻¹ : ℝ) : EReal) := by
  rw [Ideal.rsqrt_coe, if_neg (by linarith), if_neg (by linarith)]

/-- The gradient through the norm, in the kernel's spelling and in the reference's: with `r = 1 / √y`,
    `r·p − x·r³·S/1024` is `p·r` plus twice `x · (S · (−½ · r / y)) / 1024`. -/
theorem norm_grad (d : EReal) {x p S y : EReal} (hx : IsReal x) (hp : IsReal p) (hS : IsReal S)
    (hy : ∃ r : ℝ, 0 < r ∧ y = (r : EReal)) :
    d + (Ideal.rsqrt y * p - x * (Ideal.rsqrt y * Ideal.rsqrt y * Ideal.rsqrt y)
        * Ideal.div S (Ideal.ofBits .f32 1149239296#32))
      = d + p * Ideal.rsqrt y
        + x * Ideal.div (S * (Ideal.ofBits .f32 3204448256#32 * Ideal.div (Ideal.rsqrt y) y)) (Ideal.ofBits .f32 1149239296#32)
        + Ideal.div (S * (Ideal.ofBits .f32 3204448256#32 * Ideal.div (Ideal.rsqrt y) y)) (Ideal.ofBits .f32 1149239296#32) * x := by
  obtain ⟨x, rfl⟩ := hx
  obtain ⟨p, rfl⟩ := hp
  obtain ⟨S, rfl⟩ := hS
  obtain ⟨y, hy, rfl⟩ := hy
  rw [rsqrt_pos hy, bits_1024, bits_neg_half, Ideal.div_coe hy.ne', Ideal.div_coe (by norm_num : (1024 : ℝ) ≠ 0),
    Ideal.div_coe (by norm_num : (1024 : ℝ) ≠ 0)]
  rw [add_assoc, add_assoc]
  congr 1
  norm_cast
  have h1 : Real.sqrt y * Real.sqrt y = y := Real.mul_self_sqrt hy.le
  have h2 : Real.sqrt y ≠ 0 := (Real.sqrt_pos.mpr hy).ne'
  generalize Real.sqrt y = q at h1 h2
  subst h1
  field_simp
  ring

/-- A host sum over the first two axes of three, at an index: the double sum. -/
theorem reduce_first_two {n0 n1 n2 : ℕ} (h : (⟨3, ![n0, n1, n2]⟩ : Shape).ReducesTo [0, 1] ⟨1, ![n2]⟩)
    (v : (⟨3, ![n0, n1, n2]⟩ : Shape).Idx → EReal) (init : EReal) (e : Fin n2) :
    Ideal.hostReduceAdd h v init (ix1 e) = init + ∑ a : Fin n0, ∑ l : Fin n1, v (ix3 a l e) := by
  have hd : ∀ i : (⟨3, ![n0, n1, n2]⟩ : Shape).Idx, (h.drop i 0 : ℕ) = i 2 := fun i => Shape.ReducesTo.drop_apply_val h i 0
  refine congrArg (init + ·) ?_
  rw [← Finset.sum_product']
  refine Finset.sum_nbij' (fun i => ((i 0 : Fin n0), (i 1 : Fin n1))) (fun p => ix3 p.1 p.2 e) (fun i _ => by simp) (fun p _ => ?_) (fun i hi => ?_)
    (fun p _ => rfl) (fun i hi => ?_)
  · rw [Finset.mem_filter]
    refine ⟨Finset.mem_univ _, funext fun k => Fin.ext ?_⟩
    obtain rfl : k = 0 := Subsingleton.elim _ _
    exact hd _
  all_goals
    have h2 : (i 2 : ℕ) = e := by
      rw [← hd i, (Finset.mem_filter.mp hi).2]; rfl
  · funext k
    fin_cases k
    · rfl
    · rfl
    · exact Fin.ext h2.symm
  · refine congrArg v (funext fun k => ?_)
    fin_cases k
    · rfl
    · rfl
    · exact Fin.ext h2

end Cert.Reals
-- ==== Proof.InputValue.lean ====
/-
  The gradient of the up-projection's input and of the norm's gain.
-/
module

public import proofs.«01_k».proof.Defs
public import proofs.«01_k».proof.Proof.Gen.KernelIdeal.Frame
public import proofs.«01_k».proof.Proof.Gen.ReferenceIdeal
public import Idealize.ShloMosaic.Lib.Pipeline.ValueKit
public import proofs.«01_k».proof.Proof.Reals
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Reals

variable (m : (ℓ : Loc nD τ sig) → Buf (Elt Ideal) ℓ)

/-- The reference's gradient of the normalised input: `du · wᵀ`. -/
def DH (W : FVec Ideal Cert.ReferenceIdeal.S1024x5632 .f32) (U : FVec Ideal Cert.ReferenceIdeal.S4x2048x5632 .f32) : FVec Ideal Cert.ReferenceIdeal.S4x2048x1024 .f32 :=
  Host.dotGeneral Cert.ReferenceIdeal.dot_S4x2048x5632_S1024x5632_S4x2048x1024_2_1_01_0_n_n none U W

/-- The reference's mean of squares plus the addend, a row at a time. -/
def MS (X : FVec Ideal Cert.ReferenceIdeal.S4x2048x1024 .f32) : FVec Ideal Cert.ReferenceIdeal.S4x2048x1 .f32 :=
  addf (Host.divf (broadcastInDim Cert.ReferenceIdeal.S4x2048x1 ![0, 1] Cert.ReferenceIdeal.Gen.bcast_S4x2048_S4x2048x1_0_1
      (Host.reduceAdd (mulf X X) (constant Cert.ReferenceIdeal.S_ FTy.f32 0#32) Cert.ReferenceIdeal.Gen.reducesTo_S4x2048x1024_S4x2048_d2 Cert.ReferenceIdeal.Gen.h_S_))
    (broadcastInDim Cert.ReferenceIdeal.S4x2048x1 ![] Cert.ReferenceIdeal.Gen.bcast_S_S4x2048x1 (constant Cert.ReferenceIdeal.S_ FTy.f32 1149239296#32)))
    (broadcastInDim Cert.ReferenceIdeal.S4x2048x1 ![] Cert.ReferenceIdeal.Gen.bcast_S_S4x2048x1 (constant Cert.ReferenceIdeal.S_ FTy.f32 897988541#32))

/-- The reference's gradient times the gain. -/
def GH (g : FVec Ideal Cert.ReferenceIdeal.S1024 .f32) (W : FVec Ideal Cert.ReferenceIdeal.S1024x5632 .f32) (U : FVec Ideal Cert.ReferenceIdeal.S4x2048x5632 .f32) :
    FVec Ideal Cert.ReferenceIdeal.S4x2048x1024 .f32 :=
  mulf (DH W U) (broadcastInDim Cert.ReferenceIdeal.S4x2048x1024 ![0, 1, 2] Cert.ReferenceIdeal.Gen.bcast_S1x1x1024_S4x2048x1024_0_1_2
    (broadcastInDim Cert.ReferenceIdeal.S1x1x1024 ![2] Cert.ReferenceIdeal.Gen.bcast_S1024_S1x1x1024_2 g))

/-- The reference's gradient of the mean of squares, halved, a row at a time. -/
def QS (X : FVec Ideal Cert.ReferenceIdeal.S4x2048x1024 .f32) (g : FVec Ideal Cert.ReferenceIdeal.S1024 .f32) (W : FVec Ideal Cert.ReferenceIdeal.S1024x5632 .f32)
    (U : FVec Ideal Cert.ReferenceIdeal.S4x2048x5632 .f32) : FVec Ideal Cert.ReferenceIdeal.S4x2048x1024 .f32 :=
  broadcastInDim Cert.ReferenceIdeal.S4x2048x1024 ![0, 1] Cert.ReferenceIdeal.Gen.bcast_S4x2048_S4x2048x1024_0_1
    (Host.reduceAdd (Host.divf (mulf (fun i => shapeCast Cert.ReferenceIdeal.S4x2048x1
        (Host.reduceAdd (mulf X (GH g W U)) (constant Cert.ReferenceIdeal.S_ FTy.f32 0#32) Cert.ReferenceIdeal.Gen.reducesTo_S4x2048x1024_S4x2048_d2 Cert.ReferenceIdeal.Gen.h_S_)
        Cert.ReferenceIdeal.Gen.shapeCasts_S4x2048_S4x2048x1 i)
      (mulf (broadcastInDim Cert.ReferenceIdeal.S4x2048x1 ![] Cert.ReferenceIdeal.Gen.bcast_S_S4x2048x1 (constant Cert.ReferenceIdeal.S_ FTy.f32 3204448256#32))
        (Host.divf (Host.rsqrt (MS X)) (MS X))))
      (broadcastInDim Cert.ReferenceIdeal.S4x2048x1 ![] Cert.ReferenceIdeal.Gen.bcast_S_S4x2048x1 (constant Cert.ReferenceIdeal.S_ FTy.f32 1149239296#32)))
      (constant Cert.ReferenceIdeal.S_ FTy.f32 0#32) Cert.ReferenceIdeal.Gen.reducesTo_S4x2048x1_S4x2048_d2 Cert.ReferenceIdeal.Gen.h_S_)

/-- The reference's gradient of the input. -/
def REFX (X : FVec Ideal Cert.ReferenceIdeal.S4x2048x1024 .f32) (g : FVec Ideal Cert.ReferenceIdeal.S1024 .f32) (W : FVec Ideal Cert.ReferenceIdeal.S1024x5632 .f32)
    (U : FVec Ideal Cert.ReferenceIdeal.S4x2048x5632 .f32) (D : FVec Ideal Cert.ReferenceIdeal.S4x2048x1024 .f32) : FVec Ideal Cert.ReferenceIdeal.S4x2048x1024 .f32 :=
  addf (addf (addf D (mulf (GH g W U) (broadcastInDim Cert.ReferenceIdeal.S4x2048x1024 ![0, 1, 2]
      Cert.ReferenceIdeal.Gen.bcast_S4x2048x1_S4x2048x1024_0_1_2 (Host.rsqrt (MS X))))) (mulf X (QS X g W U))) (mulf (QS X g W U) X)

/-- The reference's gradient of the gain. -/
def REFG (X : FVec Ideal Cert.ReferenceIdeal.S4x2048x1024 .f32) (W : FVec Ideal Cert.ReferenceIdeal.S1024x5632 .f32)
    (U : FVec Ideal Cert.ReferenceIdeal.S4x2048x5632 .f32) : FVec Ideal Cert.ReferenceIdeal.S1024 .f32 :=
  Host.reduceAdd (fun i => shapeCast Cert.ReferenceIdeal.S1x1x1024 (Host.reduceAdd (mulf (mulf X (broadcastInDim Cert.ReferenceIdeal.S4x2048x1024 ![0, 1, 2]
      Cert.ReferenceIdeal.Gen.bcast_S4x2048x1_S4x2048x1024_0_1_2 (Host.rsqrt (MS X)))) (DH W U)) (constant Cert.ReferenceIdeal.S_ FTy.f32 0#32)
      Cert.ReferenceIdeal.Gen.reducesTo_S4x2048x1024_S1024_d0_1 Cert.ReferenceIdeal.Gen.h_S_) Cert.ReferenceIdeal.Gen.shapeCasts_S1024_S1x1x1024 i)
    (constant Cert.ReferenceIdeal.S_ FTy.f32 0#32) Cert.ReferenceIdeal.Gen.reducesTo_S1x1x1024_S1024_d0_1 Cert.ReferenceIdeal.Gen.h_S_

/-- The windows' block indices, at every point. -/
theorem idx_val : ∀ t : Fin cfg0.N, win0_0.index t = ![t.val % 4 / 2, t.val / 4, t.val % 2] ∧ win0_1.index t = ![0, t.val % 4]
    ∧ win0_2.index t = ![t.val / 4, 0] ∧ win0_3.index t = ![0, 0] ∧ win0_4.index t = ![t.val / 4, 0]
    ∧ win0_5.index t = ![t.val / 4, 0] ∧ win0_6.index t = ![0, 0] := (by decide +kernel : ∀ t : Fin grid0.N, _)

/-- The zero fill of the accumulator. -/
theorem zero_fill (j) : k0_pay1 (F := Ideal) j = 0 := by pointwise [k0_pay1]

/-- The zero fill of the gain's gradient. -/
theorem zero_row (j) : k0_pay4 (F := Ideal) j = 0 := by pointwise [k0_pay4]

/-- One accumulation: the block before, plus the product of the point's two input blocks. -/
theorem step_fill (acc a b j) : k0_pay2 (F := Ideal) acc a b j
    = acc j + ∑ k : Fin 1408, a (ix3 0 (j 0) k) * b (ix2 (j 1) k) := by pointwise [k0_pay2]

/-- The row's sum into the gain's gradient. -/
theorem row_fill (p acc j) : k0_pay3 (F := Ideal) p acc j = acc j + ∑ k : Fin 1024, p (ix2 k (j 1)) := by pointwise [k0_pay3]

/-- The reference's gradient of the normalised input, at an index. -/
theorem ref_h (W U) (a : Fin 4) (l : Fin 2048) (e : Fin 1024) : DH W U (ix3 a l e)
    = ∑ f : Fin 5632, U (ix3 a l f) * W (ix2 e f) := by
  pointwise [DH]

/-- The mean of squares plus the addend of one row. -/
abbrev ms (X : FVec Ideal Cert.ReferenceIdeal.S4x2048x1024 .f32) (a : Fin 4) (l : Fin 2048) : EReal :=
  Ideal.div (∑ k : Fin 1024, X (ix3 a l k) * X (ix3 a l k)) (Ideal.ofBits .f32 1149239296#32) + Ideal.ofBits .f32 897988541#32

/-- The reference's gradient of the input, at an index, for real arguments: in the kernel's spelling. -/
theorem ref_x (X g W U D) (hX : ∀ i, IsReal (X i)) (hg : ∀ i, IsReal (g i)) (hW : ∀ i, IsReal (W i)) (hU : ∀ i, IsReal (U i))
    (a : Fin 4) (l : Fin 2048) (e : Fin 1024) : REFX X g W U D (ix3 a l e)
    = D (ix3 a l e) + (Ideal.rsqrt (ms X a l) * (DH W U (ix3 a l e) * g (ix1 e))
      - X (ix3 a l e) * (Ideal.rsqrt (ms X a l) * Ideal.rsqrt (ms X a l) * Ideal.rsqrt (ms X a l))
        * Ideal.div (∑ k : Fin 1024, X (ix3 a l k) * (DH W U (ix3 a l k) * g (ix1 k))) (Ideal.ofBits .f32 1149239296#32)) := by
  have hD : ∀ e, IsReal (DH W U (ix3 a l e)) := fun e => by
    rw [ref_h]
    exact IsReal.sum fun k => (hU _).mul (hW _)
  rw [norm_grad _ (hX _) ((hD _).mul (hg _)) (IsReal.sum fun k => (hX _).mul ((hD _).mul (hg _))) (mean_pos fun k => hX _)]
  pointwise [REFX, QS, GH, MS]
  simp only [Finset.univ_unique, Finset.sum_singleton]

/-- The reference's gradient of the gain, at an index: the sum over batch and position. -/
theorem ref_g (X W U) (e : Fin 1024) : REFG X W U (ix1 e)
    = ∑ a : Fin 4, ∑ l : Fin 2048, DH W U (ix3 a l e) * X (ix3 a l e) * Ideal.rsqrt (ms X a l) := by
  pointwise [REFG]
  rw [reduce_first_two]
  simp only [Finset.univ_unique, Finset.sum_singleton, zero_add]
  refine (reduce_first_two _ _ _ _).trans ?_
  rw [zero_add]
  refine Finset.sum_congr rfl fun a _ => Finset.sum_congr rfl fun l _ => ?_
  pointwise [MS]
  ac_nf

/-- The batch entry of a point's rows. -/
def bi (t : Fin cfg0.N) : Fin 4 := ⟨t.val / 4 / 2, by have := lt_of_lt_of_eq t.isLt N_0; omega⟩

/-- The position of a row of a point's block. -/
def si (t : Fin cfg0.N) (a : Fin 1024) : Fin 2048 := ⟨t.val / 4 % 2 * 1024 + a.val, by omega⟩

variable (c : Dev nD)

/-- The kernel's arguments, at the reference's shapes. -/
abbrev X0 : FVec Ideal Cert.ReferenceIdeal.S4x2048x1024 .f32 := m ((c : Thread nD τ).loc main_arg0)
abbrev G0 : FVec Ideal Cert.ReferenceIdeal.S1024 .f32 := m ((c : Thread nD τ).loc main_arg1)
abbrev W0 : FVec Ideal Cert.ReferenceIdeal.S1024x5632 .f32 := m ((c : Thread nD τ).loc main_arg2)
abbrev U0 : FVec Ideal Cert.ReferenceIdeal.S4x2048x5632 .f32 := m ((c : Thread nD τ).loc main_arg3)
abbrev D0 : FVec Ideal Cert.ReferenceIdeal.S4x2048x1024 .f32 := m ((c : Thread nD τ).loc main_arg4)

/-- A point's block of the input, read. -/
theorem x_read (t : Fin cfg0.N) (a e : Fin 1024) : iblk m c 2 t (ix2 a e) = X0 m c (ix3 (bi t) (si t a) e) := by
  show V m c main_v4 (((cfg0.win 2).blk t).view.emb (ix2 a e)) = _
  entry_read
  simp only [List.flatten_cons, List.flatten_nil, List.append_nil]
  entry_read
  pointwise
  blk_ext [idx_val t, bi, si]

/-- A point's block of the gain, read. -/
theorem g_read (t : Fin cfg0.N) (e : Fin 1024) : iblk m c 3 t (ix2 0 e) = G0 m c (ix1 e) := by
  show V m c main_v6 (((cfg0.win 3).blk t).view.emb (ix2 0 e)) = _
  entry_read
  simp only [List.flatten_cons, List.flatten_nil, List.append_nil]
  entry_read
  pointwise
  blk_ext [idx_val t]

/-- A point's block of the residual's gradient, read. -/
theorem d_read (t : Fin cfg0.N) (a e : Fin 1024) : iblk m c 4 t (ix2 a e) = D0 m c (ix3 (bi t) (si t a) e) := by
  show V m c main_v5 (((cfg0.win 4).blk t).view.emb (ix2 a e)) = _
  entry_read
  simp only [List.flatten_cons, List.flatten_nil, List.append_nil]
  entry_read
  pointwise
  blk_ext [idx_val t, bi, si]

/-- The column of a point's slab. -/
def fi (t : Fin cfg0.N) (k : Fin 1408) : Fin 5632 := ⟨t.val % 4 * 1408 + k.val, by omega⟩

/-- A point's block of the gate and up gradients, read. -/
theorem u_read (t : Fin cfg0.N) (a : Fin 1024) (k : Fin 1408) : iblk m c 0 t (ix3 0 a k) = U0 m c (ix3 (bi t) (si t a) (fi t k)) := by
  show V m c main_v2 (((cfg0.win 0).blk t).view.emb (ix3 0 a k)) = _
  entry_read
  simp only [List.flatten_cons, List.flatten_nil, List.append_nil]
  entry_read
  pointwise
  blk_ext [idx_val t, bi, si, fi]

/-- A point's block of the weight, read. -/
theorem w_read (t : Fin cfg0.N) (e : Fin 1024) (k : Fin 1408) : iblk m c 1 t (ix2 e k) = W0 m c (ix2 e (fi t k)) := by
  show V m c main_v3 (((cfg0.win 1).blk t).view.emb (ix2 e k)) = _
  entry_read
  simp only [List.flatten_cons, List.flatten_nil, List.append_nil]
  entry_read
  pointwise
  blk_ext [idx_val t, fi]

/-- At the last point of a row tile the accumulator holds `du · wᵀ` of the tile's rows. -/
theorem acc_eq (t : Fin cfg0.N) (h3 : t.val % 4 = 3) (a e : Fin 1024) :
    (outsAt0 m c t.val t.isLt).2.2 (ix2 a e) = DH (W0 m c) (U0 m c) (ix3 (bi t) (si t a) e) := by
  rw [Pipeline.eq_sum_fin_of_reset_step_apply_of_flush (fun n h => (outsAt0 m c n h).2.2) 4 (fun _ => 0) _
    (fun t h j => by rw [outsAt0_A m c t h (by omega)]; frame_out; rw [step_fill, zero_fill])
    (fun t h j => by
      by_cases h1 : t.val % 4 = 3
      · by_cases h2 : t.val < 4
        · rw [outsAt0_C m c t h h1 h2]; frame_out; rw [step_fill]
          exact congrArg (· + _) (congrFun ((Memref.isWhole_whole cc0_scratch0).read_unread _) j)
        · rw [outsAt0_D m c t h h1 h2]; frame_out; rw [step_fill]
          exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h3 _, zero_add, ref_h]
  refine Fin.sum_mul_add_congr fun s k hl => ?_
  refine congrArg₂ (· * ·) ((u_read m c _ a k).trans ?_) ((w_read m c _ e k).trans ?_)
  · blk_ext [bi, si, fi]
  · blk_ext [fi]

/-- What the last point of a row tile leaves as the input's gradient. -/
theorem out_eq (t : Fin cfg0.N) (h3 : t.val % 4 = 3) : (outsAt0 m c t.val t.isLt).1 =
   k0_pay8 (outsAt0 m c t.val t.isLt).2.2 (iblk m c 2 t) (iblk m c 3 t) (iblk m c 4 t) := by
  by_cases h2 : t.val < 4
  · rw [outsAt0_C m c t (by omega) h3 h2]; frame_out
  · rw [outsAt0_D m c t (by omega) h3 h2]; frame_out

/-- The first row tile's last point starts the gain's gradient. -/
theorem row_first (t : Fin cfg0.N) (h3 : t.val % 4 = 3) (h2 : t.val < 4) : (outsAt0 m c t.val t.isLt).2.1 =
   k0_pay3 (k0_pay7 (outsAt0 m c t.val t.isLt).2.2 (iblk m c 2 t)) (k0_pay4 (F := Ideal)) := by
  rw [outsAt0_C m c t (by omega) h3 h2]; frame_out

/-- A later row tile's last point adds to it. -/
theorem row_next (t : Fin cfg0.N) (h3 : t.val % 4 = 3) (h2 : ¬ t.val < 4) : (outsAt0 m c t.val t.isLt).2.1 =
   k0_pay3 (k0_pay7 (outsAt0 m c t.val t.isLt).2.2 (iblk m c 2 t)) (outsAt0 m c (t.val - 1) (by omega)).2.1 := by
  rw [outsAt0_D m c t (by omega) h3 h2]; frame_out

/-- The other points leave it. -/
theorem row_carry (n : ℕ) (h : n + 1 < cfg0.N) (h3 : ¬ (n + 1) % 4 = 3) : (outsAt0 m c (n + 1) h).2.1 =
   (outsAt0 m c n (by omega)).2.1 := by
  by_cases h0 : (n + 1) % 4 = 0
  · rw [outsAt0_A m c ⟨n + 1, h⟩ h0 h3]; rfl
  · rw [outsAt0_B m c ⟨n + 1, h⟩ h0 h3]; rfl

/-- A row tile's part of the gain's gradient. -/
theorem row_part (t : Fin cfg0.N) (h3 : t.val % 4 = 3) (acc) (e : Fin 1024) :
    k0_pay3 (k0_pay7 (outsAt0 m c t.val t.isLt).2.2 (iblk m c 2 t)) acc (ix2 0 e)
      = acc (ix2 0 e) + ∑ k : Fin 1024, DH (W0 m c) (U0 m c) (ix3 (bi t) (si t k) e) * X0 m c (ix3 (bi t) (si t k) e)
          * Ideal.rsqrt (ms (X0 m c) (bi t) (si t k)) := by
  rw [row_fill]
  refine congrArg (acc (ix2 0 e) + ·) (Finset.sum_congr rfl fun k _ => ?_)
  pointwise [k0_pay7, k0_pay6, k0_pay5]
  simp only [x_read, acc_eq m c t h3]

/-- At the last point the gain's gradient is the reference's. -/
theorem row_total (t : Fin cfg0.N) (ht : t.val % 32 = 31) (e : Fin 1024) :
    (outsAt0 m c t.val t.isLt).2.1 (ix2 0 e) = REFG (X0 m c) (W0 m c) (U0 m c) (ix1 e) := by
  have hN : ∀ n : ℕ, n < 8 → 4 * n + 3 < cfg0.N := fun n h => lt_of_lt_of_eq (by omega) N_0.symm
  have key := Pipeline.eq_sum_fin_of_reset_step_apply_last (N := 8)
    (fun n h (e : Fin 1024) => (outsAt0 m c (4 * n + 3) (hN n h)).2.1 (ix2 0 e)) 8 (fun _ => 0) (fun p e => ∑ k : Fin 1024,
      DH (W0 m c) (U0 m c) (ix3 (bi ⟨_, hN p.val p.isLt⟩) (si ⟨_, hN p.val p.isLt⟩ k) e)
        * X0 m c (ix3 (bi ⟨_, hN p.val p.isLt⟩) (si ⟨_, hN p.val p.isLt⟩ k) e)
          * Ideal.rsqrt (ms (X0 m c) (bi ⟨_, hN p.val p.isLt⟩) (si ⟨_, hN p.val p.isLt⟩ k)))
    (fun p h e => by
      have h3 : (4 * p.val + 3) % 4 = 3 := by omega
      rw [row_first m c ⟨_, hN p.val p.isLt⟩ h3 (by show 4 * p.val + 3 < 4; omega), row_part m c ⟨_, hN p.val p.isLt⟩ h3, zero_row])
    (fun p h e => by
      have h3 : (4 * p.val + 3) % 4 = 3 := by omega
      rw [row_next m c ⟨_, hN p.val p.isLt⟩ h3 (by show ¬ 4 * p.val + 3 < 4; omega), row_part m c ⟨_, hN p.val p.isLt⟩ h3]
      obtain ⟨n, hn⟩ : ∃ n, p.val = n + 1 := ⟨p.val - 1, by omega⟩
      have hq : ∀ q (hq : q < cfg0.N) (_ : q = 4 * n + 6), (outsAt0 m c q hq).2.1 = (outsAt0 m c (4 * n + 3) (by omega)).2.1 := by
        rintro q hq rfl
        rw [row_carry m c _ _ (by omega), row_carry m c _ _ (by omega), row_carry m c _ _ (by omega)]
      rw [hq _ _ (by show 4 * p.val + 3 - 1 = _; omega)]
      simp only [hn, Nat.add_sub_cancel])
    (le_refl _) ⟨7, by omega⟩ rfl e
  have h31 : t.val = 31 := by have := lt_of_lt_of_eq t.isLt N_0; omega
  have hq : ∀ q (hq : q < cfg0.N) (_ : q = 31), (outsAt0 m c q hq).2.1 = (outsAt0 m c (4 * 7 + 3) (hN 7 (by omega))).2.1 := by
    rintro q hq rfl; rfl
  rw [hq _ _ h31, key, zero_add, ref_g]
  refine Fin.sum_points_lanes_congr 2 fun p k ha hl => ?_
  have hb : bi ⟨_, hN p.val p.isLt⟩ = ⟨p.val / 2, ha⟩ := Fin.ext (by simp only [bi]; omega)
  have hs : si ⟨_, hN p.val p.isLt⟩ k = ⟨p.val % 2 * 1024 + k.val, hl⟩ := Fin.ext (by simp only [si]; omega)
  rw [hb, hs]

/-- The rows of an array over batch and position. -/
def rows (A : FVec Ideal S4x2048x1024 .f32) : FVec Ideal S8192x1024 .f32 :=
  shapeCast S8192x1024 A Gen.shapeCasts_S4x2048x1024_S8192x1024

/-- A row tile's block of the input's gradient is the reference's, for real arguments. -/
theorem point_x (hX : ∀ i, IsReal (X0 m c i)) (hg : ∀ i, IsReal (G0 m c i)) (hW : ∀ i, IsReal (W0 m c i))
    (hU : ∀ i, IsReal (U0 m c i)) (t : Fin cfg0.N) (h3 : t.val % 4 = 3) (a e : Fin 1024) :
    k0_pay8 (outsAt0 m c t.val t.isLt).2.2 (iblk m c 2 t) (iblk m c 3 t) (iblk m c 4 t) (ix2 a e)
      = REFX (X0 m c) (G0 m c) (W0 m c) (U0 m c) (D0 m c) (ix3 (bi t) (si t a) e) := by
  rw [ref_x _ _ _ _ _ hX hg hW hU]
  pointwise [k0_pay8, k0_pay5, k0_pay6]
  simp only [x_read, g_read, d_read, acc_eq m c t h3]

/-- The array of the input's gradient, after the run, for real arguments. -/
theorem final_x (hX : ∀ i, IsReal (X0 m c i)) (hg : ∀ i, IsReal (G0 m c i)) (hW : ∀ i, IsReal (W0 m c i))
    (hU : ∀ i, IsReal (U0 m c i)) :
    (dats m 0 c).arrAt 5 (cfgs 0).N = rows (REFX (X0 m c) (G0 m c) (W0 m c) (U0 m c) (D0 m c)) := by
  refine (dats m 0 c).arrAt_eq_of_covers 5 _ (by decide +kernel) fun t hf y => ?_
  have h3 : t.val % 4 = 3 := (flush0_5 t).mp hf
  blk_simp
  rw [after0_5, out_eq m c t h3]
  have hi : ∀ A : FVec Ideal S4x2048x1024 .f32, rows A (((cfg0.win 5).blk t).view.emb y) = A (ix3 (bi t) (si t (y 0)) (y 1)) := by
    intro A
    pointwise [rows]
    blk_ext [idx_val t, bi, si]
  have hy : (y : S1024x1024.Idx) = ix2 (y 0) (y 1) := by
    funext k
    fin_cases k <;> rfl
  refine Eq.trans ?_ (hi _).symm
  exact (congrArg _ hy).trans (point_x m c hX hg hW hU t h3 (y 0) (y 1))

/-- The array of the gain's gradient, after the run. -/
theorem final_g : (dats m 0 c).arrAt 6 (cfgs 0).N
    = shapeCast S1x1024 (REFG (X0 m c) (W0 m c) (U0 m c)) Gen.shapeCasts_S1024_S1x1024 := by
  refine (dats m 0 c).arrAt_eq_of_covers 6 _ (by decide +kernel) fun t hf y => ?_
  blk_simp
  rw [after0_6]
  have hy : (y : S1x1024.Idx) = ix2 0 (y 1) := by
    funext k
    fin_cases k
    · exact Subsingleton.elim (α := Fin 1) _ _
    · rfl
  refine (congrArg _ hy).trans ((row_total m c t ((flush0_6 t).mp hf) (y 1)).trans ?_)
  pointwise
  blk_ext [idx_val t]

/-- Reshaping to rows and back is the array. -/
theorem rows_back (A : FVec Ideal S4x2048x1024 .f32) :
    shapeCast S4x2048x1024 (rows A) Gen.shapeCasts_S8192x1024_S4x2048x1024 = A := by
  funext i
  pointwise [rows]
  blk_ext

/-- Reshaping to one row and back is the vector. -/
theorem row_back (A : FVec Ideal S1024 .f32) :
    shapeCast S1024 (shapeCast S1x1024 A Gen.shapeCasts_S1024_S1x1024) Gen.shapeCasts_S1x1024_S1024 = A := by
  funext i
  pointwise
  blk_ext

/-- The precondition's four arrays hold real numbers. -/
theorem reals (h : Cert.Pre_KernelIdeal_finite m) : (∀ i, IsReal (X0 m c i)) ∧ (∀ i, IsReal (G0 m c i))
    ∧ (∀ i, IsReal (W0 m c i)) ∧ (∀ i, IsReal (U0 m c i)) := by
  have e := congrFun (h c) (fun k => k.elim0)
  obtain ⟨e, e4⟩ := IntOp.andi_eq_one.mp e
  obtain ⟨e, e3⟩ := IntOp.andi_eq_one.mp e
  obtain ⟨e1, e2⟩ := IntOp.andi_eq_one.mp e
  have ht : ∀ j j' : Cert.Pre_finite.S_.Idx, j = j' := fun j j' => funext fun k => k.elim0
  exact ⟨real_of_all ht _ _ _ _ _ _ e1, real_of_all ht _ _ _ _ _ _ e2, real_of_all ht _ _ _ _ _ _ e3,
    real_of_all ht _ _ _ _ _ _ e4⟩

/-- The kernel's two results and the reference's, read as real numbers, are equal. -/
theorem algebraic [hK : Cert.KernelIdeal.Facts] : Cert.algebraic_KernelIdeal_ReferenceIdeal_pre_finite := by
  pair_intro
  · run_from Cert.KernelIdeal.Gen.run_main m g
    · exact W_main_arg0 m (dats m) c
    · exact W_main_arg1 m (dats m) c
    · exact W_main_arg2 m (dats m) c
    · exact W_main_arg3 m (dats m) c
    · exact W_main_arg4 m (dats m) c
  · hlo_run
    · refine Eq.trans (b := REFX (m ((c : Thread nD τ).loc main_arg0)) (m ((c : Thread nD τ).loc main_arg1))
        (m ((c : Thread nD τ).loc main_arg2)) (m ((c : Thread nD τ).loc main_arg3)) (m ((c : Thread nD τ).loc main_arg4))) rfl ?_
      unfold Pipeline.afterTail₀
      simp only [List.flatten_cons, List.flatten_nil, List.append_nil]
      entry_read
      rw [Pipeline.withArrays_arr spec0 (by decide +kernel) c (V0 m c) (fun w => (dats m 0 c).arrAt w (cfgs 0).N) 5]
      obtain ⟨hX, hg, hW, hU⟩ := reals m c hpre
      rw [final_x m c hX hg hW hU]
      exact (rows_back _).symm
    · refine Eq.trans (b := REFG (m ((c : Thread nD τ).loc main_arg0))
        (m ((c : Thread nD τ).loc main_arg2)) (m ((c : Thread nD τ).loc main_arg3))) rfl ?_
      unfold Pipeline.afterTail₀
      simp only [List.flatten_cons, List.flatten_nil, List.append_nil]
      entry_read
      rw [Pipeline.withArrays_arr spec0 (by decide +kernel) c (V0 m c) (fun w => (dats m 0 c).arrAt w (cfgs 0).N) 6, final_g]
      exact (row_back _).symm

end Cert.KernelIdeal.Value
-- ==== Proof.WeightValue.lean ====
/-
  The gradient of the up-projection's weight: what the weight kernel's result array ends holding is the reference's
  `xᵀ · du`. The kernel adds eight products of 1024 rows each into a scratch block and writes the block back at the
  eighth; over the extended reals the eight partial sums are the one sum over the 8192 rows.
-/
module

public import proofs.«01_k».proof.Defs
public import proofs.«01_k».proof.Proof.Gen.Kernel2Ideal.Frame
public import proofs.«01_k».proof.Proof.Gen.Reference2Ideal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen

variable (m : (ℓ : Loc nD τ sig) → Buf (Elt Ideal) ℓ)

/-- The zero fill of the accumulator. -/
theorem zero_fill (j) : k0_pay1 (F := Ideal) j = 0 := by pointwise [k0_pay1]

/-- One accumulation: the block before, plus the product of the point's two input blocks. -/
theorem step_fill (acc a b j) : k0_pay2 (F := Ideal) acc a b j
    = acc j + ∑ k : Fin 1024, a (ix2 k (j 0)) * b (ix3 0 k (j 1)) := by pointwise [k0_pay2]

/-- The windows' block indices, at every point. -/
theorem idx_val : ∀ t : Fin cfg0.N, win0_0.index t = ![t.val % 8, 0] ∧ win0_1.index t = ![t.val / 16, t.val % 8, t.val / 8 % 2]
    ∧ win0_2.index t = ![0, t.val / 8] := (by decide +kernel : ∀ t : Fin grid0.N, _)

/-- The reference's normalised input, times the gain: `x · rsqrt(mean x² + ε) · g`. -/
def normed (X : FVec Ideal Cert.Reference2Ideal.S4x2048x1024 .f32) (g : FVec Ideal Cert.Reference2Ideal.S1024 .f32) : FVec Ideal Cert.Reference2Ideal.S4x2048x1024 .f32 :=
  mulf (mulf X (broadcastInDim Cert.Reference2Ideal.S4x2048x1024 ![0, 1, 2] Cert.Reference2Ideal.Gen.bcast_S4x2048x1_S4x2048x1024_0_1_2
      (Host.rsqrt (addf (Host.divf (broadcastInDim Cert.Reference2Ideal.S4x2048x1 ![0, 1] Cert.Reference2Ideal.Gen.bcast_S4x2048_S4x2048x1_0_1
          (Host.reduceAdd (mulf X X) (constant Cert.Reference2Ideal.S_ FTy.f32 0#32) Cert.Reference2Ideal.Gen.reducesTo_S4x2048x1024_S4x2048_d2 Cert.Reference2Ideal.Gen.h_S_))
        (broadcastInDim Cert.Reference2Ideal.S4x2048x1 ![] Cert.Reference2Ideal.Gen.bcast_S_S4x2048x1 (constant Cert.Reference2Ideal.S_ FTy.f32 1149239296#32)))
        (broadcastInDim Cert.Reference2Ideal.S4x2048x1 ![] Cert.Reference2Ideal.Gen.bcast_S_S4x2048x1 (constant Cert.Reference2Ideal.S_ FTy.f32 897988541#32))))))
    (broadcastInDim Cert.Reference2Ideal.S4x2048x1024 ![0, 1, 2] Cert.Reference2Ideal.Gen.bcast_S1x1x1024_S4x2048x1024_0_1_2
      (broadcastInDim Cert.Reference2Ideal.S1x1x1024 ![2] Cert.Reference2Ideal.Gen.bcast_S1024_S1x1x1024_2 g))

/-- The reference's gradient of the weight: the product with `du` summed over batch and position, transposed. -/
def REF (X : FVec Ideal Cert.Reference2Ideal.S4x2048x1024 .f32) (g : FVec Ideal Cert.Reference2Ideal.S1024 .f32) (U : FVec Ideal Cert.Reference2Ideal.S4x2048x5632 .f32) :
    FVec Ideal Cert.Reference2Ideal.S1024x5632 .f32 :=
  transpose Cert.Reference2Ideal.S1024x5632 [1, 0] (Host.dotGeneral Cert.Reference2Ideal.dot_S4x2048x5632_S4x2048x1024_S5632x1024_01_01_2_2_n_n none
    U (normed X g)) Cert.Reference2Ideal.Gen.transposes_S5632x1024_S1024x5632_1_0

/-- The reference's gradient at an index, as a sum over batch and position. -/
theorem ref_sum (X g U j) : REF X g U j
    = ∑ a : Fin 4, ∑ l : Fin 2048, U (ix3 a l (j 1)) * normed X g (ix3 a l (j 0)) := by pointwise [REF]

/-- The weight kernel's result array ends holding the reference's gradient. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  have h7 : t.val % 8 = 7 := (flush0_2 t).mp hf
  have hout : (outsAt0 m c t.val t.isLt).1 = (outsAt0 m c t.val t.isLt).2 := by
    rw [outsAt0_C m c t (by omega) h7]
    frame_out
  rw [hout, Pipeline.eq_sum_fin_of_reset_step_apply_of_flush (fun n h => (outsAt0 m c n h).2) 8 (fun _ => 0) _
    (fun t h j => by rw [outsAt0_A m c t h (by omega)]; frame_out; rw [step_fill, zero_fill])
    (fun t h j => by
      by_cases h1 : t.val % 8 = 7
      · rw [outsAt0_C m c t h h1]; frame_out; rw [step_fill]
        exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h7 _, zero_add, ref_sum]
  refine Fin.sum_points_lanes_congr 2 fun s k ha hl => ?_
  rw [mul_comm]
  blk_point [iblk, V, normed, idx_val t, idx_val ⟨_, Pipeline.run_point_lt_of_flush t h7 s⟩]
  entry_read
  pointwise
  blk_point [iblk, V, normed, idx_val t, idx_val ⟨_, Pipeline.run_point_lt_of_flush t h7 s⟩]

/-- The weight kernel's result array and the reference's, read as real numbers, are equal. -/
theorem algebraic [hK : Cert.Kernel2Ideal.Facts] : Cert.algebraic_Kernel2Ideal_Reference2Ideal := by
  pair_intro
  · run_from Cert.Kernel2Ideal.Gen.run_main m g
  · hlo_run
    exact (final m c).symm

end Cert.Kernel2Ideal.Value
-- ==== Proof.UpValue.lean ====
/-
  The up-projection of the normed stream: every grid point norms its 512 rows and multiplies them by the whole weight, in
  four stores of 1408 columns each, and keeps the normed rows.
-/
module

public import proofs.«01_k».proof.Defs
public import proofs.«01_k».proof.Proof.Gen.Kernel9Ideal.Frame
public import proofs.«01_k».proof.Proof.Gen.Reference9Ideal
public import proofs.«01_k».proof.Proof.WeightValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Value
open Cert.Kernel9Ideal Cert.Kernel9Ideal.Gen
open Cert.Kernel2Ideal.Value (normed)

variable (m : (ℓ : Loc nD τ sig) → Buf (Elt Ideal) ℓ)

/-- The windows' block indices, at every point. -/
theorem idx_val : ∀ t : Fin cfg0.N, win0_0.index t = ![t.val, 0] ∧ win0_1.index t = ![0, 0] ∧ win0_2.index t = ![0, 0]
    ∧ win0_3.index t = ![0, t.val, 0] ∧ win0_4.index t = ![t.val, 0] := (by decide +kernel : ∀ t : Fin grid0.N, _)

/-- The reference's product, before its cast. -/
def REF (X : FVec Ideal Cert.Reference9Ideal.S4x2048x1024 .f32) (g : FVec Ideal Cert.Reference9Ideal.S1024 .f32)
    (w : FVec Ideal Cert.Reference9Ideal.S1024x5632 .f32) : FVec Ideal Cert.Reference9Ideal.S4x2048x5632 .f32 :=
  Host.dotGeneral Cert.Reference9Ideal.dot_S4x2048x1024_S1024x5632_S4x2048x5632_2_0_01_1_n_n none (normed X g) w

/-- The place of a row in batch and position. -/
def X3 (X : FVec Ideal Cert.Reference9Ideal.S4x2048x1024 .f32) (r : Fin 8192) (k : Fin 1024) : EReal :=
  X (ix3 ⟨r.val / 2048, by omega⟩ ⟨r.val % 2048, by omega⟩ k)

/-- The normed rows, batch and position folded into one row index. -/
def ROWS (X : FVec Ideal Cert.Reference9Ideal.S4x2048x1024 .f32) (g : FVec Ideal Cert.Reference9Ideal.S1024 .f32) : FVec Ideal S8192x1024 .bf16 :=
  fun j => X3 (normed X g) (j 0) (j 1)

/-- The product in the layout the kernel keeps it in: the two halves of the columns one after the other. -/
def HALVES (X : FVec Ideal Cert.Reference9Ideal.S4x2048x1024 .f32) (g : FVec Ideal Cert.Reference9Ideal.S1024 .f32)
    (w : FVec Ideal Cert.Reference9Ideal.S1024x5632 .f32) : FVec Ideal S2x8192x2816 .bf16 :=
  fun j => ∑ k : Fin 1024, X3 (normed X g) (j 1) k
    * w (ix2 k ⟨(j 0).val * 2816 + (j 2).val, by have h0 : (j 0).val < 2 := (j 0).isLt; have h2 : (j 2).val < 2816 := (j 2).isLt; omega⟩)

/-- The kernel's norm of a block of rows. -/
theorem norm_val (a g j) : k0_pay3 (F := Ideal) a g j = a j * Ideal.rsqrt (Ideal.div (∑ k : Fin 1024, a (ix2 (j 0) k) * a (ix2 (j 0) k))
    (Ideal.ofBits .f32 1149239296#32) + Ideal.ofBits .f32 897988541#32) * g (ix2 0 (j 1)) := by pointwise [k0_pay3]

/-- The reference's norm of a row. -/
theorem normed_val (X g) (r : Fin 8192) (k : Fin 1024) : X3 (normed X g) r k = X3 X r k * Ideal.rsqrt (Ideal.div (∑ k : Fin 1024, X3 X r k * X3 X r k)
    (Ideal.ofBits .f32 1149239296#32) + Ideal.ofBits .f32 897988541#32) * g (ix1 k) := by
  unfold X3
  pointwise [normed]

/-- A point's rows are those of the stream. -/
theorem read_x (c : Dev nD) (t : Fin cfg0.N) (r : Fin 512) (k : Fin 1024) : iblk m c 0 t (ix2 r k)
    = X3 (m ((c : Thread nD τ).loc main_arg0)) ⟨t.val * 512 + r.val, by have : t.val < 16 := t.isLt; omega⟩ k := by
  show V m c main_v0 (((cfg0.win 0).blk t).view.emb (ix2 r k)) = _
  entry_read
  simp only [List.flatten_cons, List.flatten_nil, List.append_nil]
  entry_read
  unfold X3
  pointwise
  blk_ext [idx_val t]

/-- The gain at a point. -/
theorem read_g (c : Dev nD) (t : Fin cfg0.N) (k : Fin 1024) : iblk m c 1 t (ix2 0 k) = m ((c : Thread nD τ).loc main_arg1) (ix1 k) := by
  show V m c main_v2 (((cfg0.win 1).blk t).view.emb (ix2 0 k)) = _
  entry_read
  simp only [List.flatten_cons, List.flatten_nil, List.append_nil]
  entry_read
  pointwise
  blk_ext [idx_val t]

/-- The weight at a point. -/
theorem read_w (c : Dev nD) (t : Fin cfg0.N) (k : Fin 1024) (n : Fin 5632) : iblk m c 2 t (ix2 k n) = m ((c : Thread nD τ).loc main_arg2) (ix2 k n) := by
  show V m c main_v1 (((cfg0.win 2).blk t).view.emb (ix2 k n)) = _
  entry_read
  simp only [List.flatten_cons, List.flatten_nil, List.append_nil]
  entry_read
  pointwise
  blk_ext [idx_val t]

/-- A point's normed rows are the reference's. -/
theorem rows_val (c : Dev nD) (t : Fin cfg0.N) (r : Fin 512) (k : Fin 1024) : k0_pay3 (iblk m c 0 t) (iblk m c 1 t) (ix2 r k)
    = X3 (normed (m ((c : Thread nD τ).loc main_arg0)) (m ((c : Thread nD τ).loc main_arg1))) ⟨t.val * 512 + r.val, by have : t.val < 16 := t.isLt; omega⟩ k := by
  rw [norm_val, normed_val]
  exact congrArg₂ (· * ·) (congrArg₂ (· * ·) (read_x m c t r k) (congrArg (fun s => Ideal.rsqrt (Ideal.div s _ + _))
    (Finset.sum_congr rfl fun k _ => congrArg₂ (· * ·) (read_x m c t r k) (read_x m c t r k)))) (read_g m c t k)

/-- The first store's values. -/
theorem pay4_val (a g b j) : k0_pay4 (F := Ideal) a g b j = ∑ k : Fin 1024, k0_pay3 (F := Ideal) a g (ix2 (j 1) k) * b (ix2 k (j 2)) := by pointwise [k0_pay4]

/-- The second store's values. -/
theorem pay5_val (a g b j) : k0_pay5 (F := Ideal) a g b j = ∑ k : Fin 1024, k0_pay3 (F := Ideal) a g (ix2 (j 1) k) * b (ix2 k (j 2)) := by pointwise [k0_pay5]

/-- The third store's values. -/
theorem pay1_val (a b j) : k0_pay1 (F := Ideal) a b j = ∑ k : Fin 1024, a (ix2 (j 1) k) * b (ix2 k (j 2)) := by pointwise [k0_pay1]

/-- The fourth store's values. -/
theorem pay2_val (a b j) : k0_pay2 (F := Ideal) a b j = ∑ k : Fin 1024, a (ix2 (j 1) k) * b (ix2 k (j 2)) := by pointwise [k0_pay2]

/-- The norm reads its two blocks whole. -/
theorem ld_whole (x0 x1) : k0_pay3 (F := Ideal) (View.ld x0 r0_0) (View.ld x1 r0_1) = k0_pay3 x0 x1 := by
  funext j
  rw [norm_val, norm_val]
  pointwise

/-- Where the first result's block lies. -/
theorem emb_u (t : Fin cfg0.N) (y : S2x512x2816.Idx) : ((cfg0.win 3).blk t).view.emb y
    = ix3 (y 0) ⟨t.val * 512 + (y 1).val, by have : t.val < 16 := t.isLt; have h1 : (y 1).val < 512 := (y 1).isLt; omega⟩ (y 2) := by
  blk_ext [idx_val t]

/-- Where the second result's block lies. -/
theorem emb_h (t : Fin cfg0.N) (r : Fin 512) (k : Fin 1024) : ((cfg0.win 4).blk t).view.emb (ix2 r k)
    = ix2 ⟨t.val * 512 + r.val, by have : t.val < 16 := t.isLt; omega⟩ k := by
  blk_ext [idx_val t]

/-- What a point leaves in its block of the product is the reference's values at the block's place. -/
theorem point (c : Dev nD) (t : Fin cfg0.N) (y : S2x512x2816.Idx) : out0_3 (iblk m c 0 t) (iblk m c 1 t) (iblk m c 2 t) y
    = ∑ k : Fin 1024, X3 (normed (m ((c : Thread nD τ).loc main_arg0)) (m ((c : Thread nD τ).loc main_arg1)))
        ⟨t.val * 512 + (y 1).val, by have : t.val < 16 := t.isLt; have h1 : (y 1).val < 512 := (y 1).isLt; omega⟩ k
      * m ((c : Thread nD τ).loc main_arg2) (ix2 k ⟨(y 0).val * 2816 + (y 2).val, by have h0 : (y 0).val < 2 := (y 0).isLt; have h2 : (y 2).val < 2816 := (y 2).isLt; omega⟩) := by
  canon_tiles x h
  all_goals
    first | rw [pay1_val] | rw [pay2_val] | rw [pay4_val] | rw [pay5_val]
    refine Finset.sum_congr rfl fun k _ => ?_
    try unfold k0_pay6
    refine congrArg₂ (· * ·) ?_ ?_
    · refine (congrFun (ld_whole (iblk m c 0 t) (iblk m c 1 t)) _).trans ((rows_val m c t (x 1) k).trans ?_)
      exact congrArg (fun r => X3 _ r k) (Fin.ext (by show t.val * 512 + (x 1).val = t.val * 512 + (y 1).val; rw [h1]))
    · pointwise
      refine (read_w m c t k _).trans ?_
      refine congrArg (fun n => m ((c : Thread nD τ).loc main_arg2) (ix2 k n)) (Fin.ext ?_)
      simp only []
      omega

/-- The kernel's first result array ends holding the product. -/
theorem final_u (c : Dev nD) : (dats m 0 c).arrAt 3 (cfgs 0).N
    = HALVES (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact (point m c t y).trans (congrArg (HALVES _ _ _) (emb_u t y)).symm

/-- The kernel's second result array ends holding the normed rows. -/
theorem final_h (c : Dev nD) : (dats m 0 c).arrAt 4 (cfgs 0).N
    = ROWS (m ((c : Thread nD τ).loc main_arg0)) (m ((c : Thread nD τ).loc main_arg1)) := by
  refine (dats m 0 c).arrAt_eq_of_covers 4 _ (by decide +kernel) fun t hf y => ?_
  blk_simp
  rw [after0_4]
  obtain ⟨r, k, rfl⟩ : ∃ (r : Fin 512) (k : Fin 1024), y = ix2 r k := ⟨y 0, y 1, eq_ix2 y⟩
  have hout : out0_4 (iblk m c 0 t) (iblk m c 1 t) (iblk m c 2 t) (ix2 r k) = k0_pay3 (iblk m c 0 t) (iblk m c 1 t) (ix2 r k) := by
    frame_out
  exact hout.trans ((rows_val m c t r k).trans (congrArg (ROWS _ _) (emb_h t r k)).symm)

/-- A row's batch and position are those it was folded from. -/
theorem X3_fold (X) (b : Fin 4) (s : Fin 2048) (k : Fin 1024) (h) : X3 X ⟨b.val * 2048 + s.val, h⟩ k = X (ix3 b s k) := by
  unfold X3
  refine congrArg X ?_
  have e1 : (b.val * 2048 + s.val) / 2048 = b.val := by omega
  have e2 : (b.val * 2048 + s.val) % 2048 = s.val := by omega
  exact congrArg₂ (fun p q => ix3 p q k) (Fin.ext e1) (Fin.ext e2)

/-- The product brought back to batch, position and column is the reference's. -/
theorem u_back (X g w) : shapeCast S4x2048x5632 (transpose S8192x2x2816 [1, 0, 2] (HALVES X g w) transposes_S2x8192x2816_S8192x2x2816_1_0_2)
    shapeCasts_S8192x2x2816_S4x2048x5632 = truncf .bf16 (REF X g w) Cert.Reference9Ideal.Gen.bitsLt_bf16_f32 := by
  funext j
  pointwise [HALVES, REF]
  refine Finset.sum_congr rfl fun k _ => congrArg₂ (· * ·) (X3_fold _ (j 0) (j 1) k _) ?_
  refine congrArg (fun n => w (ix2 k n)) (Fin.ext ?_)
  simp only []
  omega

/-- The normed rows brought back to batch and position are the reference's. -/
theorem h_back (X g) : shapeCast S4x2048x1024 (ROWS X g) shapeCasts_S8192x1024_S4x2048x1024
    = truncf .bf16 (normed X g) Cert.Reference9Ideal.Gen.bitsLt_bf16_f32 := by
  funext j
  pointwise [ROWS]
  exact (X3_fold _ (j 0) (j 1) (j 2) _).trans (congrArg (normed X g) (eq_ix3 j).symm)

/-- The kernel's two results and the reference's, read as real numbers, are equal. -/
theorem algebraic [hK : Cert.Kernel9Ideal.Facts] : Cert.algebraic_Kernel9Ideal_Reference9Ideal := by
  pair_intro
  · run_from Cert.Kernel9Ideal.Gen.run_main m g
    · exact W_main_arg0 m (dats m) c
    · exact W_main_arg1 m (dats m) c
    · exact W_main_arg2 m (dats m) c
  · hlo_run
    · unfold Pipeline.afterTail₀
      simp only [List.flatten_cons, List.flatten_nil, List.append_nil]
      entry_read
      rw [Pipeline.withArrays_arr spec0 (by decide +kernel) c (V0 m c) (fun w => (dats m 0 c).arrAt w (cfgs 0).N) 3, final_u]
      exact (u_back _ _ _).symm
    · unfold Pipeline.afterTail₀
      simp only [List.flatten_cons, List.flatten_nil, List.append_nil]
      entry_read
      rw [Pipeline.withArrays_arr spec0 (by decide +kernel) c (V0 m c) (fun w => (dats m 0 c).arrAt w (cfgs 0).N) 4, final_h]
      exact (h_back _ _).symm

end Cert.Kernel9Ideal.Value
-- ==== Proof.LayerInputValue.lean ====
/-
The per-layer input: the embedding of the per-layer rows, the gate from the normed stream, and the stream with the
gated embedding added. Each of the four results is read at a place of a point's block and set against the value of
reference.py's lines there.
-/
module

public import proofs.«01_k».proof.Defs
public import proofs.«01_k».proof.Proof.Gen.Kernel18Ideal.Frame
public import proofs.«01_k».proof.Proof.Gen.Reference18Ideal
public import proofs.«01_k».proof.Proof.UpValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel18Ideal.Value
open Cert.Kernel18Ideal Cert.Kernel18Ideal.Gen
open Cert.Kernel2Ideal.Value (normed)
open Cert.Kernel9Ideal.Value (X3 X3_fold normed_val)

variable (m : (ℓ : Loc nD τ sig) → Buf (Elt Ideal) ℓ)

/-- The windows' block indices, at every point. -/
theorem idx_val : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] := (by decide +kernel : ∀ t : Fin grid0.N, _)

/-- The place of a per-layer row in batch and position. -/
def P3 (p : FVec Ideal Cert.Reference18Ideal.S4x2048x256 .f32) (r : Fin 8192) (k : Fin 256) : EReal :=
  p (ix3 ⟨r.val / 2048, by omega⟩ ⟨r.val % 2048, by omega⟩ k)

/-- A row's batch and position are those it was folded from. -/
theorem P3_fold (p) (b : Fin 4) (s : Fin 2048) (k : Fin 256) (h) : P3 p ⟨b.val * 2048 + s.val, h⟩ k = p (ix3 b s k) := by
  unfold P3
  refine congrArg p ?_
  have e1 : (b.val * 2048 + s.val) / 2048 = b.val := by omega
  have e2 : (b.val * 2048 + s.val) % 2048 = s.val := by omega
  exact congrArg₂ (fun p q => ix3 p q k) (Fin.ext e1) (Fin.ext e2)

/-- The embedding of a row. -/
def EMB (p : FVec Ideal Cert.Reference18Ideal.S4x2048x256 .f32) (wp : FVec Ideal S256x1024 .f32) (r : Fin 8192) (n : Fin 1024) : EReal :=
  ∑ k : Fin 256, P3 p r k * wp (ix2 k n)

/-- The gate of a row. -/
def GATE (X : FVec Ideal Cert.Reference9Ideal.S4x2048x1024 .f32) (g : FVec Ideal Cert.Reference9Ideal.S1024 .f32)
    (wg : FVec Ideal S1024x1024 .f32) (r : Fin 8192) (n : Fin 1024) : EReal :=
  Ideal.div 1 (1 + Ideal.exp (-∑ k : Fin 1024, X3 (normed X g) r k * wg (ix2 k n)))

/-- The four results, batch and position folded into one row index. -/
def STREAM (X : FVec Ideal Cert.Reference9Ideal.S4x2048x1024 .f32) (p : FVec Ideal Cert.Reference18Ideal.S4x2048x256 .f32) (g : FVec Ideal Cert.Reference9Ideal.S1024 .f32) (wg : FVec Ideal S1024x1024 .f32) (wp : FVec Ideal S256x1024 .f32) : FVec Ideal S8192x1024 .f32 := fun j => X3 X (j 0) (j 1) + EMB p wp (j 0) (j 1) * GATE X g wg (j 0) (j 1)
def EMBS (p : FVec Ideal Cert.Reference18Ideal.S4x2048x256 .f32) (wp : FVec Ideal S256x1024 .f32) : FVec Ideal S8192x1024 .bf16 := fun j => EMB p wp (j 0) (j 1)
def GATES (X : FVec Ideal Cert.Reference9Ideal.S4x2048x1024 .f32) (g : FVec Ideal Cert.Reference9Ideal.S1024 .f32) (wg : FVec Ideal S1024x1024 .f32) : FVec Ideal S8192x1024 .bf16 := fun j => GATE X g wg (j 0) (j 1)
def ROWS (p : FVec Ideal Cert.Reference18Ideal.S4x2048x256 .f32) : FVec Ideal S8192x256 .bf16 := fun j => P3 p (j 0) (j 1)

/-- A point's rows are those of the stream. -/
theorem read_x (c : Dev nD) (t : Fin cfg0.N) (r : Fin 512) (k : Fin 1024) : iblk m c 0 t (ix2 r k)
    = X3 (m ((c : Thread nD τ).loc main_arg0)) ⟨t.val * 512 + r.val, by have : t.val < 16 := t.isLt; omega⟩ k := by
  show V m c main_v0 (((cfg0.win 0).blk t).view.emb (ix2 r k)) = _
  entry_read
  simp only [List.flatten_cons, List.flatten_nil, List.append_nil]
  entry_read
  unfold X3
  pointwise
  blk_ext [idx_val t]

/-- A point's per-layer rows. -/
theorem read_p (c : Dev nD) (t : Fin cfg0.N) (r : Fin 512) (k : Fin 256) : iblk m c 1 t (ix2 r k)
    = P3 (m ((c : Thread nD τ).loc main_arg1)) ⟨t.val * 512 + r.val, by have : t.val < 16 := t.isLt; omega⟩ k := by
  show V m c main_v1 (((cfg0.win 1).blk t).view.emb (ix2 r k)) = _
  entry_read
  simp only [List.flatten_cons, List.flatten_nil, List.append_nil]
  entry_read
  unfold P3
  pointwise
  blk_ext [idx_val t]

/-- The gain at a point. -/
theorem read_g (c : Dev nD) (t : Fin cfg0.N) (k : Fin 1024) : iblk m c 2 t (ix2 0 k) = m ((c : Thread nD τ).loc main_arg2) (ix1 k) := by
  show V m c main_v4 (((cfg0.win 2).blk t).view.emb (ix2 0 k)) = _
  entry_read
  simp only [List.flatten_cons, List.flatten_nil, List.append_nil]
  entry_read
  pointwise
  blk_ext [idx_val t]

/-- The gate's weight at a point. -/
theorem read_wg (c : Dev nD) (t : Fin cfg0.N) (k : Fin 1024) (n : Fin 1024) : iblk m c 3 t (ix2 k n) = m ((c : Thread nD τ).loc main_arg3) (ix2 k n) := by
  show V m c main_v2 (((cfg0.win 3).blk t).view.emb (ix2 k n)) = _
  entry_read
  simp only [List.flatten_cons, List.flatten_nil, List.append_nil]
  entry_read
  pointwise
  blk_ext [idx_val t]

/-- The embedding's weight at a point. -/
theorem read_wp (c : Dev nD) (t : Fin cfg0.N) (k : Fin 256) (n : Fin 1024) : iblk m c 4 t (ix2 k n) = m ((c : Thread nD τ).loc main_arg4) (ix2 k n) := by
  show V m c main_v3 (((cfg0.win 4).blk t).view.emb (ix2 k n)) = _
  entry_read
  simp only [List.flatten_cons, List.flatten_nil, List.append_nil]
  entry_read
  pointwise
  blk_ext [idx_val t]

/-- The stream's rows pass through a cast of their shape to itself. -/
theorem pay2_id (a j) : k0_pay2 (F := Ideal) a j = a j := by pointwise [k0_pay2]

/-- The kernel's norm at an entry of a block. -/
def NORM (a : FVec Ideal S512x1024 .f32) (g : FVec Ideal S1x1024 .f32) (r : Fin 512) (k : Fin 1024) : EReal :=
  a (ix2 r k) * Ideal.rsqrt (Ideal.div (∑ k : Fin 1024, a (ix2 r k) * a (ix2 r k))
    (Ideal.ofBits .f32 1149239296#32) + Ideal.ofBits .f32 897988541#32) * g (ix2 0 k)

/-- The kernel's gate. -/
theorem pay3_val (a g w j) : k0_pay3 (F := Ideal) a g w j
    = Ideal.div 1 (1 + Ideal.exp (-∑ k : Fin 1024, NORM a g (j 0) k * w (ix2 k (j 1)))) := by
  pointwise [k0_pay3, NORM, pay2_id]
  try rw [zero_sub]

/-- The kernel's embedding. -/
theorem pay5_val (p w j) : k0_pay5 (F := Ideal) p w j = ∑ k : Fin 256, p (ix2 (j 0) k) * w (ix2 k (j 1)) := by pointwise [k0_pay5, k0_pay4]

/-- The kernel's stream. -/
theorem pay6_val (a g w p wp j) : k0_pay6 (F := Ideal) a g w p wp j = a j + k0_pay5 (F := Ideal) p wp j * k0_pay3 (F := Ideal) a g w j := by
  pointwise [k0_pay6, pay2_id]

/-- The second result is the embedding. -/
theorem pay7_val (p w j) : k0_pay7 (F := Ideal) p w j = k0_pay5 (F := Ideal) p w j := by pointwise [k0_pay7]

/-- The third result is the gate. -/
theorem pay1_val (a j) : k0_pay1 (F := Ideal) a j = a j := by pointwise [k0_pay1]

/-- The fourth result is the per-layer rows. -/
theorem pay4_val (a j) : k0_pay4 (F := Ideal) a j = a j := by pointwise [k0_pay4]

/-- A point's embedding. -/
theorem emb_val (c : Dev nD) (t : Fin cfg0.N) (r : Fin 512) (n : Fin 1024) : k0_pay5 (iblk m c 1 t) (iblk m c 4 t) (ix2 r n)
    = EMB (m ((c : Thread nD τ).loc main_arg1)) (m ((c : Thread nD τ).loc main_arg4)) ⟨t.val * 512 + r.val, by have : t.val < 16 := t.isLt; omega⟩ n := by
  rw [pay5_val]
  exact Finset.sum_congr rfl fun k _ => congrArg₂ (· * ·) (read_p m c t r k) (read_wp m c t k n)

/-- A point's normed rows are the reference's. -/
theorem norm_val (c : Dev nD) (t : Fin cfg0.N) (r : Fin 512) (k : Fin 1024) : NORM (iblk m c 0 t) (iblk m c 2 t) r k
    = X3 (normed (m ((c : Thread nD τ).loc main_arg0)) (m ((c : Thread nD τ).loc main_arg2))) ⟨t.val * 512 + r.val, by have : t.val < 16 := t.isLt; omega⟩ k := by
  rw [normed_val]
  exact congrArg₂ (· * ·) (congrArg₂ (· * ·) (read_x m c t r k) (congrArg (fun s => Ideal.rsqrt (Ideal.div s _ + _))
    (Finset.sum_congr rfl fun k _ => congrArg₂ (· * ·) (read_x m c t r k) (read_x m c t r k)))) (read_g m c t k)

/-- A point's gate. -/
theorem gate_val (c : Dev nD) (t : Fin cfg0.N) (r : Fin 512) (n : Fin 1024) : k0_pay3 (iblk m c 0 t) (iblk m c 2 t) (iblk m c 3 t) (ix2 r n)
    = GATE (m ((c : Thread nD τ).loc main_arg0)) (m ((c : Thread nD τ).loc main_arg2)) (m ((c : Thread nD τ).loc main_arg3)) ⟨t.val * 512 + r.val, by have : t.val < 16 := t.isLt; omega⟩ n := by
  rw [pay3_val]
  exact congrArg (fun s => Ideal.div 1 (1 + Ideal.exp (-s))) (Finset.sum_congr rfl fun k _ =>
    congrArg₂ (· * ·) (norm_val m c t r k) (read_wg m c t k n))

/-- Where the stream's block lies. -/
theorem emb_5 (t : Fin cfg0.N) (r : Fin 512) (k : Fin 1024) : ((cfg0.win 5).blk t).view.emb (ix2 r k)
    = ix2 ⟨t.val * 512 + r.val, by have : t.val < 16 := t.isLt; omega⟩ k := by
  blk_ext [idx_val t]

/-- Where the embedding's block lies. -/
theorem emb_6 (t : Fin cfg0.N) (r : Fin 512) (k : Fin 1024) : ((cfg0.win 6).blk t).view.emb (ix2 r k)
    = ix2 ⟨t.val * 512 + r.val, by have : t.val < 16 := t.isLt; omega⟩ k := by
  blk_ext [idx_val t]

/-- Where the gate's block lies. -/
theorem emb_7 (t : Fin cfg0.N) (r : Fin 512) (k : Fin 1024) : ((cfg0.win 7).blk t).view.emb (ix2 r k)
    = ix2 ⟨t.val * 512 + r.val, by have : t.val < 16 := t.isLt; omega⟩ k := by
  blk_ext [idx_val t]

/-- Where the per-layer rows' block lies. -/
theorem emb_8 (t : Fin cfg0.N) (r : Fin 512) (k : Fin 256) : ((cfg0.win 8).blk t).view.emb (ix2 r k)
    = ix2 ⟨t.val * 512 + r.val, by have : t.val < 16 := t.isLt; omega⟩ k := by
  blk_ext [idx_val t]

/-- The kernel's first result array ends holding the stream. -/
theorem final_5 (c : Dev nD) : (dats m 0 c).arrAt 5 (cfgs 0).N = STREAM (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, k, rfl⟩ : ∃ (r : Fin 512) (k : Fin 1024), y = ix2 r k := ⟨y 0, y 1, eq_ix2 y⟩
  have hout : out0_5 (iblk m c 0 t) (iblk m c 1 t) (iblk m c 2 t) (iblk m c 3 t) (iblk m c 4 t) (ix2 r k) = k0_pay6 (iblk m c 0 t) (iblk m c 2 t) (iblk m c 3 t) (iblk m c 1 t) (iblk m c 4 t) (ix2 r k) := by
    frame_out
  refine hout.trans (Eq.trans ?_ (congrArg (STREAM (m ((c : Thread nD τ).loc main_arg0)) (m ((c : Thread nD τ).loc main_arg1)) (m ((c : Thread nD τ).loc main_arg2)) (m ((c : Thread nD τ).loc main_arg3)) (m ((c : Thread nD τ).loc main_arg4))) (emb_5 t r k)).symm)
  rw [pay6_val]
  exact congrArg₂ (· + ·) (read_x m c t r k) (congrArg₂ (· * ·) (emb_val m c t r k) (gate_val m c t r k))

/-- The kernel's second result array ends holding the embedding. -/
theorem final_6 (c : Dev nD) : (dats m 0 c).arrAt 6 (cfgs 0).N = EMBS (m ((c : Thread nD τ).loc main_arg1)) (m ((c : Thread nD τ).loc main_arg4)) := by
  refine (dats m 0 c).arrAt_eq_of_covers 6 _ (by decide +kernel) fun t hf y => ?_
  blk_simp
  rw [after0_6]
  obtain ⟨r, k, rfl⟩ : ∃ (r : Fin 512) (k : Fin 1024), y = ix2 r k := ⟨y 0, y 1, eq_ix2 y⟩
  have hout : out0_6 (iblk m c 0 t) (iblk m c 1 t) (iblk m c 2 t) (iblk m c 3 t) (iblk m c 4 t) (ix2 r k) = k0_pay7 (iblk m c 1 t) (iblk m c 4 t) (ix2 r k) := by
    frame_out
  refine hout.trans (Eq.trans ?_ (congrArg (EMBS (m ((c : Thread nD τ).loc main_arg1)) (m ((c : Thread nD τ).loc main_arg4))) (emb_6 t r k)).symm)
  rw [pay7_val]
  exact emb_val m c t r k

/-- The kernel's third result array ends holding the gate. -/
theorem final_7 (c : Dev nD) : (dats m 0 c).arrAt 7 (cfgs 0).N = GATES (m ((c : Thread nD τ).loc main_arg0)) (m ((c : Thread nD τ).loc main_arg2)) (m ((c : Thread nD τ).loc main_arg3)) := by
  refine (dats m 0 c).arrAt_eq_of_covers 7 _ (by decide +kernel) fun t hf y => ?_
  blk_simp
  rw [after0_7]
  obtain ⟨r, k, rfl⟩ : ∃ (r : Fin 512) (k : Fin 1024), y = ix2 r k := ⟨y 0, y 1, eq_ix2 y⟩
  have hout : out0_7 (iblk m c 0 t) (iblk m c 1 t) (iblk m c 2 t) (iblk m c 3 t) (iblk m c 4 t) (ix2 r k) = k0_pay1 (k0_pay3 (iblk m c 0 t) (iblk m c 2 t) (iblk m c 3 t)) (ix2 r k) := by
    frame_out
  refine hout.trans (Eq.trans ?_ (congrArg (GATES (m ((c : Thread nD τ).loc main_arg0)) (m ((c : Thread nD τ).loc main_arg2)) (m ((c : Thread nD τ).loc main_arg3))) (emb_7 t r k)).symm)
  rw [pay1_val]
  exact gate_val m c t r k

/-- The kernel's fourth result array ends holding the per-layer rows. -/
theorem final_8 (c : Dev nD) : (dats m 0 c).arrAt 8 (cfgs 0).N = ROWS (m ((c : Thread nD τ).loc main_arg1)) := by
  refine (dats m 0 c).arrAt_eq_of_covers 8 _ (by decide +kernel) fun t hf y => ?_
  blk_simp
  rw [after0_8]
  obtain ⟨r, k, rfl⟩ : ∃ (r : Fin 512) (k : Fin 256), y = ix2 r k := ⟨y 0, y 1, eq_ix2 y⟩
  have hout : out0_8 (iblk m c 0 t) (iblk m c 1 t) (iblk m c 2 t) (iblk m c 3 t) (iblk m c 4 t) (ix2 r k) = k0_pay4 (iblk m c 1 t) (ix2 r k) := by
    frame_out
  refine hout.trans (Eq.trans ?_ (congrArg (ROWS (m ((c : Thread nD τ).loc main_arg1))) (emb_8 t r k)).symm)
  rw [pay4_val]
  exact read_p m c t r k

/-- The reference's embedding, before its cast. -/
def REMB (p : FVec Ideal Cert.Reference18Ideal.S4x2048x256 .f32) (wp : FVec Ideal Cert.Reference18Ideal.S256x1024 .f32) : FVec Ideal Cert.Reference18Ideal.S4x2048x1024 .f32 :=
  Host.dotGeneral Cert.Reference18Ideal.dot_S4x2048x256_S256x1024_S4x2048x1024_2_0_01_1_n_n none p wp

/-- The reference's gate, before its cast. -/
def RGATE (X : FVec Ideal Cert.Reference18Ideal.S4x2048x1024 .f32) (g : FVec Ideal Cert.Reference18Ideal.S1024 .f32) (wg : FVec Ideal Cert.Reference18Ideal.S1024x1024 .f32) : FVec Ideal Cert.Reference18Ideal.S4x2048x1024 .f32 :=
  Host.divf (broadcastInDim Cert.Reference18Ideal.S4x2048x1024 ![] Cert.Reference18Ideal.Gen.bcast_S_S4x2048x1024 (constant Cert.Reference18Ideal.S_ .f32 0x3F800000#32))
    (addf (broadcastInDim Cert.Reference18Ideal.S4x2048x1024 ![] Cert.Reference18Ideal.Gen.bcast_S_S4x2048x1024 (constant Cert.Reference18Ideal.S_ .f32 0x3F800000#32))
      (Host.exp (Host.negf (Host.dotGeneral Cert.Reference18Ideal.dot_S4x2048x1024_S1024x1024_S4x2048x1024_2_0_01_1_n_n none (normed X g) wg))))

/-- The embedding, at batch and position, is the reference's. -/
theorem remb_val (p wp) (b : Fin 4) (s : Fin 2048) (n : Fin 1024) (h) : EMB p wp ⟨b.val * 2048 + s.val, h⟩ n = REMB p wp (ix3 b s n) := by
  pointwise [EMB, REMB]
  exact Finset.sum_congr rfl fun k _ => congrArg₂ (· * ·) (P3_fold p b s k _) rfl

/-- The gate, at batch and position, is the reference's. -/
theorem rgate_val (X g wg) (b : Fin 4) (s : Fin 2048) (n : Fin 1024) (h) : GATE X g wg ⟨b.val * 2048 + s.val, h⟩ n = RGATE X g wg (ix3 b s n) := by
  pointwise [GATE, RGATE]
  try rw [zero_sub]
  exact congrArg (fun s => Ideal.div 1 (1 + Ideal.exp (-s))) (Finset.sum_congr rfl fun k _ =>
    congrArg₂ (· * ·) (X3_fold (normed X g) b s k _) rfl)

/-- The first result brought back to batch and position is the reference's. -/
theorem back_5 (X p g wg wp) : shapeCast S4x2048x1024 (STREAM X p g wg wp) shapeCasts_S8192x1024_S4x2048x1024
    = addf X (mulf (REMB p wp) (RGATE X g wg)) := by
  funext j
  pointwise [STREAM]
  exact congrArg₂ (· + ·) ((X3_fold X (j 0) (j 1) (j 2) _).trans (congrArg X (eq_ix3 j).symm)) (congrArg₂ (· * ·)
    ((remb_val p wp (j 0) (j 1) (j 2) _).trans (congrArg (REMB p wp) (eq_ix3 j).symm))
    ((rgate_val X g wg (j 0) (j 1) (j 2) _).trans (congrArg (RGATE X g wg) (eq_ix3 j).symm)))

/-- The second result brought back to batch and position is the reference's. -/
theorem back_6 (p wp) : shapeCast S4x2048x1024 (EMBS p wp) shapeCasts_S8192x1024_S4x2048x1024
    = truncf .bf16 (REMB p wp) Cert.Reference18Ideal.Gen.bitsLt_bf16_f32 := by
  funext j
  pointwise [EMBS]
  exact (remb_val p wp (j 0) (j 1) (j 2) _).trans (congrArg (REMB p wp) (eq_ix3 j).symm)

/-- The third result brought back to batch and position is the reference's. -/
theorem back_7 (X g wg) : shapeCast S4x2048x1024 (GATES X g wg) shapeCasts_S8192x1024_S4x2048x1024
    = truncf .bf16 (RGATE X g wg) Cert.Reference18Ideal.Gen.bitsLt_bf16_f32 := by
  funext j
  pointwise [GATES]
  exact (rgate_val X g wg (j 0) (j 1) (j 2) _).trans (congrArg (RGATE X g wg) (eq_ix3 j).symm)

/-- The fourth result brought back to batch and position is the reference's. -/
theorem back_8 (p) : shapeCast S4x2048x256 (ROWS p) shapeCasts_S8192x256_S4x2048x256 = truncf .bf16 p Cert.Reference18Ideal.Gen.bitsLt_bf16_f32 := by
  funext j
  pointwise [ROWS]
  exact (P3_fold p (j 0) (j 1) (j 2) _).trans (congrArg p (eq_ix3 j).symm)

/-- The kernel's four results and the reference's, read as real numbers, are equal. -/
theorem algebraic [hK : Cert.Kernel18Ideal.Facts] : Cert.algebraic_Kernel18Ideal_Reference18Ideal := by
  pair_intro
  · run_from Cert.Kernel18Ideal.Gen.run_main m g
    · exact W_main_arg0 m (dats m) c
    · exact W_main_arg1 m (dats m) c
    · exact W_main_arg2 m (dats m) c
    · exact W_main_arg3 m (dats m) c
    · exact W_main_arg4 m (dats m) c
  · hlo_run
    · unfold Pipeline.afterTail₀
      simp only [List.flatten_cons, List.flatten_nil, List.append_nil]
      entry_read
      rw [Pipeline.withArrays_arr spec0 (by decide +kernel) c (V0 m c) (fun w => (dats m 0 c).arrAt w (cfgs 0).N) 5, final_5]
      exact (back_5 _ _ _ _ _).symm
    · unfold Pipeline.afterTail₀
      simp only [List.flatten_cons, List.flatten_nil, List.append_nil]
      entry_read
      rw [Pipeline.withArrays_arr spec0 (by decide +kernel) c (V0 m c) (fun w => (dats m 0 c).arrAt w (cfgs 0).N) 6, final_6]
      exact (back_6 _ _).symm
    · unfold Pipeline.afterTail₀
      simp only [List.flatten_cons, List.flatten_nil, List.append_nil]
      entry_read
      rw [Pipeline.withArrays_arr spec0 (by decide +kernel) c (V0 m c) (fun w => (dats m 0 c).arrAt w (cfgs 0).N) 7, final_7]
      exact (back_7 _ _ _).symm
    · unfold Pipeline.afterTail₀
      simp only [List.flatten_cons, List.flatten_nil, List.append_nil]
      entry_read
      rw [Pipeline.withArrays_arr spec0 (by decide +kernel) c (V0 m c) (fun w => (dats m 0 c).arrAt w (cfgs 0).N) 8, final_8]
      exact (back_8 _).symm

end Cert.Kernel18Ideal.Value
-- ==== Proof.RotaryValue.lean ====
/-
The rotation of a head's row, the kernel's form with three tables of 128 columns and reference.py's with two halves of
16 coordinates, and the queries, keys and values of a head group at a row and a column.
-/
module

public import proofs.«01_k».proof.Defs
public import proofs.«01_k».proof.Proof.Gen.Reference19Ideal
public import proofs.«01_k».proof.Proof.UpValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Rotary
open Cert.Kernel2Ideal.Value (normed)
open Cert.Kernel9Ideal.Value (X3 X3_fold normed_val)

/-- A column of the queries, keys or values of a head group, in the order the call keeps them in, as a column of the
whole weight: the part, the group within it, the column within the group. -/
def COL (gr : Fin 3) (n : Fin 1536) : Fin 7680 :=
  ⟨n.val / 512 * 1536 + gr.val * 512 + n.val % 512, by have := n.isLt; have := gr.isLt; omega⟩

/-- The product of a normed row with a column of the weight. -/
def ZC (X : FVec Ideal Cert.Reference9Ideal.S4x2048x1024 .f32) (g : FVec Ideal Cert.Reference9Ideal.S1024 .f32)
    (w : FVec Ideal Cert.Reference19Ideal.S1024x7680 .f32) (r : Fin 8192) (n : Fin 7680) : EReal :=
  ∑ k : Fin 1024, X3 (normed X g) r k * w (ix2 k n)

/-- The kernel's rotation of a head's row, with its three tables. -/
def ROT (z c sa sb : Fin 128 → EReal) (d : Fin 128) : EReal :=
  z d * c d + z ⟨(d.val + 128 - 112) % 128, Nat.mod_lt _ (by omega)⟩ * sa d + z ⟨(d.val + 128 - 16) % 128, Nat.mod_lt _ (by omega)⟩ * sb d

/-- The rotation of the first 32 coordinates of a head's row, in two halves; the others stay. -/
def ROPE (z : Fin 128 → EReal) (cs sn : Fin 16 → EReal) (d : Fin 128) : EReal :=
  if h : d.val < 16 then z d * cs ⟨d.val, h⟩ - z ⟨d.val + 16, by omega⟩ * sn ⟨d.val, h⟩
  else if h2 : d.val < 32 then z d * cs ⟨d.val - 16, by omega⟩ + z ⟨d.val - 16, by omega⟩ * sn ⟨d.val - 16, by omega⟩
  else z d

/-- The cosine table's row: the cosines twice, then ones. -/
def TC (cs : FVec Ideal Cert.Reference19Ideal.S2048x16 .f32) (s : Fin 2048) (d : Fin 128) : EReal :=
  if h : d.val < 16 then cs (ix2 s ⟨d.val, h⟩) else if h2 : d.val < 32 then cs (ix2 s ⟨d.val - 16, by omega⟩) else (1 : EReal)

/-- The first sine table's row: the sines with their sign changed, then zeros. -/
def TA (sn : FVec Ideal Cert.Reference19Ideal.S2048x16 .f32) (s : Fin 2048) (d : Fin 128) : EReal :=
  if h : d.val < 16 then -(show EReal from sn (ix2 s ⟨d.val, h⟩)) else (0 : EReal)

/-- The second sine table's row: zeros, the sines, zeros. -/
def TB (sn : FVec Ideal Cert.Reference19Ideal.S2048x16 .f32) (s : Fin 2048) (d : Fin 128) : EReal :=
  if h : d.val < 16 then (0 : EReal) else if h2 : d.val < 32 then sn (ix2 s ⟨d.val - 16, by omega⟩) else (0 : EReal)

/-- With the tables arranged as the version does, the two rotations agree. -/
theorem rot_rope (z c sa sb : Fin 128 → EReal) (cs sn : Fin 16 → EReal) (d : Fin 128)
    (hc : c d = if h : d.val < 16 then cs ⟨d.val, h⟩ else if h2 : d.val < 32 then cs ⟨d.val - 16, by omega⟩ else 1)
    (ha : sa d = if h : d.val < 16 then -sn ⟨d.val, h⟩ else 0)
    (hb : sb d = if h : d.val < 16 then 0 else if h2 : d.val < 32 then sn ⟨d.val - 16, by omega⟩ else 0) :
    ROT z c sa sb d = ROPE z cs sn d := by
  unfold ROT ROPE
  rw [hc, ha, hb]
  by_cases h : d.val < 16
  · simp only [h, dite_true, mul_zero, add_zero, mul_neg, sub_eq_add_neg]
    refine congrArg (fun q => _ + -(z q * _)) (Fin.ext ?_)
    show (d.val + 128 - 112) % 128 = d.val + 16
    omega
  · by_cases h2 : d.val < 32
    · simp only [h, h2, dite_true, dite_false, mul_zero, add_zero]
      refine congrArg (fun q => _ + z q * _) (Fin.ext ?_)
      show (d.val + 128 - 16) % 128 = d.val - 16
      omega
    · simp only [h, h2, dite_false, mul_zero, add_zero, mul_one]

/-- A line of host operations may be run in two parts. -/
theorem after_cut {τ : Topo} {sig : RefSig} (n : Nat) (L : List (HloOp τ sig (Elt Ideal))) (σ : Valuation τ sig (Elt Ideal)) (b)
    (v) (h : ∀ ρ, ρ = StableHlo.after (L.take n) σ → StableHlo.after (L.drop n) ρ b = v) : StableHlo.after L σ b = v := by
  rw [← h _ rfl, ← StableHlo.after_append, List.take_append_drop]

/-- The queries, keys and values of a head group at a row and a column: the first two parts rotated head by head. -/
def QKV (gr : Fin 3) (X : FVec Ideal Cert.Reference9Ideal.S4x2048x1024 .f32) (g : FVec Ideal Cert.Reference9Ideal.S1024 .f32)
    (w : FVec Ideal Cert.Reference19Ideal.S1024x7680 .f32) (cs sn : FVec Ideal Cert.Reference19Ideal.S2048x16 .f32)
    (r : Fin 8192) (n : Fin 1536) : EReal :=
  if h : n.val < 1024 then
    ROPE (fun d => ZC X g w r (COL gr ⟨n.val / 128 * 128 + d.val, by have := d.isLt; omega⟩))
      (fun i => cs (ix2 ⟨r.val % 2048, Nat.mod_lt _ (by omega)⟩ i)) (fun i => sn (ix2 ⟨r.val % 2048, Nat.mod_lt _ (by omega)⟩ i))
      ⟨n.val % 128, Nat.mod_lt _ (by omega)⟩
  else ZC X g w r (COL gr n)

/-- The reference's product with the whole weight. -/
def ZREF (X : FVec Ideal Cert.Reference9Ideal.S4x2048x1024 .f32) (g : FVec Ideal Cert.Reference9Ideal.S1024 .f32)
    (w : FVec Ideal Cert.Reference19Ideal.S1024x7680 .f32) : FVec Ideal Cert.Reference19Ideal.S4x2048x7680 .f32 :=
  Host.dotGeneral Cert.Reference19Ideal.dot_S4x2048x1024_S1024x7680_S4x2048x7680_2_0_01_1_n_n none (normed X g) w

/-- The reference's queries, for every head group, head by head. -/
def PART0 (z : FVec Ideal Cert.Reference19Ideal.S4x2048x7680 .f32) : FVec Ideal Cert.Reference19Ideal.S4x2048x3x4x128 .f32 :=
  shapeCast Cert.Reference19Ideal.S4x2048x3x4x128 (extractStridedSlice Cert.Reference19Ideal.S4x2048x1536 ![0, 0, 0] z Cert.Reference19Ideal.Gen.slices_S4x2048x7680_S4x2048x1536_0_0_0) Cert.Reference19Ideal.Gen.shapeCasts_S4x2048x1536_S4x2048x3x4x128

/-- An entry of them. -/
theorem part0_val (z) (b : Fin 4) (s : Fin 2048) (g : Fin 3) (h : Fin 4) (d : Fin 128) : PART0 z (ix5 b s g h d)
    = z (ix3 b s ⟨0 + g.val * 512 + h.val * 128 + d.val, by omega⟩) := by
  pointwise [PART0]
  try refine congrArg (fun n => z (ix3 b s n)) (Fin.ext ?_)
  try simp only []
  try omega

/-- The reference's keys, for every head group, head by head. -/
def PART1 (z : FVec Ideal Cert.Reference19Ideal.S4x2048x7680 .f32) : FVec Ideal Cert.Reference19Ideal.S4x2048x3x4x128 .f32 :=
  shapeCast Cert.Reference19Ideal.S4x2048x3x4x128 (extractStridedSlice Cert.Reference19Ideal.S4x2048x1536 ![0, 0, 1536] z Cert.Reference19Ideal.Gen.slices_S4x2048x7680_S4x2048x1536_0_0_1536) Cert.Reference19Ideal.Gen.shapeCasts_S4x2048x1536_S4x2048x3x4x128

/-- An entry of them. -/
theorem part1_val (z) (b : Fin 4) (s : Fin 2048) (g : Fin 3) (h : Fin 4) (d : Fin 128) : PART1 z (ix5 b s g h d)
    = z (ix3 b s ⟨1536 + g.val * 512 + h.val * 128 + d.val, by omega⟩) := by
  pointwise [PART1]
  try refine congrArg (fun n => z (ix3 b s n)) (Fin.ext ?_)
  try simp only []
  try omega

/-- The reference's values, for every head group, head by head. -/
def PART2 (z : FVec Ideal Cert.Reference19Ideal.S4x2048x7680 .f32) : FVec Ideal Cert.Reference19Ideal.S4x2048x3x4x128 .f32 :=
  shapeCast Cert.Reference19Ideal.S4x2048x3x4x128 (extractStridedSlice Cert.Reference19Ideal.S4x2048x1536 ![0, 0, 3072] z Cert.Reference19Ideal.Gen.slices_S4x2048x7680_S4x2048x1536_0_0_3072) Cert.Reference19Ideal.Gen.shapeCasts_S4x2048x1536_S4x2048x3x4x128

/-- An entry of them. -/
theorem part2_val (z) (b : Fin 4) (s : Fin 2048) (g : Fin 3) (h : Fin 4) (d : Fin 128) : PART2 z (ix5 b s g h d)
    = z (ix3 b s ⟨3072 + g.val * 512 + h.val * 128 + d.val, by omega⟩) := by
  pointwise [PART2]
  try refine congrArg (fun n => z (ix3 b s n)) (Fin.ext ?_)
  try simp only []
  try omega

/-- A table of the rotation, at every place of the heads. -/
def CB (t : FVec Ideal Cert.Reference19Ideal.S2048x16 .f32) : FVec Ideal Cert.Reference19Ideal.S4x2048x3x4x16 .f32 :=
  broadcastInDim Cert.Reference19Ideal.S4x2048x3x4x16 ![0, 1, 2, 3, 4] Cert.Reference19Ideal.Gen.bcast_S1x2048x1x1x16_S4x2048x3x4x16_0_1_2_3_4 (broadcastInDim Cert.Reference19Ideal.S1x2048x1x1x16 ![1, 2, 3, 4] Cert.Reference19Ideal.Gen.bcast_S2048x1x1x16_S1x2048x1x1x16_1_2_3_4
    (broadcastInDim Cert.Reference19Ideal.S2048x1x1x16 ![0, 3] Cert.Reference19Ideal.Gen.bcast_S2048x16_S2048x1x1x16_0_3 t))

/-- The first half of the rotated coordinates. -/
def R1 (x : FVec Ideal Cert.Reference19Ideal.S4x2048x3x4x128 .f32) (cs sn : FVec Ideal Cert.Reference19Ideal.S2048x16 .f32) : FVec Ideal Cert.Reference19Ideal.S4x2048x3x4x16 .f32 :=
  subf (mulf (extractStridedSlice Cert.Reference19Ideal.S4x2048x3x4x16 ![0, 0, 0, 0, 0] x Cert.Reference19Ideal.Gen.slices_S4x2048x3x4x128_S4x2048x3x4x16_0_0_0_0_0) (CB cs)) (mulf (extractStridedSlice Cert.Reference19Ideal.S4x2048x3x4x16 ![0, 0, 0, 0, 16] x Cert.Reference19Ideal.Gen.slices_S4x2048x3x4x128_S4x2048x3x4x16_0_0_0_0_16) (CB sn))
/-- The second half of the rotated coordinates. -/
def R2 (x : FVec Ideal Cert.Reference19Ideal.S4x2048x3x4x128 .f32) (cs sn : FVec Ideal Cert.Reference19Ideal.S2048x16 .f32) : FVec Ideal Cert.Reference19Ideal.S4x2048x3x4x16 .f32 :=
  addf (mulf (extractStridedSlice Cert.Reference19Ideal.S4x2048x3x4x16 ![0, 0, 0, 0, 16] x Cert.Reference19Ideal.Gen.slices_S4x2048x3x4x128_S4x2048x3x4x16_0_0_0_0_16) (CB cs)) (mulf (extractStridedSlice Cert.Reference19Ideal.S4x2048x3x4x16 ![0, 0, 0, 0, 0] x Cert.Reference19Ideal.Gen.slices_S4x2048x3x4x128_S4x2048x3x4x16_0_0_0_0_0) (CB sn))
/-- The coordinates that stay. -/
def R3 (x : FVec Ideal Cert.Reference19Ideal.S4x2048x3x4x128 .f32) : FVec Ideal Cert.Reference19Ideal.S4x2048x3x4x96 .f32 :=
  extractStridedSlice Cert.Reference19Ideal.S4x2048x3x4x96 ![0, 0, 0, 0, 32] x Cert.Reference19Ideal.Gen.slices_S4x2048x3x4x128_S4x2048x3x4x96_0_0_0_0_32

/-- The three put side by side. -/
def CAT (a b : FVec Ideal Cert.Reference19Ideal.S4x2048x3x4x16 .f32) (c : FVec Ideal Cert.Reference19Ideal.S4x2048x3x4x96 .f32) : FVec Ideal Cert.Reference19Ideal.S4x2048x3x4x128 .f32 :=
  concatenate Cert.Reference19Ideal.S4x2048x3x4x128 4 [⟨Cert.Reference19Ideal.S4x2048x3x4x16, a⟩, ⟨Cert.Reference19Ideal.S4x2048x3x4x16, b⟩, ⟨Cert.Reference19Ideal.S4x2048x3x4x96, c⟩] Cert.Reference19Ideal.Gen.concatenates_S4x2048x3x4x16_S4x2048x3x4x16_S4x2048x3x4x96_S4x2048x3x4x128_d4

/-- The reference's rotation, at an entry. -/
theorem rope_val (x cs sn) (b : Fin 4) (s : Fin 2048) (g : Fin 3) (h : Fin 4) (d : Fin 128) : CAT (R1 x cs sn) (R2 x cs sn) (R3 x) (ix5 b s g h d)
    = ROPE (fun d => x (ix5 b s g h d)) (fun i => cs (ix2 s i)) (fun i => sn (ix2 s i)) d := by
  pointwise [CAT, R1, R2, R3, CB, ROPE]
  by_cases h1 : d.val < 16
  · refine (dif_pos h1).trans ((dif_pos h1).trans ?_).symm
    exact congrArg (fun e => x (ix5 b s g h d) * cs (ix2 s ⟨d.val, h1⟩) - x (ix5 b s g h e) * sn (ix2 s ⟨d.val, h1⟩)) (Fin.ext (Nat.add_comm _ _))
  · refine (dif_neg h1).trans ((dif_neg h1).trans ?_).symm
    by_cases h2 : d.val < 32
    · have h3 : d.val - 16 < 16 := by omega
      refine (dif_pos h2).trans ((dif_pos h3).trans ?_).symm
      exact congrArg (fun e => x (ix5 b s g h e) * cs (ix2 s ⟨d.val - 16, h3⟩) + x (ix5 b s g h ⟨d.val - 16, by omega⟩) * sn (ix2 s ⟨d.val - 16, h3⟩)) (Fin.ext (by show 16 + (d.val - 16) = d.val; omega))
    · have h3 : ¬ d.val - 16 < 16 := by omega
      refine (dif_neg h2).trans ((dif_neg h3).trans ?_).symm
      exact congrArg (fun e => x (ix5 b s g h e)) (Fin.ext (by show 32 + (d.val - 16 - 16) = d.val; omega))

/-- The three parts of a group put side by side. -/
def OUT (q k v : FVec Ideal Cert.Reference19Ideal.S4x2048x512 .f32) : FVec Ideal Cert.Reference19Ideal.S4x2048x1536 .bf16 :=
  truncf .bf16 (concatenate Cert.Reference19Ideal.S4x2048x1536 2 [⟨Cert.Reference19Ideal.S4x2048x512, q⟩, ⟨Cert.Reference19Ideal.S4x2048x512, k⟩, ⟨Cert.Reference19Ideal.S4x2048x512, v⟩] Cert.Reference19Ideal.Gen.concatenates_S4x2048x512_S4x2048x512_S4x2048x512_S4x2048x1536_d2) Cert.Reference19Ideal.Gen.bitsLt_bf16_f32

/-- An entry of the parts side by side. -/
theorem out_val (q k v) (b : Fin 4) (s : Fin 2048) (n : Fin 1536) : OUT q k v (ix3 b s n)
    = if h : n.val < 512 then q (ix3 b s ⟨n.val, h⟩) else if h2 : n.val - 512 < 512 then k (ix3 b s ⟨n.val - 512, h2⟩)
      else v (ix3 b s ⟨n.val - 512 - 512, by omega⟩) := by
  pointwise [OUT]

/-- The product at a column. -/
theorem zref_val (X g w) (b : Fin 4) (s : Fin 2048) (n : Fin 7680) (h) : ZREF X g w (ix3 b s n) = ZC X g w ⟨b.val * 2048 + s.val, h⟩ n := by
  pointwise [ZREF, ZC]
  exact Finset.sum_congr rfl fun k _ => congrArg₂ (· * ·) (X3_fold _ b s k _).symm rfl

/-- With rows of the tables, the two rotations agree. -/
theorem rot_table (z c sa sb : Fin 128 → EReal) (cs sn : FVec Ideal Cert.Reference19Ideal.S2048x16 .f32) (s : Fin 2048) (d : Fin 128)
    (hc : c d = TC cs s d) (ha : sa d = TA sn s d) (hb : sb d = TB sn s d) :
    ROT z c sa sb d = ROPE z (fun i => cs (ix2 s i)) (fun i => sn (ix2 s i)) d :=
  rot_rope z c sa sb (fun i => cs (ix2 s i)) (fun i => sn (ix2 s i)) d hc ha hb

/-- A position's row among the rows of one remainder, brought back. -/
theorem place4 (b s : Nat) (hb : b < 4) (hs : s < 2048) : (b * 2048 + s % 4 * 512 + s / 4) / 2048 * 2048 + (b * 2048 + s % 4 * 512 + s / 4) % 512 * 4 + (b * 2048 + s % 4 * 512 + s / 4) % 2048 / 512 = b * 2048 + s := by
  have e1 : (b * 2048 + s % 4 * 512 + s / 4) / 2048 = b := by omega
  have e2 : (b * 2048 + s % 4 * 512 + s / 4) % 2048 = s % 4 * 512 + s / 4 := by omega
  have e3 : (b * 2048 + s % 4 * 512 + s / 4) % 512 = s / 4 := by omega
  have e4 : (s % 4 * 512 + s / 4) / 512 = s % 4 := by omega
  rw [e1, e2, e3, e4]
  omega

/-- A position's row among the rows of one remainder, brought back. -/
theorem place16 (b s : Nat) (hb : b < 4) (hs : s < 2048) : (b * 2048 + s % 16 * 128 + s / 16) / 2048 * 2048 + (b * 2048 + s % 16 * 128 + s / 16) % 128 * 16 + (b * 2048 + s % 16 * 128 + s / 16) % 2048 / 128 = b * 2048 + s := by
  have e1 : (b * 2048 + s % 16 * 128 + s / 16) / 2048 = b := by omega
  have e2 : (b * 2048 + s % 16 * 128 + s / 16) % 2048 = s % 16 * 128 + s / 16 := by omega
  have e3 : (b * 2048 + s % 16 * 128 + s / 16) % 128 = s / 16 := by omega
  have e4 : (s % 16 * 128 + s / 16) / 128 = s % 16 := by omega
  rw [e1, e2, e3, e4]
  omega

/-- A point's table row, by the position it stands for: remainders by four. -/
theorem row4 (t r : Nat) (ht : t < 16) (hr : r < 512) : r * 4 + (t % 4 * 512 + r) / 512 = ((t * 512 + r) / 2048 * 2048 + (t * 512 + r) % 512 * 4 + (t * 512 + r) % 2048 / 512) % 2048 := by
  have e1 : (t * 512 + r) % 512 = r := by omega
  have e2 : (t * 512 + r) % 2048 = (t % 4 * 512 + r) := by omega
  have e4 : (t % 4 * 512 + r) / 512 = t % 4 := by omega
  rw [e1, e2, e4]
  omega

/-- Remainders by sixteen. -/
theorem row16 (t r : Nat) (ht : t < 16) (hr : r < 512) : (t % 4 * 512 + r) % 128 * 16 + (t % 4 * 512 + r) / 128 = ((t * 512 + r) / 2048 * 2048 + (t * 512 + r) % 128 * 16 + (t * 512 + r) % 2048 / 128) % 2048 := by
  have e1 : (t * 512 + r) % 128 = r % 128 := by omega
  have e2 : (t * 512 + r) % 2048 = (t % 4 * 512 + r) := by omega
  have e4 : (t % 4 * 512 + r) / 128 = t % 4 * 4 + r / 128 := by omega
  have e5 : (t % 4 * 512 + r) % 128 = r % 128 := by omega
  rw [e5, e1, e2, e4]
  omega

/-- A row's batch and position, by the row it stands for: remainders by 4. -/
theorem split4 (R : Nat) : R / 2048 = (R / 2048 * 2048 + R % 512 * 4 + R % 2048 / 512) / 2048
    ∧ R % 512 * 4 + R / 512 % 4 = (R / 2048 * 2048 + R % 512 * 4 + R % 2048 / 512) % 2048 := by
  have e1 : R % 2048 / 512 = R / 512 % 4 := by omega
  have h1 : R % 512 < 512 := Nat.mod_lt _ (by omega)
  have h2 : R / 512 % 4 < 4 := Nat.mod_lt _ (by omega)
  rw [e1]
  generalize R % 512 = q at h1 ⊢
  generalize R / 512 % 4 = p at h2 ⊢
  omega

/-- A row's batch and position, by the row it stands for: remainders by 16. -/
theorem split16 (R : Nat) : R / 2048 = (R / 2048 * 2048 + R % 128 * 16 + R % 2048 / 128) / 2048
    ∧ R % 128 * 16 + R / 128 % 16 = (R / 2048 * 2048 + R % 128 * 16 + R % 2048 / 128) % 2048 := by
  have e1 : R % 2048 / 128 = R / 128 % 16 := by omega
  have h1 : R % 128 < 128 := Nat.mod_lt _ (by omega)
  have h2 : R / 128 % 16 < 16 := Nat.mod_lt _ (by omega)
  rw [e1]
  generalize R % 128 = q at h1 ⊢
  generalize R / 128 % 16 = p at h2 ⊢
  omega

/-- The kernel's rotation depends on the row's entries only. -/
theorem rot_congr (z z' c sa sb : Fin 128 → EReal) (d d' : Fin 128) (hz : ∀ i, z i = z' i) (hd : d = d') : ROT z c sa sb d = ROT z' c sa sb d' := by
  rw [show z = z' from funext hz, hd]

end Cert.Rotary
-- ==== Proof.HeadsValue.lean ====
/-
The queries, keys and values of the head group of dilation 1, with the rotary embedding: the call and the reference agree.
-/
module

public import proofs.«01_k».proof.Defs
public import proofs.«01_k».proof.Proof.Gen.Kernel19Ideal.Frame
public import proofs.«01_k».proof.Proof.Gen.Reference19Ideal
public import proofs.«01_k».proof.Proof.RotaryValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel19Ideal.Value
open Cert.Kernel19Ideal Cert.Kernel19Ideal.Gen
open Cert.Kernel2Ideal.Value (normed)
open Cert.Kernel9Ideal.Value (X3 X3_fold normed_val)
open Cert.Rotary

variable (m : (ℓ : Loc nD τ sig) → Buf (Elt Ideal) ℓ)

/-- The windows' block indices, at every point. -/
theorem idx_val : ∀ t : Fin cfg0.N, win0_0.index t = ![t.val, 0] ∧ win0_1.index t = ![0, 2] ∧ win0_2.index t = ![t.val % 4, 0]
    ∧ win0_3.index t = ![t.val % 4, 0] ∧ win0_4.index t = ![t.val % 4, 0] ∧ win0_5.index t = ![t.val, 0] :=
  (by decide +kernel : ∀ t : Fin grid0.N, _)

/-- A block passed through a cast of its shape to itself. -/
theorem pay4_id (a) : k0_pay4 (F := Ideal) a = a := by funext j; pointwise [k0_pay4]
/-- A table's block likewise. -/
theorem pay5_id (a) : k0_pay5 (F := Ideal) a = a := by funext j; pointwise [k0_pay5]
/-- A table's block likewise. -/
theorem pay6_id (a) : k0_pay6 (F := Ideal) a = a := by funext j; pointwise [k0_pay6]
/-- A table's block likewise. -/
theorem pay7_id (a) : k0_pay7 (F := Ideal) a = a := by funext j; pointwise [k0_pay7]

/-- The product of a block of rows with the queries' columns. -/
theorem pay8_val (a w j) : k0_pay8 (F := Ideal) a w j = ∑ k : Fin 1024, a (ix2 (j 0) k) * w (ix2 k (j 1)) := by pointwise [k0_pay8, pay4_id]

/-- The product of a block of rows with the keys' columns. -/
theorem pay15_val (a w j) : k0_pay15 (F := Ideal) a w j = ∑ k : Fin 1024, a (ix2 (j 0) k) * w (ix2 k (j 1)) := by pointwise [k0_pay15]

/-- The values' store. -/
theorem pay3_val (a w j) : k0_pay3 (F := Ideal) a w j = ∑ k : Fin 1024, a (ix2 (j 0) k) * w (ix2 k (j 1)) := by pointwise [k0_pay3]

/-- A head's store. -/
theorem pay9_val (a c sa sb w j) : k0_pay9 (F := Ideal) a c sa sb w j = ROT (fun d => k0_pay8 a w (ix2 (j 0) ⟨0 + d.val, by have := d.isLt; omega⟩)) (fun d => c (ix2 (j 0) d)) (fun d => sa (ix2 (j 0) d)) (fun d => sb (ix2 (j 0) d)) (j 1) := by
  pointwise [k0_pay9, ROT, pay5_id, pay6_id, pay7_id]

/-- A head's store. -/
theorem pay10_val (a c sa sb w j) : k0_pay10 (F := Ideal) a c sa sb w j = ROT (fun d => k0_pay8 a w (ix2 (j 0) ⟨128 + d.val, by have := d.isLt; omega⟩)) (fun d => c (ix2 (j 0) d)) (fun d => sa (ix2 (j 0) d)) (fun d => sb (ix2 (j 0) d)) (j 1) := by
  pointwise [k0_pay10, ROT, pay5_id, pay6_id, pay7_id]

/-- A head's store. -/
theorem pay13_val (a c sa sb w j) : k0_pay13 (F := Ideal) sb (k0_pay11 a w) (k0_pay12 a c sa w) 16#32 j = ROT (fun d => k0_pay8 a w (ix2 (j 0) ⟨256 + d.val, by have := d.isLt; omega⟩)) (fun d => c (ix2 (j 0) d)) (fun d => sa (ix2 (j 0) d)) (fun d => sb (ix2 (j 0) d)) (j 1) := by
  pointwise [k0_pay13, k0_pay11, k0_pay12, ROT, pay5_id, pay6_id, pay7_id]

/-- A head's store. -/
theorem pay14_val (c sa sb z j) : k0_pay14 (F := Ideal) c sa sb z j = ROT (fun d => z (ix2 (j 0) ⟨384 + d.val, by have := d.isLt; omega⟩)) (fun d => c (ix2 (j 0) d)) (fun d => sa (ix2 (j 0) d)) (fun d => sb (ix2 (j 0) d)) (j 1) := by
  pointwise [k0_pay14, ROT, pay5_id, pay6_id, pay7_id]

/-- A head's store. -/
theorem pay16_val (a c sa sb w j) : k0_pay16 (F := Ideal) a c sa sb w j = ROT (fun d => k0_pay15 a w (ix2 (j 0) ⟨0 + d.val, by have := d.isLt; omega⟩)) (fun d => c (ix2 (j 0) d)) (fun d => sa (ix2 (j 0) d)) (fun d => sb (ix2 (j 0) d)) (j 1) := by
  pointwise [k0_pay16, ROT, pay5_id, pay6_id, pay7_id]

/-- A head's store. -/
theorem pay17_val (a c sa sb w j) : k0_pay17 (F := Ideal) a c sa sb w j = ROT (fun d => k0_pay15 a w (ix2 (j 0) ⟨128 + d.val, by have := d.isLt; omega⟩)) (fun d => c (ix2 (j 0) d)) (fun d => sa (ix2 (j 0) d)) (fun d => sb (ix2 (j 0) d)) (j 1) := by
  pointwise [k0_pay17, ROT, pay5_id, pay6_id, pay7_id]

/-- A head's store. -/
theorem pay1_val (a c sa sb w j) : k0_pay1 (F := Ideal) c sa sb (k0_pay18 a w) j = ROT (fun d => k0_pay15 a w (ix2 (j 0) ⟨256 + d.val, by have := d.isLt; omega⟩)) (fun d => c (ix2 (j 0) d)) (fun d => sa (ix2 (j 0) d)) (fun d => sb (ix2 (j 0) d)) (j 1) := by
  pointwise [k0_pay1, k0_pay18, ROT, pay5_id, pay6_id, pay7_id]

/-- A head's store. -/
theorem pay2_val (c sa sb z j) : k0_pay2 (F := Ideal) c sa sb z j = ROT (fun d => z (ix2 (j 0) ⟨384 + d.val, by have := d.isLt; omega⟩)) (fun d => c (ix2 (j 0) d)) (fun d => sa (ix2 (j 0) d)) (fun d => sb (ix2 (j 0) d)) (j 1) := by
  pointwise [k0_pay2, ROT, pay5_id, pay6_id, pay7_id]

/-- The row of batch and position that a row of the call stands for. -/
def PLACE (r : Fin 8192) : Fin 8192 := r

/-- A point's rows are the normed rows of the stream. -/
theorem read_h (c : Dev nD) (t : Fin cfg0.N) (r : Fin 512) (k : Fin 1024) : iblk m c 0 t (ix2 r k)
    = X3 (normed (m ((c : Thread nD τ).loc main_arg0)) (m ((c : Thread nD τ).loc main_arg1))) (PLACE ⟨t.val * 512 + r.val, by have : t.val < 16 := t.isLt; omega⟩) k := by
  have e : ((cfg0.win 0).blk t).view.emb (ix2 r k) = ix2 ⟨t.val * 512 + r.val, by have : t.val < 16 := t.isLt; omega⟩ k := by
    blk_ext [idx_val t]
  refine (congrArg (V m c main_v14) e).trans ?_
  entry_read
  simp only [List.flatten_cons, List.flatten_nil, List.append_nil]
  entry_read
  unfold X3 PLACE
  pointwise [normed]

/-- A table at a point. -/
theorem read_t2 (c : Dev nD) (t : Fin cfg0.N) (r : Fin 512) (d : Fin 128) : iblk m c 2 t (ix2 r d)
    = TC (m ((c : Thread nD τ).loc main_arg3)) ⟨(PLACE ⟨t.val * 512 + r.val, by have : t.val < 16 := t.isLt; omega⟩).val % 2048, Nat.mod_lt _ (by omega)⟩ d := by
  have e : ((cfg0.win 2).blk t).view.emb (ix2 r d) = ix2 ⟨t.val % 4 * 512 + r.val, by omega⟩ d := by
    blk_ext [idx_val t]
  refine (congrArg (V m c main_v18) e).trans ?_
  show StableHlo.after (hostOps0 (F := Ideal)) (fun b => m (c, b)) (Proc.devRef .tc main_v18) _ = _
  rw [← List.take_append_drop 24 (hostOps0 (F := Ideal)), StableHlo.after_append]
  have ea : StableHlo.after ((hostOps0 (F := Ideal)).take 24) (fun b => m (c, b)) (Proc.devRef .tc main_arg3) = m ((c : Thread nD τ).loc main_arg3) := by
    simp only [hostOps0, List.take_succ_cons, List.take_zero]
    entry_read
    rfl
  have eb : StableHlo.after ((hostOps0 (F := Ideal)).take 24) (fun b => m (c, b)) (Proc.devRef .tc main_v15) = (broadcastInDim S2048x96 ![] bcast_S_S2048x96 (constant S_ .f32 0x3F800000#32) : FVec Ideal S2048x96 .f32) := by
    simp only [hostOps0, List.take_succ_cons, List.take_zero]
    entry_read
    rfl
  generalize StableHlo.after ((hostOps0 (F := Ideal)).take 24) (fun b => m (c, b)) = σ at ea eb ⊢
  simp only [hostOps0, List.drop_succ_cons, List.drop_zero]
  entry_read
  pointwise
  unfold TC PLACE
  by_cases h1 : d.val < 16
  · refine (dif_pos h1).trans (Eq.trans ?_ (dif_pos h1).symm)
    refine (congrFun ea _).trans ?_
    exact congrArg (fun p => m ((c : Thread nD τ).loc main_arg3) (ix2 p _)) (Fin.ext (by simp only []; omega))
  · refine (dif_neg h1).trans (Eq.trans ?_ (dif_neg h1).symm)
    by_cases h2 : d.val < 32
    · have h3 : d.val - 16 < 16 := by omega
      refine (dif_pos h3).trans (Eq.trans ?_ (dif_pos h2).symm)
      refine (congrFun ea _).trans ?_
      exact congrArg (fun p => m ((c : Thread nD τ).loc main_arg3) (ix2 p _)) (Fin.ext (by simp only []; omega))
    · have h3 : ¬ d.val - 16 < 16 := by omega
      refine (dif_neg h3).trans (Eq.trans ?_ (dif_neg h2).symm)
      refine (congrFun eb _).trans ?_
      pointwise

/-- A table at a point. -/
theorem read_t3 (c : Dev nD) (t : Fin cfg0.N) (r : Fin 512) (d : Fin 128) : iblk m c 3 t (ix2 r d)
    = TA (m ((c : Thread nD τ).loc main_arg4)) ⟨(PLACE ⟨t.val * 512 + r.val, by have : t.val < 16 := t.isLt; omega⟩).val % 2048, Nat.mod_lt _ (by omega)⟩ d := by
  have e : ((cfg0.win 3).blk t).view.emb (ix2 r d) = ix2 ⟨t.val % 4 * 512 + r.val, by omega⟩ d := by
    blk_ext [idx_val t]
  refine (congrArg (V m c main_v20) e).trans ?_
  show StableHlo.after (hostOps0 (F := Ideal)) (fun b => m (c, b)) (Proc.devRef .tc main_v20) _ = _
  rw [← List.take_append_drop 26 (hostOps0 (F := Ideal)), StableHlo.after_append]
  have ea : StableHlo.after ((hostOps0 (F := Ideal)).take 26) (fun b => m (c, b)) (Proc.devRef .tc main_v19) = (Host.negf (m ((c : Thread nD τ).loc main_arg4) : FVec Ideal S2048x16 .f32) : FVec Ideal S2048x16 .f32) := by
    simp only [hostOps0, List.take_succ_cons, List.take_zero]
    entry_read
    rfl
  have eb : StableHlo.after ((hostOps0 (F := Ideal)).take 26) (fun b => m (c, b)) (Proc.devRef .tc main_v16) = (broadcastInDim S2048x16 ![] bcast_S_S2048x16 (constant S_ .f32 0x00000000#32) : FVec Ideal S2048x16 .f32) := by
    simp only [hostOps0, List.take_succ_cons, List.take_zero]
    entry_read
    rfl
  have ec : StableHlo.after ((hostOps0 (F := Ideal)).take 26) (fun b => m (c, b)) (Proc.devRef .tc main_v17) = (broadcastInDim S2048x96 ![] bcast_S_S2048x96 (constant S_ .f32 0x00000000#32) : FVec Ideal S2048x96 .f32) := by
    simp only [hostOps0, List.take_succ_cons, List.take_zero]
    entry_read
    rfl
  generalize StableHlo.after ((hostOps0 (F := Ideal)).take 26) (fun b => m (c, b)) = σ at ea eb ec ⊢
  simp only [hostOps0, List.drop_succ_cons, List.drop_zero]
  entry_read
  pointwise
  unfold TA PLACE
  by_cases h1 : d.val < 16
  · refine (dif_pos h1).trans (Eq.trans ?_ (dif_pos h1).symm)
    refine (congrFun ea _).trans ?_
    exact congrArg (fun p => -(show EReal from m ((c : Thread nD τ).loc main_arg4) (ix2 p _))) (Fin.ext (by simp only []; omega))
  · refine (dif_neg h1).trans (Eq.trans ?_ (dif_neg h1).symm)
    by_cases h3 : d.val - 16 < 16
    · refine (dif_pos h3).trans ((congrFun eb _).trans ?_)
      pointwise
    · refine (dif_neg h3).trans ((congrFun ec _).trans ?_)
      pointwise

/-- A table at a point. -/
theorem read_t4 (c : Dev nD) (t : Fin cfg0.N) (r : Fin 512) (d : Fin 128) : iblk m c 4 t (ix2 r d)
    = TB (m ((c : Thread nD τ).loc main_arg4)) ⟨(PLACE ⟨t.val * 512 + r.val, by have : t.val < 16 := t.isLt; omega⟩).val % 2048, Nat.mod_lt _ (by omega)⟩ d := by
  have e : ((cfg0.win 4).blk t).view.emb (ix2 r d) = ix2 ⟨t.val % 4 * 512 + r.val, by omega⟩ d := by
    blk_ext [idx_val t]
  refine (congrArg (V m c main_v21) e).trans ?_
  show StableHlo.after (hostOps0 (F := Ideal)) (fun b => m (c, b)) (Proc.devRef .tc main_v21) _ = _
  rw [← List.take_append_drop 27 (hostOps0 (F := Ideal)), StableHlo.after_append]
  have ea : StableHlo.after ((hostOps0 (F := Ideal)).take 27) (fun b => m (c, b)) (Proc.devRef .tc main_v16) = (broadcastInDim S2048x16 ![] bcast_S_S2048x16 (constant S_ .f32 0x00000000#32) : FVec Ideal S2048x16 .f32) := by
    simp only [hostOps0, List.take_succ_cons, List.take_zero]
    entry_read
    rfl
  have eb2 : StableHlo.after ((hostOps0 (F := Ideal)).take 27) (fun b => m (c, b)) (Proc.devRef .tc main_arg4) = m ((c : Thread nD τ).loc main_arg4) := by
    simp only [hostOps0, List.take_succ_cons, List.take_zero]
    entry_read
    rfl
  have ec : StableHlo.after ((hostOps0 (F := Ideal)).take 27) (fun b => m (c, b)) (Proc.devRef .tc main_v17) = (broadcastInDim S2048x96 ![] bcast_S_S2048x96 (constant S_ .f32 0x00000000#32) : FVec Ideal S2048x96 .f32) := by
    simp only [hostOps0, List.take_succ_cons, List.take_zero]
    entry_read
    rfl
  generalize StableHlo.after ((hostOps0 (F := Ideal)).take 27) (fun b => m (c, b)) = σ at ea eb2 ec ⊢
  simp only [hostOps0, List.drop_succ_cons, List.drop_zero]
  entry_read
  pointwise
  unfold TB PLACE
  by_cases h1 : d.val < 16
  · refine (dif_pos h1).trans (Eq.trans ?_ (dif_pos h1).symm)
    refine (congrFun ea _).trans ?_
    pointwise
  · refine (dif_neg h1).trans (Eq.trans ?_ (dif_neg h1).symm)
    by_cases h2 : d.val < 32
    · have h3 : d.val - 16 < 16 := by omega
      refine (dif_pos h3).trans (Eq.trans ?_ (dif_pos h2).symm)
      refine (congrFun eb2 _).trans ?_
      exact congrArg (fun p => m ((c : Thread nD τ).loc main_arg4) (ix2 p _)) (Fin.ext (by simp only []; omega))
    · have h3 : ¬ d.val - 16 < 16 := by omega
      refine (dif_neg h3).trans (Eq.trans ?_ (dif_neg h2).symm)
      refine (congrFun ec _).trans ?_
      pointwise

/-- The weight at a point. -/
theorem read_w (c : Dev nD) (t : Fin cfg0.N) (k : Fin 1024) (n : Fin 1536) : iblk m c 1 t (ix2 k n)
    = m ((c : Thread nD τ).loc main_arg2) (ix2 k (COL 0 n)) := by
  refine (congrArg (V m c main_v33) (?_ : _ = ix2 k ⟨3072 + n.val, by omega⟩)).trans ?_
  · blk_ext [idx_val t]
  show StableHlo.after (hostOps0 (F := Ideal)) (fun b => m (c, b)) (Proc.devRef .tc main_v33) _ = _
  rw [← List.take_append_drop 38 (hostOps0 (F := Ideal)), StableHlo.after_append]
  have e1 : StableHlo.after ((hostOps0 (F := Ideal)).take 38) (fun b => m (c, b)) (Proc.devRef .tc main_v23)
      = extractStridedSlice S1024x512 ![0, 0] (m ((c : Thread nD τ).loc main_arg2)) slices_S1024x7680_S1024x512_0_0 := by
    simp only [hostOps0, List.take_succ_cons, List.take_zero]
    entry_read
    rfl
  have e2 : StableHlo.after ((hostOps0 (F := Ideal)).take 38) (fun b => m (c, b)) (Proc.devRef .tc main_v24)
      = extractStridedSlice S1024x512 ![0, 1536] (m ((c : Thread nD τ).loc main_arg2)) slices_S1024x7680_S1024x512_0_1536 := by
    simp only [hostOps0, List.take_succ_cons, List.take_zero]
    entry_read
    rfl
  have e3 : StableHlo.after ((hostOps0 (F := Ideal)).take 38) (fun b => m (c, b)) (Proc.devRef .tc main_v25)
      = extractStridedSlice S1024x512 ![0, 3072] (m ((c : Thread nD τ).loc main_arg2)) slices_S1024x7680_S1024x512_0_3072 := by
    simp only [hostOps0, List.take_succ_cons, List.take_zero]
    entry_read
    rfl
  generalize StableHlo.after ((hostOps0 (F := Ideal)).take 38) (fun b => m (c, b)) = σ at e1 e2 e3 ⊢
  simp only [hostOps0, List.drop_succ_cons, List.drop_zero]
  entry_read
  pointwise
  have hn := n.isLt
  by_cases h1 : n.val < 512
  · repeat refine (dif_neg (by omega)).trans ?_
    try refine (dif_pos (by omega)).trans ?_
    refine (congrFun e1 _).trans ?_
    pointwise
    refine congrArg (fun q => m ((c : Thread nD τ).loc main_arg2) (ix2 k q)) (Fin.ext ?_)
    simp only [COL]
    omega
  · by_cases h2 : n.val < 1024
    · repeat refine (dif_neg (by omega)).trans ?_
      try refine (dif_pos (by omega)).trans ?_
      refine (congrFun e2 _).trans ?_
      pointwise
      refine congrArg (fun q => m ((c : Thread nD τ).loc main_arg2) (ix2 k q)) (Fin.ext ?_)
      simp only [COL]
      omega
    · repeat refine (dif_neg (by omega)).trans ?_
      try refine (dif_pos (by omega)).trans ?_
      refine (congrFun e3 _).trans ?_
      pointwise
      refine congrArg (fun q => m ((c : Thread nD τ).loc main_arg2) (ix2 k q)) (Fin.ext ?_)
      simp only [COL]
      omega

/-- A head's rotation at a point. -/
theorem tile (c : Dev nD) (t : Fin cfg0.N) (r : Fin 512) (n : Fin 1536) (hn : n.val < 1024) :
    ROT (fun d => ∑ k : Fin 1024, (show EReal from iblk m c 0 t (ix2 r k)) * (show EReal from iblk m c 1 t (ix2 k ⟨n.val / 128 * 128 + d.val, by have := d.isLt; omega⟩)))
      (fun d => iblk m c 2 t (ix2 r d)) (fun d => iblk m c 3 t (ix2 r d)) (fun d => iblk m c 4 t (ix2 r d)) ⟨n.val % 128, Nat.mod_lt _ (by omega)⟩
    = QKV 0 (m ((c : Thread nD τ).loc main_arg0)) (m ((c : Thread nD τ).loc main_arg1)) (m ((c : Thread nD τ).loc main_arg2)) (m ((c : Thread nD τ).loc main_arg3)) (m ((c : Thread nD τ).loc main_arg4)) (PLACE ⟨t.val * 512 + r.val, by have : t.val < 16 := t.isLt; omega⟩) n := by
  unfold QKV
  rw [dif_pos hn]
  refine (rot_table _ _ _ _ _ _ _ _ (read_t2 m c t r _) (read_t3 m c t r _) (read_t4 m c t r _)).trans ?_
  refine congrArg (fun z => ROPE z _ _ _) (funext fun d => ?_)
  exact Finset.sum_congr rfl fun k _ => congrArg₂ (· * ·) (read_h m c t r k) (read_w m c t k _)

/-- What a point leaves in its block is the reference's values at the block's place. -/
theorem point (c : Dev nD) (t : Fin cfg0.N) (y : S512x1536.Idx) : outsAt0 m c t y
    = QKV 0 (m ((c : Thread nD τ).loc main_arg0)) (m ((c : Thread nD τ).loc main_arg1)) (m ((c : Thread nD τ).loc main_arg2)) (m ((c : Thread nD τ).loc main_arg3)) (m ((c : Thread nD τ).loc main_arg4)) (PLACE ⟨t.val * 512 + (y 0).val, by have : t.val < 16 := t.isLt; have h1 : (y 0).val < 512 := (y 0).isLt; omega⟩) (y 1) := by
  unfold outsAt0
  frame_out
  canon_tiles x h using View.cover_of_tiledBy (s := S512x1536) _ ![512, 128] (by sl_kernel_rfl) y
  all_goals
    have ht : t.val < 16 := t.isLt
    have ex : (⟨t.val * 512 + (x 0).val, by omega⟩ : Fin 8192) = ⟨t.val * 512 + (y 0).val, by omega⟩ := Fin.ext (congrArg (fun n => t.val * 512 + n) h0.symm)
    refine Eq.trans ?_ (congrArg (fun r => QKV 0 (m ((c : Thread nD τ).loc main_arg0)) (m ((c : Thread nD τ).loc main_arg1)) (m ((c : Thread nD τ).loc main_arg2)) (m ((c : Thread nD τ).loc main_arg3)) (m ((c : Thread nD τ).loc main_arg4)) (PLACE r) (y 1)) ex)
    try rw [pay4_id]
    try rw [pay5_id]
    try rw [pay6_id]
    try rw [pay7_id]
  case piece0 =>
    rw [pay3_val]
    unfold QKV
    rw [dif_neg (by omega)]
    refine Finset.sum_congr rfl fun k _ => congrArg₂ (· * ·) (read_h m c t (x 0) k) ?_
    pointwise
    refine (read_w m c t k _).trans ?_
    exact congrArg (fun n => m ((c : Thread nD τ).loc main_arg2) (ix2 k (COL 0 n))) (Fin.ext (by simp only []; omega))
  all_goals
    refine Eq.trans ?_ (tile m c t (x 0) (y 1) (by omega))
    first | rw [pay1_val] | rw [pay2_val] | rw [pay9_val] | rw [pay10_val] | rw [pay13_val] | rw [pay14_val] | rw [pay16_val] | rw [pay17_val]
    refine rot_congr _ _ _ _ _ _ _ (fun i => ?_) (Fin.ext (by simp only []; omega))
    have hi : i.val < 128 := i.isLt
    first | rw [pay8_val] | rw [pay15_val]
    refine Finset.sum_congr rfl fun k _ => congrArg₂ (· * ·) rfl ?_
    pointwise
    exact congrArg (fun n => iblk m c 1 t (ix2 k n)) (Fin.ext (by simp only []; omega))

/-- Where the result's block lies. -/
theorem emb_r (t : Fin cfg0.N) (y : S512x1536.Idx) : ((cfg0.win 5).blk t).view.emb y
    = ix2 ⟨t.val * 512 + (y 0).val, by have : t.val < 16 := t.isLt; have h1 : (y 0).val < 512 := (y 0).isLt; omega⟩ (y 1) := by
  blk_ext [idx_val t]

/-- The result, in the rows the call keeps. -/
def RES (X : FVec Ideal Cert.Reference9Ideal.S4x2048x1024 .f32) (g : FVec Ideal Cert.Reference9Ideal.S1024 .f32)
    (w : FVec Ideal Cert.Reference19Ideal.S1024x7680 .f32) (cs sn : FVec Ideal Cert.Reference19Ideal.S2048x16 .f32) : FVec Ideal S8192x1536 .bf16 :=
  fun j => QKV 0 X g w cs sn (PLACE (j 0)) (j 1)

/-- The kernel's result array ends holding the rotated queries and keys and the values. -/
theorem final (c : Dev nD) : (dats m 0 c).arrAt 5 (cfgs 0).N = RES (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  exact (point m c t y).trans (congrArg (RES _ _ _ _ _) (emb_r t y)).symm

/-- The head group's part of an array over all groups, its heads side by side. -/
def PICK (y : FVec Ideal Cert.Reference19Ideal.S4x2048x3x4x128 .f32) : FVec Ideal Cert.Reference19Ideal.S4x2048x512 .f32 :=
  shapeCast Cert.Reference19Ideal.S4x2048x512 (shapeCast Cert.Reference19Ideal.S4x2048x4x128 (extractStridedSlice Cert.Reference19Ideal.S4x2048x1x4x128 ![0, 0, 0, 0, 0] y Cert.Reference19Ideal.Gen.slices_S4x2048x3x4x128_S4x2048x1x4x128_0_0_0_0_0)
    Cert.Reference19Ideal.Gen.shapeCasts_S4x2048x1x4x128_S4x2048x4x128) Cert.Reference19Ideal.Gen.shapeCasts_S4x2048x4x128_S4x2048x512

/-- An entry of it. -/
theorem pick_val (y) (b : Fin 4) (s : Fin 2048) (n : Fin 512) : PICK y (ix3 b s n) = y (ix5 b s 0 ⟨n.val / 128, by omega⟩ ⟨n.val % 128, by omega⟩) := by
  pointwise [PICK]

/-- The reference's result. -/
def REFV (X : FVec Ideal Cert.Reference9Ideal.S4x2048x1024 .f32) (g : FVec Ideal Cert.Reference9Ideal.S1024 .f32)
    (w : FVec Ideal Cert.Reference19Ideal.S1024x7680 .f32) (cs sn : FVec Ideal Cert.Reference19Ideal.S2048x16 .f32) : FVec Ideal Cert.Reference19Ideal.S4x2048x1536 .bf16 :=
  OUT (PICK (CAT (R1 (PART0 (ZREF X g w)) cs sn) (R2 (PART0 (ZREF X g w)) cs sn) (R3 (PART0 (ZREF X g w)))))
    (PICK (CAT (R1 (PART1 (ZREF X g w)) cs sn) (R2 (PART1 (ZREF X g w)) cs sn) (R3 (PART1 (ZREF X g w))))) (PICK (PART2 (ZREF X g w)))

/-- An entry of it. -/
theorem ref_val (X g w cs sn) (b : Fin 4) (s : Fin 2048) (n : Fin 1536) (hb : b.val * 2048 + s.val < 8192) : REFV X g w cs sn (ix3 b s n) = QKV 0 X g w cs sn ⟨b.val * 2048 + s.val, hb⟩ n := by
  have hs : (⟨(b.val * 2048 + s.val) % 2048, Nat.mod_lt _ (by omega)⟩ : Fin 2048) = s := Fin.ext (by simp only []; omega)
  refine (out_val _ _ _ b s n).trans ?_
  unfold QKV
  by_cases h1 : n.val < 512
  · refine (dif_pos h1).trans (Eq.trans ?_ (dif_pos (by omega)).symm)
    refine (pick_val _ b s _).trans ((rope_val _ _ _ b s _ _ _).trans ?_)
    rw [hs]
    refine congr (congrArg (fun z => ROPE z _ _) (funext fun d => ?_)) (Fin.ext (by simp only []))
    refine (part0_val _ b s _ _ d).trans ((zref_val X g w b s _ hb).trans (congrArg (ZC X g w _) (Fin.ext ?_)))
    simp only [COL]
    omega
  · refine (dif_neg h1).trans ?_
    by_cases h2 : n.val < 1024
    · have h3 : n.val - 512 < 512 := by omega
      refine (dif_pos h3).trans (Eq.trans ?_ (dif_pos h2).symm)
      refine (pick_val _ b s _).trans ((rope_val _ _ _ b s _ _ _).trans ?_)
      rw [hs]
      refine congr (congrArg (fun z => ROPE z _ _) (funext fun d => ?_)) (Fin.ext (by simp only []; omega))
      refine (part1_val _ b s _ _ d).trans ((zref_val X g w b s _ hb).trans (congrArg (ZC X g w _) (Fin.ext ?_)))
      simp only [COL]
      omega
    · have h3 : ¬ n.val - 512 < 512 := by omega
      refine (dif_neg h3).trans (Eq.trans ?_ (dif_neg h2).symm)
      refine (pick_val _ b s _).trans ((part2_val _ b s _ _ _).trans ((zref_val X g w b s _ hb).trans (congrArg (ZC X g w _) (Fin.ext ?_))))
      simp only [COL]
      omega

/-- The kernel's rows, brought back to batch and position, are the reference's result. -/
theorem back (X g w cs sn) : REFV X g w cs sn = shapeCast S4x2048x1536 (RES X g w cs sn) shapeCasts_S8192x1536_S4x2048x1536 := by
  funext j
  rw [eq_ix3 j]
  refine (ref_val X g w cs sn (j 0) (j 1) (j 2) (by have h0 : (j 0).val < 4 := (j 0).isLt; have h1 : (j 1).val < 2048 := (j 1).isLt; omega)).trans ?_
  pointwise [RES, PLACE]

set_option maxHeartbeats 2000000 in
/-- The kernel's result and the reference's, read as real numbers, are equal. -/
theorem algebraic [hK : Cert.Kernel19Ideal.Facts] : Cert.algebraic_Kernel19Ideal_Reference19Ideal := by
  pair_intro
  · run_from Cert.Kernel19Ideal.Gen.run_main m g
    · exact W_main_arg0 m (dats m) c
    · exact W_main_arg1 m (dats m) c
    · exact W_main_arg2 m (dats m) c
    · exact W_main_arg3 m (dats m) c
    · exact W_main_arg4 m (dats m) c
  · refine θ_run_mono (StableHlo.run_hlo _ _ (by hlo_seq) (by decide) (by decide) (by simp)
      (by intro _ h; (repeat (cases h with | head => rfl | tail _ h => ?_)); exact nomatch h) _ _) ?_
    intro r hr c
    refine ⟨(hr c _).trans (Eq.trans (b := REFV (m ((c : Thread nD τ).loc main_arg0)) (m ((c : Thread nD τ).loc main_arg1)) (m ((c : Thread nD τ).loc main_arg2)) (m ((c : Thread nD τ).loc main_arg3)) (m ((c : Thread nD τ).loc main_arg4))) ?_ ?_), (hr c _).trans ?_, (hr c _).trans ?_, (hr c _).trans ?_, (hr c _).trans ?_, (hr c _).trans ?_⟩
    · clear hr
      refine after_cut 17 _ _ _ _ fun σ hσ => ?_
      simp only [List.take_succ_cons, List.take_zero] at hσ
      simp only [List.drop_succ_cons, List.drop_zero]
      have e13 : σ (Proc.devRef .tc Cert.Reference19Ideal.main_v13) = ZREF (m' ((c : Thread Cert.Reference19Ideal.nD Cert.Reference19Ideal.τ).loc Cert.Reference19Ideal.main_arg0)) (m' ((c : Thread Cert.Reference19Ideal.nD Cert.Reference19Ideal.τ).loc Cert.Reference19Ideal.main_arg1)) (m' ((c : Thread Cert.Reference19Ideal.nD Cert.Reference19Ideal.τ).loc Cert.Reference19Ideal.main_arg2)) := by
        rw [hσ]
        entry_read
        rfl
      have e3 : σ (Proc.devRef .tc Cert.Reference19Ideal.main_arg3) = m' ((c : Thread Cert.Reference19Ideal.nD Cert.Reference19Ideal.τ).loc Cert.Reference19Ideal.main_arg3) := by
        rw [hσ]
        entry_read
        rfl
      have e4 : σ (Proc.devRef .tc Cert.Reference19Ideal.main_arg4) = m' ((c : Thread Cert.Reference19Ideal.nD Cert.Reference19Ideal.τ).loc Cert.Reference19Ideal.main_arg4) := by
        rw [hσ]
        entry_read
        rfl
      clear hσ
      rw [(hagree c).1, (hagree c).2.1, (hagree c).2.2.1] at e13
      rw [(hagree c).2.2.2.1] at e3
      rw [(hagree c).2.2.2.2] at e4
      refine after_cut 25 _ _ _ _ fun ρ hρ => ?_
      simp only [List.take_succ_cons, List.take_zero] at hρ
      simp only [List.drop_succ_cons, List.drop_zero]
      have f30 : ρ (Proc.devRef .tc Cert.Reference19Ideal.main_v30) = R1 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4)) := by
        refine Eq.trans (b := R1 (PART0 (σ (Proc.devRef .tc Cert.Reference19Ideal.main_v13))) (σ (Proc.devRef .tc Cert.Reference19Ideal.main_arg3)) (σ (Proc.devRef .tc Cert.Reference19Ideal.main_arg4))) ?_ (by rw [e13, e3, e4])
        rw [hρ]
        entry_read
        rfl
      have f37 : ρ (Proc.devRef .tc Cert.Reference19Ideal.main_v37) = R2 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4)) := by
        refine Eq.trans (b := R2 (PART0 (σ (Proc.devRef .tc Cert.Reference19Ideal.main_v13))) (σ (Proc.devRef .tc Cert.Reference19Ideal.main_arg3)) (σ (Proc.devRef .tc Cert.Reference19Ideal.main_arg4))) ?_ (by rw [e13, e3, e4])
        rw [hρ]
        entry_read
        rfl
      have f38 : ρ (Proc.devRef .tc Cert.Reference19Ideal.main_v38) = R3 (PART0 (ZREF (m ((c : Thread nD τ).loc main_arg0)) (m ((c : Thread nD τ).loc main_arg1)) (m ((c : Thread nD τ).loc main_arg2)))) := by
        refine Eq.trans (b := R3 (PART0 (σ (Proc.devRef .tc Cert.Reference19Ideal.main_v13)))) ?_ (by rw [e13])
        rw [hρ]
        entry_read
        rfl
      have f17 : ρ (Proc.devRef .tc Cert.Reference19Ideal.main_v17) = PART1 (ZREF (m ((c : Thread nD τ).loc main_arg0)) (m ((c : Thread nD τ).loc main_arg1)) (m ((c : Thread nD τ).loc main_arg2))) := by
        refine Eq.trans (b := PART1 (σ (Proc.devRef .tc Cert.Reference19Ideal.main_v13))) ?_ (by rw [e13])
        rw [hρ]
        entry_read
        rfl
      have f19 : ρ (Proc.devRef .tc Cert.Reference19Ideal.main_v19) = PART2 (ZREF (m ((c : Thread nD τ).loc main_arg0)) (m ((c : Thread nD τ).loc main_arg1)) (m ((c : Thread nD τ).loc main_arg2))) := by
        refine Eq.trans (b := PART2 (σ (Proc.devRef .tc Cert.Reference19Ideal.main_v13))) ?_ (by rw [e13])
        rw [hρ]
        entry_read
        rfl
      have f3 : ρ (Proc.devRef .tc Cert.Reference19Ideal.main_arg3) = (m ((c : Thread nD τ).loc main_arg3)) := by
        refine Eq.trans (b := (σ (Proc.devRef .tc Cert.Reference19Ideal.main_arg3))) ?_ (by rw [e3])
        rw [hρ]
        entry_read
        rfl
      have f4 : ρ (Proc.devRef .tc Cert.Reference19Ideal.main_arg4) = (m ((c : Thread nD τ).loc main_arg4)) := by
        refine Eq.trans (b := (σ (Proc.devRef .tc Cert.Reference19Ideal.main_arg4))) ?_ (by rw [e4])
        rw [hρ]
        entry_read
        rfl
      clear hρ e13 e3 e4
      refine after_cut 20 _ _ _ _ fun υ hυ => ?_
      simp only [List.take_succ_cons, List.take_zero] at hυ
      simp only [List.drop_succ_cons, List.drop_zero]
      have g39 : υ (Proc.devRef .tc Cert.Reference19Ideal.main_v39) = CAT (R1 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4))) (R2 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4))) (R3 (PART0 (ZREF (m ((c : Thread nD τ).loc main_arg0)) (m ((c : Thread nD τ).loc main_arg1)) (m ((c : Thread nD τ).loc main_arg2))))) := by
        refine Eq.trans (b := CAT (ρ (Proc.devRef .tc Cert.Reference19Ideal.main_v30)) (ρ (Proc.devRef .tc Cert.Reference19Ideal.main_v37)) (ρ (Proc.devRef .tc Cert.Reference19Ideal.main_v38))) ?_ (by rw [f30, f37, f38])
        rw [hυ]
        entry_read
        rfl
      have g50 : υ (Proc.devRef .tc Cert.Reference19Ideal.main_v50) = R1 (PART1 (ZREF (m ((c : Thread nD τ).loc main_arg0)) (m ((c : Thread nD τ).loc main_arg1)) (m ((c : Thread nD τ).loc main_arg2)))) (m ((c : Thread nD τ).loc main_arg3)) (m ((c : Thread nD τ).loc main_arg4)) := by
        refine Eq.trans (b := R1 (ρ (Proc.devRef .tc Cert.Reference19Ideal.main_v17)) (ρ (Proc.devRef .tc Cert.Reference19Ideal.main_arg3)) (ρ (Proc.devRef .tc Cert.Reference19Ideal.main_arg4))) ?_ (by rw [f17, f3, f4])
        rw [hυ]
        entry_read
        rfl
      have g57 : υ (Proc.devRef .tc Cert.Reference19Ideal.main_v57) = R2 (PART1 (ZREF (m ((c : Thread nD τ).loc main_arg0)) (m ((c : Thread nD τ).loc main_arg1)) (m ((c : Thread nD τ).loc main_arg2)))) (m ((c : Thread nD τ).loc main_arg3)) (m ((c : Thread nD τ).loc main_arg4)) := by
        refine Eq.trans (b := R2 (ρ (Proc.devRef .tc Cert.Reference19Ideal.main_v17)) (ρ (Proc.devRef .tc Cert.Reference19Ideal.main_arg3)) (ρ (Proc.devRef .tc Cert.Reference19Ideal.main_arg4))) ?_ (by rw [f17, f3, f4])
        rw [hυ]
        entry_read
        rfl
      have g58 : υ (Proc.devRef .tc Cert.Reference19Ideal.main_v58) = R3 (PART1 (ZREF (m ((c : Thread nD τ).loc main_arg0)) (m ((c : Thread nD τ).loc main_arg1)) (m ((c : Thread nD τ).loc main_arg2)))) := by
        refine Eq.trans (b := R3 (ρ (Proc.devRef .tc Cert.Reference19Ideal.main_v17))) ?_ (by rw [f17])
        rw [hυ]
        entry_read
        rfl
      have g19 : υ (Proc.devRef .tc Cert.Reference19Ideal.main_v19) = (PART2 (ZREF (m ((c : Thread nD τ).loc main_arg0)) (m ((c : Thread nD τ).loc main_arg1)) (m ((c : Thread nD τ).loc main_arg2)))) := by
        refine Eq.trans (b := (ρ (Proc.devRef .tc Cert.Reference19Ideal.main_v19))) ?_ (by rw [f19])
        rw [hυ]
        entry_read
        rfl
      clear hυ f30 f37 f38 f17 f19 f3 f4
      refine after_cut 10 _ _ _ _ fun ω hω => ?_
      simp only [List.take_succ_cons, List.take_zero] at hω
      simp only [List.drop_succ_cons, List.drop_zero]
      have k62 : ω (Proc.devRef .tc Cert.Reference19Ideal.main_v62) = PICK (CAT (R1 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4))) (R2 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4))) (R3 (PART0 (ZREF (m ((c : Thread nD τ).loc main_arg0)) (m ((c : Thread nD τ).loc main_arg1)) (m ((c : Thread nD τ).loc main_arg2)))))) := by
        refine Eq.trans (b := PICK (υ (Proc.devRef .tc Cert.Reference19Ideal.main_v39))) ?_ (by rw [g39])
        rw [hω]
        entry_read
        rfl
      have k65 : ω (Proc.devRef .tc Cert.Reference19Ideal.main_v65) = PICK (CAT (R1 (PART1 (ZREF (m ((c : Thread nD τ).loc main_arg0)) (m ((c : Thread nD τ).loc main_arg1)) (m ((c : Thread nD τ).loc main_arg2)))) (m ((c : Thread nD τ).loc main_arg3)) (m ((c : Thread nD τ).loc main_arg4))) (R2 (PART1 (ZREF (m ((c : Thread nD τ).loc main_arg0)) (m ((c : Thread nD τ).loc main_arg1)) (m ((c : Thread nD τ).loc main_arg2)))) (m ((c : Thread nD τ).loc main_arg3)) (m ((c : Thread nD τ).loc main_arg4))) (R3 (PART1 (ZREF (m ((c : Thread nD τ).loc main_arg0)) (m ((c : Thread nD τ).loc main_arg1)) (m ((c : Thread nD τ).loc main_arg2)))))) := by
        refine Eq.trans (b := PICK (CAT (υ (Proc.devRef .tc Cert.Reference19Ideal.main_v50)) (υ (Proc.devRef .tc Cert.Reference19Ideal.main_v57)) (υ (Proc.devRef .tc Cert.Reference19Ideal.main_v58)))) ?_ (by rw [g50, g57, g58])
        rw [hω]
        entry_read
        rfl
      have k68 : ω (Proc.devRef .tc Cert.Reference19Ideal.main_v68) = PICK (PART2 (ZREF (m ((c : Thread nD τ).loc main_arg0)) (m ((c : Thread nD τ).loc main_arg1)) (m ((c : Thread nD τ).loc main_arg2)))) := by
        refine Eq.trans (b := PICK (υ (Proc.devRef .tc Cert.Reference19Ideal.main_v19))) ?_ (by rw [g19])
        rw [hω]
        entry_read
        rfl
      clear hω g39 g50 g57 g58 g19
      refine Eq.trans (b := OUT (ω (Proc.devRef .tc Cert.Reference19Ideal.main_v62)) (ω (Proc.devRef .tc Cert.Reference19Ideal.main_v65)) (ω (Proc.devRef .tc Cert.Reference19Ideal.main_v68))) ?_ (by rw [k62, k65, k68]; rfl)
      entry_read
      rfl
    · unfold Pipeline.afterTail₀
      simp only [List.flatten_cons, List.flatten_nil, List.append_nil]
      entry_read
      rw [Pipeline.withArrays_arr spec0 (by decide +kernel) c (V0 m c) (fun w => (dats m 0 c).arrAt w (cfgs 0).N) 5, final]
      exact back _ _ _ _ _
    all_goals
      clear hr
      refine after_cut 25 _ _ _ _ fun σ hσ => ?_
      simp only [List.take_succ_cons, List.take_zero] at hσ
      simp only [List.drop_succ_cons, List.drop_zero]
      refine after_cut 25 _ _ _ _ fun ρ hρ => ?_
      simp only [List.take_succ_cons, List.take_zero] at hρ
      simp only [List.drop_succ_cons, List.drop_zero]
      entry_read
      rw [hρ]
      entry_read
      rw [hσ]
      entry_read
      rfl

end Cert.Kernel19Ideal.Value
-- ==== Proof.Heads4Value.lean ====
/-
The queries, keys and values of the head group of dilation 4, with the rotary embedding: the call and the reference agree.
The call keeps the rows of one remainder next to each other.
-/
module

public import proofs.«01_k».proof.Defs
public import proofs.«01_k».proof.Proof.Gen.Kernel20Ideal.Frame
public import proofs.«01_k».proof.Proof.Gen.Reference20Ideal
public import proofs.«01_k».proof.Proof.RotaryValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel20Ideal.Value
open Cert.Kernel20Ideal Cert.Kernel20Ideal.Gen
open Cert.Kernel2Ideal.Value (normed)
open Cert.Kernel9Ideal.Value (X3 X3_fold normed_val)
open Cert.Rotary

variable (m : (ℓ : Loc nD τ sig) → Buf (Elt Ideal) ℓ)

/-- The windows' block indices, at every point. -/
theorem idx_val : ∀ t : Fin cfg0.N, win0_0.index t = ![t.val, 0] ∧ win0_1.index t = ![0, 3] ∧ win0_2.index t = ![t.val % 4, 0]
    ∧ win0_3.index t = ![t.val % 4, 0] ∧ win0_4.index t = ![t.val % 4, 0] ∧ win0_5.index t = ![t.val, 0] :=
  (by decide +kernel : ∀ t : Fin grid0.N, _)

/-- A block passed through a cast of its shape to itself. -/
theorem pay4_id (a) : k0_pay4 (F := Ideal) a = a := by funext j; pointwise [k0_pay4]
/-- A table's block likewise. -/
theorem pay5_id (a) : k0_pay5 (F := Ideal) a = a := by funext j; pointwise [k0_pay5]
/-- A table's block likewise. -/
theorem pay6_id (a) : k0_pay6 (F := Ideal) a = a := by funext j; pointwise [k0_pay6]
/-- A table's block likewise. -/
theorem pay7_id (a) : k0_pay7 (F := Ideal) a = a := by funext j; pointwise [k0_pay7]

/-- The product of a block of rows with the queries' columns. -/
theorem pay8_val (a w j) : k0_pay8 (F := Ideal) a w j = ∑ k : Fin 1024, a (ix2 (j 0) k) * w (ix2 k (j 1)) := by pointwise [k0_pay8, pay4_id]

/-- The product of a block of rows with the keys' columns. -/
theorem pay15_val (a w j) : k0_pay15 (F := Ideal) a w j = ∑ k : Fin 1024, a (ix2 (j 0) k) * w (ix2 k (j 1)) := by pointwise [k0_pay15]

/-- The values' store. -/
theorem pay3_val (a w j) : k0_pay3 (F := Ideal) a w j = ∑ k : Fin 1024, a (ix2 (j 0) k) * w (ix2 k (j 1)) := by pointwise [k0_pay3]

/-- A head's store. -/
theorem pay9_val (a c sa sb w j) : k0_pay9 (F := Ideal) a c sa sb w j = ROT (fun d => k0_pay8 a w (ix2 (j 0) ⟨0 + d.val, by have := d.isLt; omega⟩)) (fun d => c (ix2 (j 0) d)) (fun d => sa (ix2 (j 0) d)) (fun d => sb (ix2 (j 0) d)) (j 1) := by
  pointwise [k0_pay9, ROT, pay5_id, pay6_id, pay7_id]

/-- A head's store. -/
theorem pay10_val (a c sa sb w j) : k0_pay10 (F := Ideal) a c sa sb w j = ROT (fun d => k0_pay8 a w (ix2 (j 0) ⟨128 + d.val, by have := d.isLt; omega⟩)) (fun d => c (ix2 (j 0) d)) (fun d => sa (ix2 (j 0) d)) (fun d => sb (ix2 (j 0) d)) (j 1) := by
  pointwise [k0_pay10, ROT, pay5_id, pay6_id, pay7_id]

/-- A head's store. -/
theorem pay13_val (a c sa sb w j) : k0_pay13 (F := Ideal) sb (k0_pay11 a w) (k0_pay12 a c sa w) 16#32 j = ROT (fun d => k0_pay8 a w (ix2 (j 0) ⟨256 + d.val, by have := d.isLt; omega⟩)) (fun d => c (ix2 (j 0) d)) (fun d => sa (ix2 (j 0) d)) (fun d => sb (ix2 (j 0) d)) (j 1) := by
  pointwise [k0_pay13, k0_pay11, k0_pay12, ROT, pay5_id, pay6_id, pay7_id]

/-- A head's store. -/
theorem pay14_val (c sa sb z j) : k0_pay14 (F := Ideal) c sa sb z j = ROT (fun d => z (ix2 (j 0) ⟨384 + d.val, by have := d.isLt; omega⟩)) (fun d => c (ix2 (j 0) d)) (fun d => sa (ix2 (j 0) d)) (fun d => sb (ix2 (j 0) d)) (j 1) := by
  pointwise [k0_pay14, ROT, pay5_id, pay6_id, pay7_id]

/-- A head's store. -/
theorem pay16_val (a c sa sb w j) : k0_pay16 (F := Ideal) a c sa sb w j = ROT (fun d => k0_pay15 a w (ix2 (j 0) ⟨0 + d.val, by have := d.isLt; omega⟩)) (fun d => c (ix2 (j 0) d)) (fun d => sa (ix2 (j 0) d)) (fun d => sb (ix2 (j 0) d)) (j 1) := by
  pointwise [k0_pay16, ROT, pay5_id, pay6_id, pay7_id]

/-- A head's store. -/
theorem pay17_val (a c sa sb w j) : k0_pay17 (F := Ideal) a c sa sb w j = ROT (fun d => k0_pay15 a w (ix2 (j 0) ⟨128 + d.val, by have := d.isLt; omega⟩)) (fun d => c (ix2 (j 0) d)) (fun d => sa (ix2 (j 0) d)) (fun d => sb (ix2 (j 0) d)) (j 1) := by
  pointwise [k0_pay17, ROT, pay5_id, pay6_id, pay7_id]

/-- A head's store. -/
theorem pay1_val (a c sa sb w j) : k0_pay1 (F := Ideal) c sa sb (k0_pay18 a w) j = ROT (fun d => k0_pay15 a w (ix2 (j 0) ⟨256 + d.val, by have := d.isLt; omega⟩)) (fun d => c (ix2 (j 0) d)) (fun d => sa (ix2 (j 0) d)) (fun d => sb (ix2 (j 0) d)) (j 1) := by
  pointwise [k0_pay1, k0_pay18, ROT, pay5_id, pay6_id, pay7_id]

/-- A head's store. -/
theorem pay2_val (c sa sb z j) : k0_pay2 (F := Ideal) c sa sb z j = ROT (fun d => z (ix2 (j 0) ⟨384 + d.val, by have := d.isLt; omega⟩)) (fun d => c (ix2 (j 0) d)) (fun d => sa (ix2 (j 0) d)) (fun d => sb (ix2 (j 0) d)) (j 1) := by
  pointwise [k0_pay2, ROT, pay5_id, pay6_id, pay7_id]

/-- The row of batch and position that a row of the call stands for. -/
def PLACE (r : Fin 8192) : Fin 8192 := ⟨r.val / 2048 * 2048 + r.val % 512 * 4 + r.val % 2048 / 512, by omega⟩

/-- A point's rows are the normed rows of the stream. -/
theorem read_h (c : Dev nD) (t : Fin cfg0.N) (r : Fin 512) (k : Fin 1024) : iblk m c 0 t (ix2 r k)
    = X3 (normed (m ((c : Thread nD τ).loc main_arg0)) (m ((c : Thread nD τ).loc main_arg1))) (PLACE ⟨t.val * 512 + r.val, by have : t.val < 16 := t.isLt; omega⟩) k := by
  have e : ((cfg0.win 0).blk t).view.emb (ix2 r k) = ix2 ⟨t.val * 512 + r.val, by have : t.val < 16 := t.isLt; omega⟩ k := by
    blk_ext [idx_val t]
  refine (congrArg (V m c main_v16) e).trans ?_
  entry_read
  simp only [List.flatten_cons, List.flatten_nil, List.append_nil]
  entry_read
  refine Eq.trans (b := normed (m ((c : Thread nD τ).loc main_arg0)) (m ((c : Thread nD τ).loc main_arg1)) (ix3 ⟨(t.val * 512 + r.val) / 2048, by have : t.val < 16 := t.isLt; omega⟩
    ⟨(t.val * 512 + r.val) % 512 * 4 + (t.val * 512 + r.val) / 512 % 4, by omega⟩ k)) ?_ ?_
  · pointwise [normed]
  · unfold X3 PLACE
    exact congrArg₂ (fun b s => normed (m ((c : Thread nD τ).loc main_arg0)) (m ((c : Thread nD τ).loc main_arg1)) (ix3 b s k))
      (Fin.ext (split4 (t.val * 512 + r.val)).1) (Fin.ext (split4 (t.val * 512 + r.val)).2)

/-- A table at a point. -/
theorem read_t2 (c : Dev nD) (t : Fin cfg0.N) (r : Fin 512) (d : Fin 128) : iblk m c 2 t (ix2 r d)
    = TC (m ((c : Thread nD τ).loc main_arg3)) ⟨(PLACE ⟨t.val * 512 + r.val, by have : t.val < 16 := t.isLt; omega⟩).val % 2048, Nat.mod_lt _ (by omega)⟩ d := by
  have e : ((cfg0.win 2).blk t).view.emb (ix2 r d) = ix2 ⟨t.val % 4 * 512 + r.val, by omega⟩ d := by
    blk_ext [idx_val t]
  refine (congrArg (V m c main_v26) e).trans ?_
  show StableHlo.after (hostOps0 (F := Ideal)) (fun b => m (c, b)) (Proc.devRef .tc main_v26) _ = _
  rw [← List.take_append_drop 26 (hostOps0 (F := Ideal)), StableHlo.after_append]
  have ea : StableHlo.after ((hostOps0 (F := Ideal)).take 26) (fun b => m (c, b)) (Proc.devRef .tc main_arg3) = m ((c : Thread nD τ).loc main_arg3) := by
    simp only [hostOps0, List.take_succ_cons, List.take_zero]
    entry_read
    rfl
  have eb : StableHlo.after ((hostOps0 (F := Ideal)).take 26) (fun b => m (c, b)) (Proc.devRef .tc main_v17) = (broadcastInDim S2048x96 ![] bcast_S_S2048x96 (constant S_ .f32 0x3F800000#32) : FVec Ideal S2048x96 .f32) := by
    simp only [hostOps0, List.take_succ_cons, List.take_zero]
    entry_read
    rfl
  generalize StableHlo.after ((hostOps0 (F := Ideal)).take 26) (fun b => m (c, b)) = σ at ea eb ⊢
  simp only [hostOps0, List.drop_succ_cons, List.drop_zero]
  entry_read
  pointwise
  unfold TC PLACE
  by_cases h1 : d.val < 16
  · refine (dif_pos h1).trans (Eq.trans ?_ (dif_pos h1).symm)
    refine (congrFun ea _).trans ?_
    exact congrArg (fun p => m ((c : Thread nD τ).loc main_arg3) (ix2 p _)) (Fin.ext (row4 t.val r.val t.isLt r.isLt))
  · refine (dif_neg h1).trans (Eq.trans ?_ (dif_neg h1).symm)
    by_cases h2 : d.val < 32
    · have h3 : d.val - 16 < 16 := by omega
      refine (dif_pos h3).trans (Eq.trans ?_ (dif_pos h2).symm)
      refine (congrFun ea _).trans ?_
      exact congrArg (fun p => m ((c : Thread nD τ).loc main_arg3) (ix2 p _)) (Fin.ext (row4 t.val r.val t.isLt r.isLt))
    · have h3 : ¬ d.val - 16 < 16 := by omega
      refine (dif_neg h3).trans (Eq.trans ?_ (dif_neg h2).symm)
      refine (congrFun eb _).trans ?_
      pointwise

/-- A table at a point. -/
theorem read_t3 (c : Dev nD) (t : Fin cfg0.N) (r : Fin 512) (d : Fin 128) : iblk m c 3 t (ix2 r d)
    = TA (m ((c : Thread nD τ).loc main_arg4)) ⟨(PLACE ⟨t.val * 512 + r.val, by have : t.val < 16 := t.isLt; omega⟩).val % 2048, Nat.mod_lt _ (by omega)⟩ d := by
  have e : ((cfg0.win 3).blk t).view.emb (ix2 r d) = ix2 ⟨t.val % 4 * 512 + r.val, by omega⟩ d := by
    blk_ext [idx_val t]
  refine (congrArg (V m c main_v29) e).trans ?_
  show StableHlo.after (hostOps0 (F := Ideal)) (fun b => m (c, b)) (Proc.devRef .tc main_v29) _ = _
  rw [← List.take_append_drop 28 (hostOps0 (F := Ideal)), StableHlo.after_append]
  have ea : StableHlo.after ((hostOps0 (F := Ideal)).take 28) (fun b => m (c, b)) (Proc.devRef .tc main_v21) = (Host.negf (m ((c : Thread nD τ).loc main_arg4) : FVec Ideal S2048x16 .f32) : FVec Ideal S2048x16 .f32) := by
    simp only [hostOps0, List.take_succ_cons, List.take_zero]
    entry_read
    rfl
  have eb : StableHlo.after ((hostOps0 (F := Ideal)).take 28) (fun b => m (c, b)) (Proc.devRef .tc main_v18) = (broadcastInDim S2048x16 ![] bcast_S_S2048x16 (constant S_ .f32 0x00000000#32) : FVec Ideal S2048x16 .f32) := by
    simp only [hostOps0, List.take_succ_cons, List.take_zero]
    entry_read
    rfl
  have ec : StableHlo.after ((hostOps0 (F := Ideal)).take 28) (fun b => m (c, b)) (Proc.devRef .tc main_v19) = (broadcastInDim S2048x96 ![] bcast_S_S2048x96 (constant S_ .f32 0x00000000#32) : FVec Ideal S2048x96 .f32) := by
    simp only [hostOps0, List.take_succ_cons, List.take_zero]
    entry_read
    rfl
  generalize StableHlo.after ((hostOps0 (F := Ideal)).take 28) (fun b => m (c, b)) = σ at ea eb ec ⊢
  simp only [hostOps0, List.drop_succ_cons, List.drop_zero]
  entry_read
  pointwise
  unfold TA PLACE
  by_cases h1 : d.val < 16
  · refine (dif_pos h1).trans (Eq.trans ?_ (dif_pos h1).symm)
    refine (congrFun ea _).trans ?_
    exact congrArg (fun p => -(show EReal from m ((c : Thread nD τ).loc main_arg4) (ix2 p _))) (Fin.ext (row4 t.val r.val t.isLt r.isLt))
  · refine (dif_neg h1).trans (Eq.trans ?_ (dif_neg h1).symm)
    by_cases h3 : d.val - 16 < 16
    · refine (dif_pos h3).trans ((congrFun eb _).trans ?_)
      pointwise
    · refine (dif_neg h3).trans ((congrFun ec _).trans ?_)
      pointwise

/-- A table at a point. -/
theorem read_t4 (c : Dev nD) (t : Fin cfg0.N) (r : Fin 512) (d : Fin 128) : iblk m c 4 t (ix2 r d)
    = TB (m ((c : Thread nD τ).loc main_arg4)) ⟨(PLACE ⟨t.val * 512 + r.val, by have : t.val < 16 := t.isLt; omega⟩).val % 2048, Nat.mod_lt _ (by omega)⟩ d := by
  have e : ((cfg0.win 4).blk t).view.emb (ix2 r d) = ix2 ⟨t.val % 4 * 512 + r.val, by omega⟩ d := by
    blk_ext [idx_val t]
  refine (congrArg (V m c main_v32) e).trans ?_
  show StableHlo.after (hostOps0 (F := Ideal)) (fun b => m (c, b)) (Proc.devRef .tc main_v32) _ = _
  rw [← List.take_append_drop 29 (hostOps0 (F := Ideal)), StableHlo.after_append]
  have ea : StableHlo.after ((hostOps0 (F := Ideal)).take 29) (fun b => m (c, b)) (Proc.devRef .tc main_v18) = (broadcastInDim S2048x16 ![] bcast_S_S2048x16 (constant S_ .f32 0x00000000#32) : FVec Ideal S2048x16 .f32) := by
    simp only [hostOps0, List.take_succ_cons, List.take_zero]
    entry_read
    rfl
  have eb2 : StableHlo.after ((hostOps0 (F := Ideal)).take 29) (fun b => m (c, b)) (Proc.devRef .tc main_arg4) = m ((c : Thread nD τ).loc main_arg4) := by
    simp only [hostOps0, List.take_succ_cons, List.take_zero]
    entry_read
    rfl
  have ec : StableHlo.after ((hostOps0 (F := Ideal)).take 29) (fun b => m (c, b)) (Proc.devRef .tc main_v19) = (broadcastInDim S2048x96 ![] bcast_S_S2048x96 (constant S_ .f32 0x00000000#32) : FVec Ideal S2048x96 .f32) := by
    simp only [hostOps0, List.take_succ_cons, List.take_zero]
    entry_read
    rfl
  generalize StableHlo.after ((hostOps0 (F := Ideal)).take 29) (fun b => m (c, b)) = σ at ea eb2 ec ⊢
  simp only [hostOps0, List.drop_succ_cons, List.drop_zero]
  entry_read
  pointwise
  unfold TB PLACE
  by_cases h1 : d.val < 16
  · refine (dif_pos h1).trans (Eq.trans ?_ (dif_pos h1).symm)
    refine (congrFun ea _).trans ?_
    pointwise
  · refine (dif_neg h1).trans (Eq.trans ?_ (dif_neg h1).symm)
    by_cases h2 : d.val < 32
    · have h3 : d.val - 16 < 16 := by omega
      refine (dif_pos h3).trans (Eq.trans ?_ (dif_pos h2).symm)
      refine (congrFun eb2 _).trans ?_
      exact congrArg (fun p => m ((c : Thread nD τ).loc main_arg4) (ix2 p _)) (Fin.ext (row4 t.val r.val t.isLt r.isLt))
    · have h3 : ¬ d.val - 16 < 16 := by omega
      refine (dif_neg h3).trans (Eq.trans ?_ (dif_neg h2).symm)
      refine (congrFun ec _).trans ?_
      pointwise

/-- The weight at a point. -/
theorem read_w (c : Dev nD) (t : Fin cfg0.N) (k : Fin 1024) (n : Fin 1536) : iblk m c 1 t (ix2 k n)
    = m ((c : Thread nD τ).loc main_arg2) (ix2 k (COL 1 n)) := by
  refine (congrArg (V m c main_v44) (?_ : _ = ix2 k ⟨4608 + n.val, by omega⟩)).trans ?_
  · blk_ext [idx_val t]
  show StableHlo.after (hostOps0 (F := Ideal)) (fun b => m (c, b)) (Proc.devRef .tc main_v44) _ = _
  rw [← List.take_append_drop 49 (hostOps0 (F := Ideal)), StableHlo.after_append]
  have e4 : StableHlo.after ((hostOps0 (F := Ideal)).take 49) (fun b => m (c, b)) (Proc.devRef .tc main_v37)
      = extractStridedSlice S1024x512 ![0, 512] (m ((c : Thread nD τ).loc main_arg2)) slices_S1024x7680_S1024x512_0_512 := by
    simp only [hostOps0, List.take_succ_cons, List.take_zero]
    entry_read
    rfl
  have e5 : StableHlo.after ((hostOps0 (F := Ideal)).take 49) (fun b => m (c, b)) (Proc.devRef .tc main_v38)
      = extractStridedSlice S1024x512 ![0, 2048] (m ((c : Thread nD τ).loc main_arg2)) slices_S1024x7680_S1024x512_0_2048 := by
    simp only [hostOps0, List.take_succ_cons, List.take_zero]
    entry_read
    rfl
  have e6 : StableHlo.after ((hostOps0 (F := Ideal)).take 49) (fun b => m (c, b)) (Proc.devRef .tc main_v39)
      = extractStridedSlice S1024x512 ![0, 3584] (m ((c : Thread nD τ).loc main_arg2)) slices_S1024x7680_S1024x512_0_3584 := by
    simp only [hostOps0, List.take_succ_cons, List.take_zero]
    entry_read
    rfl
  generalize StableHlo.after ((hostOps0 (F := Ideal)).take 49) (fun b => m (c, b)) = σ at e4 e5 e6 ⊢
  simp only [hostOps0, List.drop_succ_cons, List.drop_zero]
  entry_read
  pointwise
  have hn := n.isLt
  by_cases h1 : n.val < 512
  · repeat refine (dif_neg (by omega)).trans ?_
    try refine (dif_pos (by omega)).trans ?_
    refine (congrFun e4 _).trans ?_
    pointwise
    refine congrArg (fun q => m ((c : Thread nD τ).loc main_arg2) (ix2 k q)) (Fin.ext ?_)
    simp only [COL]
    omega
  · by_cases h2 : n.val < 1024
    · repeat refine (dif_neg (by omega)).trans ?_
      try refine (dif_pos (by omega)).trans ?_
      refine (congrFun e5 _).trans ?_
      pointwise
      refine congrArg (fun q => m ((c : Thread nD τ).loc main_arg2) (ix2 k q)) (Fin.ext ?_)
      simp only [COL]
      omega
    · repeat refine (dif_neg (by omega)).trans ?_
      try refine (dif_pos (by omega)).trans ?_
      refine (congrFun e6 _).trans ?_
      pointwise
      refine congrArg (fun q => m ((c : Thread nD τ).loc main_arg2) (ix2 k q)) (Fin.ext ?_)
      simp only [COL]
      omega

/-- A head's rotation at a point. -/
theorem tile (c : Dev nD) (t : Fin cfg0.N) (r : Fin 512) (n : Fin 1536) (hn : n.val < 1024) :
    ROT (fun d => ∑ k : Fin 1024, (show EReal from iblk m c 0 t (ix2 r k)) * (show EReal from iblk m c 1 t (ix2 k ⟨n.val / 128 * 128 + d.val, by have := d.isLt; omega⟩)))
      (fun d => iblk m c 2 t (ix2 r d)) (fun d => iblk m c 3 t (ix2 r d)) (fun d => iblk m c 4 t (ix2 r d)) ⟨n.val % 128, Nat.mod_lt _ (by omega)⟩
    = QKV 1 (m ((c : Thread nD τ).loc main_arg0)) (m ((c : Thread nD τ).loc main_arg1)) (m ((c : Thread nD τ).loc main_arg2)) (m ((c : Thread nD τ).loc main_arg3)) (m ((c : Thread nD τ).loc main_arg4)) (PLACE ⟨t.val * 512 + r.val, by have : t.val < 16 := t.isLt; omega⟩) n := by
  unfold QKV
  rw [dif_pos hn]
  refine (rot_table _ _ _ _ _ _ _ _ (read_t2 m c t r _) (read_t3 m c t r _) (read_t4 m c t r _)).trans ?_
  refine congrArg (fun z => ROPE z _ _ _) (funext fun d => ?_)
  exact Finset.sum_congr rfl fun k _ => congrArg₂ (· * ·) (read_h m c t r k) (read_w m c t k _)

/-- What a point leaves in its block is the reference's values at the block's place. -/
theorem point (c : Dev nD) (t : Fin cfg0.N) (y : S512x1536.Idx) : outsAt0 m c t y
    = QKV 1 (m ((c : Thread nD τ).loc main_arg0)) (m ((c : Thread nD τ).loc main_arg1)) (m ((c : Thread nD τ).loc main_arg2)) (m ((c : Thread nD τ).loc main_arg3)) (m ((c : Thread nD τ).loc main_arg4)) (PLACE ⟨t.val * 512 + (y 0).val, by have : t.val < 16 := t.isLt; have h1 : (y 0).val < 512 := (y 0).isLt; omega⟩) (y 1) := by
  unfold outsAt0
  frame_out
  canon_tiles x h using View.cover_of_tiledBy (s := S512x1536) _ ![512, 128] (by sl_kernel_rfl) y
  all_goals
    have ht : t.val < 16 := t.isLt
    have ex : (⟨t.val * 512 + (x 0).val, by omega⟩ : Fin 8192) = ⟨t.val * 512 + (y 0).val, by omega⟩ := Fin.ext (congrArg (fun n => t.val * 512 + n) h0.symm)
    refine Eq.trans ?_ (congrArg (fun r => QKV 1 (m ((c : Thread nD τ).loc main_arg0)) (m ((c : Thread nD τ).loc main_arg1)) (m ((c : Thread nD τ).loc main_arg2)) (m ((c : Thread nD τ).loc main_arg3)) (m ((c : Thread nD τ).loc main_arg4)) (PLACE r) (y 1)) ex)
    try rw [pay4_id]
    try rw [pay5_id]
    try rw [pay6_id]
    try rw [pay7_id]
  case piece0 =>
    rw [pay3_val]
    unfold QKV
    rw [dif_neg (by omega)]
    refine Finset.sum_congr rfl fun k _ => congrArg₂ (· * ·) (read_h m c t (x 0) k) ?_
    pointwise
    refine (read_w m c t k _).trans ?_
    exact congrArg (fun n => m ((c : Thread nD τ).loc main_arg2) (ix2 k (COL 1 n))) (Fin.ext (by simp only []; omega))
  all_goals
    refine Eq.trans ?_ (tile m c t (x 0) (y 1) (by omega))
    first | rw [pay1_val] | rw [pay2_val] | rw [pay9_val] | rw [pay10_val] | rw [pay13_val] | rw [pay14_val] | rw [pay16_val] | rw [pay17_val]
    refine rot_congr _ _ _ _ _ _ _ (fun i => ?_) (Fin.ext (by simp only []; omega))
    have hi : i.val < 128 := i.isLt
    first | rw [pay8_val] | rw [pay15_val]
    refine Finset.sum_congr rfl fun k _ => congrArg₂ (· * ·) rfl ?_
    pointwise
    exact congrArg (fun n => iblk m c 1 t (ix2 k n)) (Fin.ext (by simp only []; omega))

/-- Where the result's block lies. -/
theorem emb_r (t : Fin cfg0.N) (y : S512x1536.Idx) : ((cfg0.win 5).blk t).view.emb y
    = ix2 ⟨t.val * 512 + (y 0).val, by have : t.val < 16 := t.isLt; have h1 : (y 0).val < 512 := (y 0).isLt; omega⟩ (y 1) := by
  blk_ext [idx_val t]

/-- The result, in the rows the call keeps. -/
def RES (X : FVec Ideal Cert.Reference9Ideal.S4x2048x1024 .f32) (g : FVec Ideal Cert.Reference9Ideal.S1024 .f32)
    (w : FVec Ideal Cert.Reference19Ideal.S1024x7680 .f32) (cs sn : FVec Ideal Cert.Reference19Ideal.S2048x16 .f32) : FVec Ideal S8192x1536 .bf16 :=
  fun j => QKV 1 X g w cs sn (PLACE (j 0)) (j 1)

/-- The kernel's result array ends holding the rotated queries and keys and the values. -/
theorem final (c : Dev nD) : (dats m 0 c).arrAt 5 (cfgs 0).N = RES (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  exact (point m c t y).trans (congrArg (RES _ _ _ _ _) (emb_r t y)).symm

/-- The head group's part of an array over all groups, its heads side by side. -/
def PICK (y : FVec Ideal Cert.Reference19Ideal.S4x2048x3x4x128 .f32) : FVec Ideal Cert.Reference19Ideal.S4x2048x512 .f32 :=
  shapeCast Cert.Reference20Ideal.S4x2048x512 (shapeCast Cert.Reference20Ideal.S4x2048x4x128 (extractStridedSlice Cert.Reference20Ideal.S4x2048x1x4x128 ![0, 0, 1, 0, 0] y Cert.Reference20Ideal.Gen.slices_S4x2048x3x4x128_S4x2048x1x4x128_0_0_1_0_0)
    Cert.Reference20Ideal.Gen.shapeCasts_S4x2048x1x4x128_S4x2048x4x128) Cert.Reference20Ideal.Gen.shapeCasts_S4x2048x4x128_S4x2048x512

/-- An entry of it. -/
theorem pick_val (y) (b : Fin 4) (s : Fin 2048) (n : Fin 512) : PICK y (ix3 b s n) = y (ix5 b s 1 ⟨n.val / 128, by omega⟩ ⟨n.val % 128, by omega⟩) := by
  pointwise [PICK]

/-- The reference's result. -/
def REFV (X : FVec Ideal Cert.Reference9Ideal.S4x2048x1024 .f32) (g : FVec Ideal Cert.Reference9Ideal.S1024 .f32)
    (w : FVec Ideal Cert.Reference19Ideal.S1024x7680 .f32) (cs sn : FVec Ideal Cert.Reference19Ideal.S2048x16 .f32) : FVec Ideal Cert.Reference19Ideal.S4x2048x1536 .bf16 :=
  OUT (PICK (CAT (R1 (PART0 (ZREF X g w)) cs sn) (R2 (PART0 (ZREF X g w)) cs sn) (R3 (PART0 (ZREF X g w)))))
    (PICK (CAT (R1 (PART1 (ZREF X g w)) cs sn) (R2 (PART1 (ZREF X g w)) cs sn) (R3 (PART1 (ZREF X g w))))) (PICK (PART2 (ZREF X g w)))

/-- An entry of it. -/
theorem ref_val (X g w cs sn) (b : Fin 4) (s : Fin 2048) (n : Fin 1536) (hb : b.val * 2048 + s.val < 8192) : REFV X g w cs sn (ix3 b s n) = QKV 1 X g w cs sn ⟨b.val * 2048 + s.val, hb⟩ n := by
  have hs : (⟨(b.val * 2048 + s.val) % 2048, Nat.mod_lt _ (by omega)⟩ : Fin 2048) = s := Fin.ext (by simp only []; omega)
  refine (out_val _ _ _ b s n).trans ?_
  unfold QKV
  by_cases h1 : n.val < 512
  · refine (dif_pos h1).trans (Eq.trans ?_ (dif_pos (by omega)).symm)
    refine (pick_val _ b s _).trans ((rope_val _ _ _ b s _ _ _).trans ?_)
    rw [hs]
    refine congr (congrArg (fun z => ROPE z _ _) (funext fun d => ?_)) (Fin.ext (by simp only []))
    refine (part0_val _ b s _ _ d).trans ((zref_val X g w b s _ hb).trans (congrArg (ZC X g w _) (Fin.ext ?_)))
    simp only [COL]
    omega
  · refine (dif_neg h1).trans ?_
    by_cases h2 : n.val < 1024
    · have h3 : n.val - 512 < 512 := by omega
      refine (dif_pos h3).trans (Eq.trans ?_ (dif_pos h2).symm)
      refine (pick_val _ b s _).trans ((rope_val _ _ _ b s _ _ _).trans ?_)
      rw [hs]
      refine congr (congrArg (fun z => ROPE z _ _) (funext fun d => ?_)) (Fin.ext (by simp only []; omega))
      refine (part1_val _ b s _ _ d).trans ((zref_val X g w b s _ hb).trans (congrArg (ZC X g w _) (Fin.ext ?_)))
      simp only [COL]
      omega
    · have h3 : ¬ n.val - 512 < 512 := by omega
      refine (dif_neg h3).trans (Eq.trans ?_ (dif_neg h2).symm)
      refine (pick_val _ b s _).trans ((part2_val _ b s _ _ _).trans ((zref_val X g w b s _ hb).trans (congrArg (ZC X g w _) (Fin.ext ?_))))
      simp only [COL]
      omega

/-- The kernel's rows, brought back to batch and position, are the reference's result. -/
theorem back (X g w cs sn) : REFV X g w cs sn = shapeCast S4x2048x1536 (transpose S4x512x4x1536 [0, 2, 1, 3] (shapeCast S4x4x512x1536 (RES X g w cs sn) shapeCasts_S8192x1536_S4x4x512x1536) transposes_S4x4x512x1536_S4x512x4x1536_0_2_1_3) shapeCasts_S4x512x4x1536_S4x2048x1536 := by
  funext j
  rw [eq_ix3 j]
  refine (ref_val X g w cs sn (j 0) (j 1) (j 2) (by have h0 : (j 0).val < 4 := (j 0).isLt; have h1 : (j 1).val < 2048 := (j 1).isLt; omega)).trans ?_
  pointwise [RES, PLACE]
  refine congrArg (fun r => QKV 1 X g w cs sn r (j 2)) (Fin.ext ?_)
  simp only []
  have h0 : (j 0).val < 4 := (j 0).isLt
  have h1 : (j 1).val < 2048 := (j 1).isLt
  exact (place4 _ _ h0 h1).symm

set_option maxHeartbeats 2000000 in
/-- The kernel's result and the reference's, read as real numbers, are equal. -/
theorem algebraic [hK : Cert.Kernel20Ideal.Facts] : Cert.algebraic_Kernel20Ideal_Reference20Ideal := by
  pair_intro
  · run_from Cert.Kernel20Ideal.Gen.run_main m g
    · exact W_main_arg0 m (dats m) c
    · exact W_main_arg1 m (dats m) c
    · exact W_main_arg2 m (dats m) c
    · exact W_main_arg3 m (dats m) c
    · exact W_main_arg4 m (dats m) c
  · refine θ_run_mono (StableHlo.run_hlo _ _ (by hlo_seq) (by decide) (by decide) (by simp)
      (by intro _ h; (repeat (cases h with | head => rfl | tail _ h => ?_)); exact nomatch h) _ _) ?_
    intro r hr c
    refine ⟨(hr c _).trans (Eq.trans (b := REFV (m ((c : Thread nD τ).loc main_arg0)) (m ((c : Thread nD τ).loc main_arg1)) (m ((c : Thread nD τ).loc main_arg2)) (m ((c : Thread nD τ).loc main_arg3)) (m ((c : Thread nD τ).loc main_arg4))) ?_ ?_), (hr c _).trans ?_, (hr c _).trans ?_, (hr c _).trans ?_, (hr c _).trans ?_, (hr c _).trans ?_⟩
    · clear hr
      refine after_cut 17 _ _ _ _ fun σ hσ => ?_
      simp only [List.take_succ_cons, List.take_zero] at hσ
      simp only [List.drop_succ_cons, List.drop_zero]
      have e13 : σ (Proc.devRef .tc Cert.Reference20Ideal.main_v13) = ZREF (m' ((c : Thread Cert.Reference20Ideal.nD Cert.Reference20Ideal.τ).loc Cert.Reference20Ideal.main_arg0)) (m' ((c : Thread Cert.Reference20Ideal.nD Cert.Reference20Ideal.τ).loc Cert.Reference20Ideal.main_arg1)) (m' ((c : Thread Cert.Reference20Ideal.nD Cert.Reference20Ideal.τ).loc Cert.Reference20Ideal.main_arg2)) := by
        rw [hσ]
        entry_read
        rfl
      have e3 : σ (Proc.devRef .tc Cert.Reference20Ideal.main_arg3) = m' ((c : Thread Cert.Reference20Ideal.nD Cert.Reference20Ideal.τ).loc Cert.Reference20Ideal.main_arg3) := by
        rw [hσ]
        entry_read
        rfl
      have e4 : σ (Proc.devRef .tc Cert.Reference20Ideal.main_arg4) = m' ((c : Thread Cert.Reference20Ideal.nD Cert.Reference20Ideal.τ).loc Cert.Reference20Ideal.main_arg4) := by
        rw [hσ]
        entry_read
        rfl
      clear hσ
      rw [(hagree c).1, (hagree c).2.1, (hagree c).2.2.1] at e13
      rw [(hagree c).2.2.2.1] at e3
      rw [(hagree c).2.2.2.2] at e4
      refine after_cut 25 _ _ _ _ fun ρ hρ => ?_
      simp only [List.take_succ_cons, List.take_zero] at hρ
      simp only [List.drop_succ_cons, List.drop_zero]
      have f30 : ρ (Proc.devRef .tc Cert.Reference20Ideal.main_v30) = R1 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4)) := by
        refine Eq.trans (b := R1 (PART0 (σ (Proc.devRef .tc Cert.Reference20Ideal.main_v13))) (σ (Proc.devRef .tc Cert.Reference20Ideal.main_arg3)) (σ (Proc.devRef .tc Cert.Reference20Ideal.main_arg4))) ?_ (by rw [e13, e3, e4])
        rw [hρ]
        entry_read
        rfl
      have f37 : ρ (Proc.devRef .tc Cert.Reference20Ideal.main_v37) = R2 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4)) := by
        refine Eq.trans (b := R2 (PART0 (σ (Proc.devRef .tc Cert.Reference20Ideal.main_v13))) (σ (Proc.devRef .tc Cert.Reference20Ideal.main_arg3)) (σ (Proc.devRef .tc Cert.Reference20Ideal.main_arg4))) ?_ (by rw [e13, e3, e4])
        rw [hρ]
        entry_read
        rfl
      have f38 : ρ (Proc.devRef .tc Cert.Reference20Ideal.main_v38) = R3 (PART0 (ZREF (m ((c : Thread nD τ).loc main_arg0)) (m ((c : Thread nD τ).loc main_arg1)) (m ((c : Thread nD τ).loc main_arg2)))) := by
        refine Eq.trans (b := R3 (PART0 (σ (Proc.devRef .tc Cert.Reference20Ideal.main_v13)))) ?_ (by rw [e13])
        rw [hρ]
        entry_read
        rfl
      have f17 : ρ (Proc.devRef .tc Cert.Reference20Ideal.main_v17) = PART1 (ZREF (m ((c : Thread nD τ).loc main_arg0)) (m ((c : Thread nD τ).loc main_arg1)) (m ((c : Thread nD τ).loc main_arg2))) := by
        refine Eq.trans (b := PART1 (σ (Proc.devRef .tc Cert.Reference20Ideal.main_v13))) ?_ (by rw [e13])
        rw [hρ]
        entry_read
        rfl
      have f19 : ρ (Proc.devRef .tc Cert.Reference20Ideal.main_v19) = PART2 (ZREF (m ((c : Thread nD τ).loc main_arg0)) (m ((c : Thread nD τ).loc main_arg1)) (m ((c : Thread nD τ).loc main_arg2))) := by
        refine Eq.trans (b := PART2 (σ (Proc.devRef .tc Cert.Reference20Ideal.main_v13))) ?_ (by rw [e13])
        rw [hρ]
        entry_read
        rfl
      have f3 : ρ (Proc.devRef .tc Cert.Reference20Ideal.main_arg3) = (m ((c : Thread nD τ).loc main_arg3)) := by
        refine Eq.trans (b := (σ (Proc.devRef .tc Cert.Reference20Ideal.main_arg3))) ?_ (by rw [e3])
        rw [hρ]
        entry_read
        rfl
      have f4 : ρ (Proc.devRef .tc Cert.Reference20Ideal.main_arg4) = (m ((c : Thread nD τ).loc main_arg4)) := by
        refine Eq.trans (b := (σ (Proc.devRef .tc Cert.Reference20Ideal.main_arg4))) ?_ (by rw [e4])
        rw [hρ]
        entry_read
        rfl
      clear hρ e13 e3 e4
      refine after_cut 20 _ _ _ _ fun υ hυ => ?_
      simp only [List.take_succ_cons, List.take_zero] at hυ
      simp only [List.drop_succ_cons, List.drop_zero]
      have g39 : υ (Proc.devRef .tc Cert.Reference20Ideal.main_v39) = CAT (R1 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4))) (R2 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4))) (R3 (PART0 (ZREF (m ((c : Thread nD τ).loc main_arg0)) (m ((c : Thread nD τ).loc main_arg1)) (m ((c : Thread nD τ).loc main_arg2))))) := by
        refine Eq.trans (b := CAT (ρ (Proc.devRef .tc Cert.Reference20Ideal.main_v30)) (ρ (Proc.devRef .tc Cert.Reference20Ideal.main_v37)) (ρ (Proc.devRef .tc Cert.Reference20Ideal.main_v38))) ?_ (by rw [f30, f37, f38])
        rw [hυ]
        entry_read
        rfl
      have g50 : υ (Proc.devRef .tc Cert.Reference20Ideal.main_v50) = R1 (PART1 (ZREF (m ((c : Thread nD τ).loc main_arg0)) (m ((c : Thread nD τ).loc main_arg1)) (m ((c : Thread nD τ).loc main_arg2)))) (m ((c : Thread nD τ).loc main_arg3)) (m ((c : Thread nD τ).loc main_arg4)) := by
        refine Eq.trans (b := R1 (ρ (Proc.devRef .tc Cert.Reference20Ideal.main_v17)) (ρ (Proc.devRef .tc Cert.Reference20Ideal.main_arg3)) (ρ (Proc.devRef .tc Cert.Reference20Ideal.main_arg4))) ?_ (by rw [f17, f3, f4])
        rw [hυ]
        entry_read
        rfl
      have g57 : υ (Proc.devRef .tc Cert.Reference20Ideal.main_v57) = R2 (PART1 (ZREF (m ((c : Thread nD τ).loc main_arg0)) (m ((c : Thread nD τ).loc main_arg1)) (m ((c : Thread nD τ).loc main_arg2)))) (m ((c : Thread nD τ).loc main_arg3)) (m ((c : Thread nD τ).loc main_arg4)) := by
        refine Eq.trans (b := R2 (ρ (Proc.devRef .tc Cert.Reference20Ideal.main_v17)) (ρ (Proc.devRef .tc Cert.Reference20Ideal.main_arg3)) (ρ (Proc.devRef .tc Cert.Reference20Ideal.main_arg4))) ?_ (by rw [f17, f3, f4])
        rw [hυ]
        entry_read
        rfl
      have g58 : υ (Proc.devRef .tc Cert.Reference20Ideal.main_v58) = R3 (PART1 (ZREF (m ((c : Thread nD τ).loc main_arg0)) (m ((c : Thread nD τ).loc main_arg1)) (m ((c : Thread nD τ).loc main_arg2)))) := by
        refine Eq.trans (b := R3 (ρ (Proc.devRef .tc Cert.Reference20Ideal.main_v17))) ?_ (by rw [f17])
        rw [hυ]
        entry_read
        rfl
      have g19 : υ (Proc.devRef .tc Cert.Reference20Ideal.main_v19) = (PART2 (ZREF (m ((c : Thread nD τ).loc main_arg0)) (m ((c : Thread nD τ).loc main_arg1)) (m ((c : Thread nD τ).loc main_arg2)))) := by
        refine Eq.trans (b := (ρ (Proc.devRef .tc Cert.Reference20Ideal.main_v19))) ?_ (by rw [f19])
        rw [hυ]
        entry_read
        rfl
      clear hυ f30 f37 f38 f17 f19 f3 f4
      refine after_cut 10 _ _ _ _ fun ω hω => ?_
      simp only [List.take_succ_cons, List.take_zero] at hω
      simp only [List.drop_succ_cons, List.drop_zero]
      have k62 : ω (Proc.devRef .tc Cert.Reference20Ideal.main_v62) = PICK (CAT (R1 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4))) (R2 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4))) (R3 (PART0 (ZREF (m ((c : Thread nD τ).loc main_arg0)) (m ((c : Thread nD τ).loc main_arg1)) (m ((c : Thread nD τ).loc main_arg2)))))) := by
        refine Eq.trans (b := PICK (υ (Proc.devRef .tc Cert.Reference20Ideal.main_v39))) ?_ (by rw [g39])
        rw [hω]
        entry_read
        rfl
      have k65 : ω (Proc.devRef .tc Cert.Reference20Ideal.main_v65) = PICK (CAT (R1 (PART1 (ZREF (m ((c : Thread nD τ).loc main_arg0)) (m ((c : Thread nD τ).loc main_arg1)) (m ((c : Thread nD τ).loc main_arg2)))) (m ((c : Thread nD τ).loc main_arg3)) (m ((c : Thread nD τ).loc main_arg4))) (R2 (PART1 (ZREF (m ((c : Thread nD τ).loc main_arg0)) (m ((c : Thread nD τ).loc main_arg1)) (m ((c : Thread nD τ).loc main_arg2)))) (m ((c : Thread nD τ).loc main_arg3)) (m ((c : Thread nD τ).loc main_arg4))) (R3 (PART1 (ZREF (m ((c : Thread nD τ).loc main_arg0)) (m ((c : Thread nD τ).loc main_arg1)) (m ((c : Thread nD τ).loc main_arg2)))))) := by
        refine Eq.trans (b := PICK (CAT (υ (Proc.devRef .tc Cert.Reference20Ideal.main_v50)) (υ (Proc.devRef .tc Cert.Reference20Ideal.main_v57)) (υ (Proc.devRef .tc Cert.Reference20Ideal.main_v58)))) ?_ (by rw [g50, g57, g58])
        rw [hω]
        entry_read
        rfl
      have k68 : ω (Proc.devRef .tc Cert.Reference20Ideal.main_v68) = PICK (PART2 (ZREF (m ((c : Thread nD τ).loc main_arg0)) (m ((c : Thread nD τ).loc main_arg1)) (m ((c : Thread nD τ).loc main_arg2)))) := by
        refine Eq.trans (b := PICK (υ (Proc.devRef .tc Cert.Reference20Ideal.main_v19))) ?_ (by rw [g19])
        rw [hω]
        entry_read
        rfl
      clear hω g39 g50 g57 g58 g19
      refine Eq.trans (b := OUT (ω (Proc.devRef .tc Cert.Reference20Ideal.main_v62)) (ω (Proc.devRef .tc Cert.Reference20Ideal.main_v65)) (ω (Proc.devRef .tc Cert.Reference20Ideal.main_v68))) ?_ (by rw [k62, k65, k68]; rfl)
      entry_read
      rfl
    · unfold Pipeline.afterTail₀
      simp only [List.flatten_cons, List.flatten_nil, List.append_nil]
      entry_read
      rw [Pipeline.withArrays_arr spec0 (by decide +kernel) c (V0 m c) (fun w => (dats m 0 c).arrAt w (cfgs 0).N) 5, final]
      exact back _ _ _ _ _
    all_goals
      clear hr
      refine after_cut 25 _ _ _ _ fun σ hσ => ?_
      simp only [List.take_succ_cons, List.take_zero] at hσ
      simp only [List.drop_succ_cons, List.drop_zero]
      refine after_cut 25 _ _ _ _ fun ρ hρ => ?_
      simp only [List.take_succ_cons, List.take_zero] at hρ
      simp only [List.drop_succ_cons, List.drop_zero]
      entry_read
      rw [hρ]
      entry_read
      rw [hσ]
      entry_read
      rfl

end Cert.Kernel20Ideal.Value
-- ==== Proof.Heads16Value.lean ====
/-
The queries, keys and values of the head group of dilation 16, with the rotary embedding: the call and the reference agree.
The call keeps the rows of one remainder next to each other.
-/
module

public import proofs.«01_k».proof.Defs
public import proofs.«01_k».proof.Proof.Gen.Kernel21Ideal.Frame
public import proofs.«01_k».proof.Proof.Gen.Reference21Ideal
public import proofs.«01_k».proof.Proof.RotaryValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel21Ideal.Value
open Cert.Kernel21Ideal Cert.Kernel21Ideal.Gen
open Cert.Kernel2Ideal.Value (normed)
open Cert.Kernel9Ideal.Value (X3 X3_fold normed_val)
open Cert.Rotary

variable (m : (ℓ : Loc nD τ sig) → Buf (Elt Ideal) ℓ)

/-- The windows' block indices, at every point. -/
theorem idx_val : ∀ t : Fin cfg0.N, win0_0.index t = ![t.val, 0] ∧ win0_1.index t = ![0, 4] ∧ win0_2.index t = ![t.val % 4, 0]
    ∧ win0_3.index t = ![t.val % 4, 0] ∧ win0_4.index t = ![t.val % 4, 0] ∧ win0_5.index t = ![t.val, 0] :=
  (by decide +kernel : ∀ t : Fin grid0.N, _)

/-- A block passed through a cast of its shape to itself. -/
theorem pay4_id (a) : k0_pay4 (F := Ideal) a = a := by funext j; pointwise [k0_pay4]
/-- A table's block likewise. -/
theorem pay5_id (a) : k0_pay5 (F := Ideal) a = a := by funext j; pointwise [k0_pay5]
/-- A table's block likewise. -/
theorem pay6_id (a) : k0_pay6 (F := Ideal) a = a := by funext j; pointwise [k0_pay6]
/-- A table's block likewise. -/
theorem pay7_id (a) : k0_pay7 (F := Ideal) a = a := by funext j; pointwise [k0_pay7]

/-- The product of a block of rows with the queries' columns. -/
theorem pay8_val (a w j) : k0_pay8 (F := Ideal) a w j = ∑ k : Fin 1024, a (ix2 (j 0) k) * w (ix2 k (j 1)) := by pointwise [k0_pay8, pay4_id]

/-- The product of a block of rows with the keys' columns. -/
theorem pay15_val (a w j) : k0_pay15 (F := Ideal) a w j = ∑ k : Fin 1024, a (ix2 (j 0) k) * w (ix2 k (j 1)) := by pointwise [k0_pay15]

/-- The values' store. -/
theorem pay3_val (a w j) : k0_pay3 (F := Ideal) a w j = ∑ k : Fin 1024, a (ix2 (j 0) k) * w (ix2 k (j 1)) := by pointwise [k0_pay3]

/-- A head's store. -/
theorem pay9_val (a c sa sb w j) : k0_pay9 (F := Ideal) a c sa sb w j = ROT (fun d => k0_pay8 a w (ix2 (j 0) ⟨0 + d.val, by have := d.isLt; omega⟩)) (fun d => c (ix2 (j 0) d)) (fun d => sa (ix2 (j 0) d)) (fun d => sb (ix2 (j 0) d)) (j 1) := by
  pointwise [k0_pay9, ROT, pay5_id, pay6_id, pay7_id]

/-- A head's store. -/
theorem pay10_val (a c sa sb w j) : k0_pay10 (F := Ideal) a c sa sb w j = ROT (fun d => k0_pay8 a w (ix2 (j 0) ⟨128 + d.val, by have := d.isLt; omega⟩)) (fun d => c (ix2 (j 0) d)) (fun d => sa (ix2 (j 0) d)) (fun d => sb (ix2 (j 0) d)) (j 1) := by
  pointwise [k0_pay10, ROT, pay5_id, pay6_id, pay7_id]

/-- A head's store. -/
theorem pay13_val (a c sa sb w j) : k0_pay13 (F := Ideal) sb (k0_pay11 a w) (k0_pay12 a c sa w) 16#32 j = ROT (fun d => k0_pay8 a w (ix2 (j 0) ⟨256 + d.val, by have := d.isLt; omega⟩)) (fun d => c (ix2 (j 0) d)) (fun d => sa (ix2 (j 0) d)) (fun d => sb (ix2 (j 0) d)) (j 1) := by
  pointwise [k0_pay13, k0_pay11, k0_pay12, ROT, pay5_id, pay6_id, pay7_id]

/-- A head's store. -/
theorem pay14_val (c sa sb z j) : k0_pay14 (F := Ideal) c sa sb z j = ROT (fun d => z (ix2 (j 0) ⟨384 + d.val, by have := d.isLt; omega⟩)) (fun d => c (ix2 (j 0) d)) (fun d => sa (ix2 (j 0) d)) (fun d => sb (ix2 (j 0) d)) (j 1) := by
  pointwise [k0_pay14, ROT, pay5_id, pay6_id, pay7_id]

/-- A head's store. -/
theorem pay16_val (a c sa sb w j) : k0_pay16 (F := Ideal) a c sa sb w j = ROT (fun d => k0_pay15 a w (ix2 (j 0) ⟨0 + d.val, by have := d.isLt; omega⟩)) (fun d => c (ix2 (j 0) d)) (fun d => sa (ix2 (j 0) d)) (fun d => sb (ix2 (j 0) d)) (j 1) := by
  pointwise [k0_pay16, ROT, pay5_id, pay6_id, pay7_id]

/-- A head's store. -/
theorem pay17_val (a c sa sb w j) : k0_pay17 (F := Ideal) a c sa sb w j = ROT (fun d => k0_pay15 a w (ix2 (j 0) ⟨128 + d.val, by have := d.isLt; omega⟩)) (fun d => c (ix2 (j 0) d)) (fun d => sa (ix2 (j 0) d)) (fun d => sb (ix2 (j 0) d)) (j 1) := by
  pointwise [k0_pay17, ROT, pay5_id, pay6_id, pay7_id]

/-- A head's store. -/
theorem pay1_val (a c sa sb w j) : k0_pay1 (F := Ideal) c sa sb (k0_pay18 a w) j = ROT (fun d => k0_pay15 a w (ix2 (j 0) ⟨256 + d.val, by have := d.isLt; omega⟩)) (fun d => c (ix2 (j 0) d)) (fun d => sa (ix2 (j 0) d)) (fun d => sb (ix2 (j 0) d)) (j 1) := by
  pointwise [k0_pay1, k0_pay18, ROT, pay5_id, pay6_id, pay7_id]

/-- A head's store. -/
theorem pay2_val (c sa sb z j) : k0_pay2 (F := Ideal) c sa sb z j = ROT (fun d => z (ix2 (j 0) ⟨384 + d.val, by have := d.isLt; omega⟩)) (fun d => c (ix2 (j 0) d)) (fun d => sa (ix2 (j 0) d)) (fun d => sb (ix2 (j 0) d)) (j 1) := by
  pointwise [k0_pay2, ROT, pay5_id, pay6_id, pay7_id]

/-- The row of batch and position that a row of the call stands for. -/
def PLACE (r : Fin 8192) : Fin 8192 := ⟨r.val / 2048 * 2048 + r.val % 128 * 16 + r.val % 2048 / 128, by omega⟩

/-- A point's rows are the normed rows of the stream. -/
theorem read_h (c : Dev nD) (t : Fin cfg0.N) (r : Fin 512) (k : Fin 1024) : iblk m c 0 t (ix2 r k)
    = X3 (normed (m ((c : Thread nD τ).loc main_arg0)) (m ((c : Thread nD τ).loc main_arg1))) (PLACE ⟨t.val * 512 + r.val, by have : t.val < 16 := t.isLt; omega⟩) k := by
  have e : ((cfg0.win 0).blk t).view.emb (ix2 r k) = ix2 ⟨t.val * 512 + r.val, by have : t.val < 16 := t.isLt; omega⟩ k := by
    blk_ext [idx_val t]
  refine (congrArg (V m c main_v16) e).trans ?_
  entry_read
  simp only [List.flatten_cons, List.flatten_nil, List.append_nil]
  entry_read
  refine Eq.trans (b := normed (m ((c : Thread nD τ).loc main_arg0)) (m ((c : Thread nD τ).loc main_arg1)) (ix3 ⟨(t.val * 512 + r.val) / 2048, by have : t.val < 16 := t.isLt; omega⟩
    ⟨(t.val * 512 + r.val) % 128 * 16 + (t.val * 512 + r.val) / 128 % 16, by omega⟩ k)) ?_ ?_
  · pointwise [normed]
  · unfold X3 PLACE
    exact congrArg₂ (fun b s => normed (m ((c : Thread nD τ).loc main_arg0)) (m ((c : Thread nD τ).loc main_arg1)) (ix3 b s k))
      (Fin.ext (split16 (t.val * 512 + r.val)).1) (Fin.ext (split16 (t.val * 512 + r.val)).2)

/-- A table at a point. -/
theorem read_t2 (c : Dev nD) (t : Fin cfg0.N) (r : Fin 512) (d : Fin 128) : iblk m c 2 t (ix2 r d)
    = TC (m ((c : Thread nD τ).loc main_arg3)) ⟨(PLACE ⟨t.val * 512 + r.val, by have : t.val < 16 := t.isLt; omega⟩).val % 2048, Nat.mod_lt _ (by omega)⟩ d := by
  have e : ((cfg0.win 2).blk t).view.emb (ix2 r d) = ix2 ⟨t.val % 4 * 512 + r.val, by omega⟩ d := by
    blk_ext [idx_val t]
  refine (congrArg (V m c main_v26) e).trans ?_
  show StableHlo.after (hostOps0 (F := Ideal)) (fun b => m (c, b)) (Proc.devRef .tc main_v26) _ = _
  rw [← List.take_append_drop 26 (hostOps0 (F := Ideal)), StableHlo.after_append]
  have ea : StableHlo.after ((hostOps0 (F := Ideal)).take 26) (fun b => m (c, b)) (Proc.devRef .tc main_arg3) = m ((c : Thread nD τ).loc main_arg3) := by
    simp only [hostOps0, List.take_succ_cons, List.take_zero]
    entry_read
    rfl
  have eb : StableHlo.after ((hostOps0 (F := Ideal)).take 26) (fun b => m (c, b)) (Proc.devRef .tc main_v17) = (broadcastInDim S2048x96 ![] bcast_S_S2048x96 (constant S_ .f32 0x3F800000#32) : FVec Ideal S2048x96 .f32) := by
    simp only [hostOps0, List.take_succ_cons, List.take_zero]
    entry_read
    rfl
  generalize StableHlo.after ((hostOps0 (F := Ideal)).take 26) (fun b => m (c, b)) = σ at ea eb ⊢
  simp only [hostOps0, List.drop_succ_cons, List.drop_zero]
  entry_read
  pointwise
  unfold TC PLACE
  by_cases h1 : d.val < 16
  · refine (dif_pos h1).trans (Eq.trans ?_ (dif_pos h1).symm)
    refine (congrFun ea _).trans ?_
    exact congrArg (fun p => m ((c : Thread nD τ).loc main_arg3) (ix2 p _)) (Fin.ext (row16 t.val r.val t.isLt r.isLt))
  · refine (dif_neg h1).trans (Eq.trans ?_ (dif_neg h1).symm)
    by_cases h2 : d.val < 32
    · have h3 : d.val - 16 < 16 := by omega
      refine (dif_pos h3).trans (Eq.trans ?_ (dif_pos h2).symm)
      refine (congrFun ea _).trans ?_
      exact congrArg (fun p => m ((c : Thread nD τ).loc main_arg3) (ix2 p _)) (Fin.ext (row16 t.val r.val t.isLt r.isLt))
    · have h3 : ¬ d.val - 16 < 16 := by omega
      refine (dif_neg h3).trans (Eq.trans ?_ (dif_neg h2).symm)
      refine (congrFun eb _).trans ?_
      pointwise

/-- A table at a point. -/
theorem read_t3 (c : Dev nD) (t : Fin cfg0.N) (r : Fin 512) (d : Fin 128) : iblk m c 3 t (ix2 r d)
    = TA (m ((c : Thread nD τ).loc main_arg4)) ⟨(PLACE ⟨t.val * 512 + r.val, by have : t.val < 16 := t.isLt; omega⟩).val % 2048, Nat.mod_lt _ (by omega)⟩ d := by
  have e : ((cfg0.win 3).blk t).view.emb (ix2 r d) = ix2 ⟨t.val % 4 * 512 + r.val, by omega⟩ d := by
    blk_ext [idx_val t]
  refine (congrArg (V m c main_v29) e).trans ?_
  show StableHlo.after (hostOps0 (F := Ideal)) (fun b => m (c, b)) (Proc.devRef .tc main_v29) _ = _
  rw [← List.take_append_drop 28 (hostOps0 (F := Ideal)), StableHlo.after_append]
  have ea : StableHlo.after ((hostOps0 (F := Ideal)).take 28) (fun b => m (c, b)) (Proc.devRef .tc main_v21) = (Host.negf (m ((c : Thread nD τ).loc main_arg4) : FVec Ideal S2048x16 .f32) : FVec Ideal S2048x16 .f32) := by
    simp only [hostOps0, List.take_succ_cons, List.take_zero]
    entry_read
    rfl
  have eb : StableHlo.after ((hostOps0 (F := Ideal)).take 28) (fun b => m (c, b)) (Proc.devRef .tc main_v18) = (broadcastInDim S2048x16 ![] bcast_S_S2048x16 (constant S_ .f32 0x00000000#32) : FVec Ideal S2048x16 .f32) := by
    simp only [hostOps0, List.take_succ_cons, List.take_zero]
    entry_read
    rfl
  have ec : StableHlo.after ((hostOps0 (F := Ideal)).take 28) (fun b => m (c, b)) (Proc.devRef .tc main_v19) = (broadcastInDim S2048x96 ![] bcast_S_S2048x96 (constant S_ .f32 0x00000000#32) : FVec Ideal S2048x96 .f32) := by
    simp only [hostOps0, List.take_succ_cons, List.take_zero]
    entry_read
    rfl
  generalize StableHlo.after ((hostOps0 (F := Ideal)).take 28) (fun b => m (c, b)) = σ at ea eb ec ⊢
  simp only [hostOps0, List.drop_succ_cons, List.drop_zero]
  entry_read
  pointwise
  unfold TA PLACE
  by_cases h1 : d.val < 16
  · refine (dif_pos h1).trans (Eq.trans ?_ (dif_pos h1).symm)
    refine (congrFun ea _).trans ?_
    exact congrArg (fun p => -(show EReal from m ((c : Thread nD τ).loc main_arg4) (ix2 p _))) (Fin.ext (row16 t.val r.val t.isLt r.isLt))
  · refine (dif_neg h1).trans (Eq.trans ?_ (dif_neg h1).symm)
    by_cases h3 : d.val - 16 < 16
    · refine (dif_pos h3).trans ((congrFun eb _).trans ?_)
      pointwise
    · refine (dif_neg h3).trans ((congrFun ec _).trans ?_)
      pointwise

/-- A table at a point. -/
theorem read_t4 (c : Dev nD) (t : Fin cfg0.N) (r : Fin 512) (d : Fin 128) : iblk m c 4 t (ix2 r d)
    = TB (m ((c : Thread nD τ).loc main_arg4)) ⟨(PLACE ⟨t.val * 512 + r.val, by have : t.val < 16 := t.isLt; omega⟩).val % 2048, Nat.mod_lt _ (by omega)⟩ d := by
  have e : ((cfg0.win 4).blk t).view.emb (ix2 r d) = ix2 ⟨t.val % 4 * 512 + r.val, by omega⟩ d := by
    blk_ext [idx_val t]
  refine (congrArg (V m c main_v32) e).trans ?_
  show StableHlo.after (hostOps0 (F := Ideal)) (fun b => m (c, b)) (Proc.devRef .tc main_v32) _ = _
  rw [← List.take_append_drop 29 (hostOps0 (F := Ideal)), StableHlo.after_append]
  have ea : StableHlo.after ((hostOps0 (F := Ideal)).take 29) (fun b => m (c, b)) (Proc.devRef .tc main_v18) = (broadcastInDim S2048x16 ![] bcast_S_S2048x16 (constant S_ .f32 0x00000000#32) : FVec Ideal S2048x16 .f32) := by
    simp only [hostOps0, List.take_succ_cons, List.take_zero]
    entry_read
    rfl
  have eb2 : StableHlo.after ((hostOps0 (F := Ideal)).take 29) (fun b => m (c, b)) (Proc.devRef .tc main_arg4) = m ((c : Thread nD τ).loc main_arg4) := by
    simp only [hostOps0, List.take_succ_cons, List.take_zero]
    entry_read
    rfl
  have ec : StableHlo.after ((hostOps0 (F := Ideal)).take 29) (fun b => m (c, b)) (Proc.devRef .tc main_v19) = (broadcastInDim S2048x96 ![] bcast_S_S2048x96 (constant S_ .f32 0x00000000#32) : FVec Ideal S2048x96 .f32) := by
    simp only [hostOps0, List.take_succ_cons, List.take_zero]
    entry_read
    rfl
  generalize StableHlo.after ((hostOps0 (F := Ideal)).take 29) (fun b => m (c, b)) = σ at ea eb2 ec ⊢
  simp only [hostOps0, List.drop_succ_cons, List.drop_zero]
  entry_read
  pointwise
  unfold TB PLACE
  by_cases h1 : d.val < 16
  · refine (dif_pos h1).trans (Eq.trans ?_ (dif_pos h1).symm)
    refine (congrFun ea _).trans ?_
    pointwise
  · refine (dif_neg h1).trans (Eq.trans ?_ (dif_neg h1).symm)
    by_cases h2 : d.val < 32
    · have h3 : d.val - 16 < 16 := by omega
      refine (dif_pos h3).trans (Eq.trans ?_ (dif_pos h2).symm)
      refine (congrFun eb2 _).trans ?_
      exact congrArg (fun p => m ((c : Thread nD τ).loc main_arg4) (ix2 p _)) (Fin.ext (row16 t.val r.val t.isLt r.isLt))
    · have h3 : ¬ d.val - 16 < 16 := by omega
      refine (dif_neg h3).trans (Eq.trans ?_ (dif_neg h2).symm)
      refine (congrFun ec _).trans ?_
      pointwise

/-- The weight at a point. -/
theorem read_w (c : Dev nD) (t : Fin cfg0.N) (k : Fin 1024) (n : Fin 1536) : iblk m c 1 t (ix2 k n)
    = m ((c : Thread nD τ).loc main_arg2) (ix2 k (COL 2 n)) := by
  refine (congrArg (V m c main_v44) (?_ : _ = ix2 k ⟨6144 + n.val, by omega⟩)).trans ?_
  · blk_ext [idx_val t]
  show StableHlo.after (hostOps0 (F := Ideal)) (fun b => m (c, b)) (Proc.devRef .tc main_v44) _ = _
  rw [← List.take_append_drop 49 (hostOps0 (F := Ideal)), StableHlo.after_append]
  have e7 : StableHlo.after ((hostOps0 (F := Ideal)).take 49) (fun b => m (c, b)) (Proc.devRef .tc main_v40)
      = extractStridedSlice S1024x512 ![0, 1024] (m ((c : Thread nD τ).loc main_arg2)) slices_S1024x7680_S1024x512_0_1024 := by
    simp only [hostOps0, List.take_succ_cons, List.take_zero]
    entry_read
    rfl
  have e8 : StableHlo.after ((hostOps0 (F := Ideal)).take 49) (fun b => m (c, b)) (Proc.devRef .tc main_v41)
      = extractStridedSlice S1024x512 ![0, 2560] (m ((c : Thread nD τ).loc main_arg2)) slices_S1024x7680_S1024x512_0_2560 := by
    simp only [hostOps0, List.take_succ_cons, List.take_zero]
    entry_read
    rfl
  have e9 : StableHlo.after ((hostOps0 (F := Ideal)).take 49) (fun b => m (c, b)) (Proc.devRef .tc main_v42)
      = extractStridedSlice S1024x512 ![0, 4096] (m ((c : Thread nD τ).loc main_arg2)) slices_S1024x7680_S1024x512_0_4096 := by
    simp only [hostOps0, List.take_succ_cons, List.take_zero]
    entry_read
    rfl
  generalize StableHlo.after ((hostOps0 (F := Ideal)).take 49) (fun b => m (c, b)) = σ at e7 e8 e9 ⊢
  simp only [hostOps0, List.drop_succ_cons, List.drop_zero]
  entry_read
  pointwise
  have hn := n.isLt
  by_cases h1 : n.val < 512
  · repeat refine (dif_neg (by omega)).trans ?_
    try refine (dif_pos (by omega)).trans ?_
    refine (congrFun e7 _).trans ?_
    pointwise
    refine congrArg (fun q => m ((c : Thread nD τ).loc main_arg2) (ix2 k q)) (Fin.ext ?_)
    simp only [COL]
    omega
  · by_cases h2 : n.val < 1024
    · repeat refine (dif_neg (by omega)).trans ?_
      try refine (dif_pos (by omega)).trans ?_
      refine (congrFun e8 _).trans ?_
      pointwise
      refine congrArg (fun q => m ((c : Thread nD τ).loc main_arg2) (ix2 k q)) (Fin.ext ?_)
      simp only [COL]
      omega
    · repeat refine (dif_neg (by omega)).trans ?_
      try refine (dif_pos (by omega)).trans ?_
      refine (congrFun e9 _).trans ?_
      pointwise
      refine congrArg (fun q => m ((c : Thread nD τ).loc main_arg2) (ix2 k q)) (Fin.ext ?_)
      simp only [COL]
      omega

/-- A head's rotation at a point. -/
theorem tile (c : Dev nD) (t : Fin cfg0.N) (r : Fin 512) (n : Fin 1536) (hn : n.val < 1024) :
    ROT (fun d => ∑ k : Fin 1024, (show EReal from iblk m c 0 t (ix2 r k)) * (show EReal from iblk m c 1 t (ix2 k ⟨n.val / 128 * 128 + d.val, by have := d.isLt; omega⟩)))
      (fun d => iblk m c 2 t (ix2 r d)) (fun d => iblk m c 3 t (ix2 r d)) (fun d => iblk m c 4 t (ix2 r d)) ⟨n.val % 128, Nat.mod_lt _ (by omega)⟩
    = QKV 2 (m ((c : Thread nD τ).loc main_arg0)) (m ((c : Thread nD τ).loc main_arg1)) (m ((c : Thread nD τ).loc main_arg2)) (m ((c : Thread nD τ).loc main_arg3)) (m ((c : Thread nD τ).loc main_arg4)) (PLACE ⟨t.val * 512 + r.val, by have : t.val < 16 := t.isLt; omega⟩) n := by
  unfold QKV
  rw [dif_pos hn]
  refine (rot_table _ _ _ _ _ _ _ _ (read_t2 m c t r _) (read_t3 m c t r _) (read_t4 m c t r _)).trans ?_
  refine congrArg (fun z => ROPE z _ _ _) (funext fun d => ?_)
  exact Finset.sum_congr rfl fun k _ => congrArg₂ (· * ·) (read_h m c t r k) (read_w m c t k _)

/-- What a point leaves in its block is the reference's values at the block's place. -/
theorem point (c : Dev nD) (t : Fin cfg0.N) (y : S512x1536.Idx) : outsAt0 m c t y
    = QKV 2 (m ((c : Thread nD τ).loc main_arg0)) (m ((c : Thread nD τ).loc main_arg1)) (m ((c : Thread nD τ).loc main_arg2)) (m ((c : Thread nD τ).loc main_arg3)) (m ((c : Thread nD τ).loc main_arg4)) (PLACE ⟨t.val * 512 + (y 0).val, by have : t.val < 16 := t.isLt; have h1 : (y 0).val < 512 := (y 0).isLt; omega⟩) (y 1) := by
  unfold outsAt0
  frame_out
  canon_tiles x h using View.cover_of_tiledBy (s := S512x1536) _ ![512, 128] (by sl_kernel_rfl) y
  all_goals
    have ht : t.val < 16 := t.isLt
    have ex : (⟨t.val * 512 + (x 0).val, by omega⟩ : Fin 8192) = ⟨t.val * 512 + (y 0).val, by omega⟩ := Fin.ext (congrArg (fun n => t.val * 512 + n) h0.symm)
    refine Eq.trans ?_ (congrArg (fun r => QKV 2 (m ((c : Thread nD τ).loc main_arg0)) (m ((c : Thread nD τ).loc main_arg1)) (m ((c : Thread nD τ).loc main_arg2)) (m ((c : Thread nD τ).loc main_arg3)) (m ((c : Thread nD τ).loc main_arg4)) (PLACE r) (y 1)) ex)
    try rw [pay4_id]
    try rw [pay5_id]
    try rw [pay6_id]
    try rw [pay7_id]
  case piece0 =>
    rw [pay3_val]
    unfold QKV
    rw [dif_neg (by omega)]
    refine Finset.sum_congr rfl fun k _ => congrArg₂ (· * ·) (read_h m c t (x 0) k) ?_
    pointwise
    refine (read_w m c t k _).trans ?_
    exact congrArg (fun n => m ((c : Thread nD τ).loc main_arg2) (ix2 k (COL 2 n))) (Fin.ext (by simp only []; omega))
  all_goals
    refine Eq.trans ?_ (tile m c t (x 0) (y 1) (by omega))
    first | rw [pay1_val] | rw [pay2_val] | rw [pay9_val] | rw [pay10_val] | rw [pay13_val] | rw [pay14_val] | rw [pay16_val] | rw [pay17_val]
    refine rot_congr _ _ _ _ _ _ _ (fun i => ?_) (Fin.ext (by simp only []; omega))
    have hi : i.val < 128 := i.isLt
    first | rw [pay8_val] | rw [pay15_val]
    refine Finset.sum_congr rfl fun k _ => congrArg₂ (· * ·) rfl ?_
    pointwise
    exact congrArg (fun n => iblk m c 1 t (ix2 k n)) (Fin.ext (by simp only []; omega))

/-- Where the result's block lies. -/
theorem emb_r (t : Fin cfg0.N) (y : S512x1536.Idx) : ((cfg0.win 5).blk t).view.emb y
    = ix2 ⟨t.val * 512 + (y 0).val, by have : t.val < 16 := t.isLt; have h1 : (y 0).val < 512 := (y 0).isLt; omega⟩ (y 1) := by
  blk_ext [idx_val t]

/-- The result, in the rows the call keeps. -/
def RES (X : FVec Ideal Cert.Reference9Ideal.S4x2048x1024 .f32) (g : FVec Ideal Cert.Reference9Ideal.S1024 .f32)
    (w : FVec Ideal Cert.Reference19Ideal.S1024x7680 .f32) (cs sn : FVec Ideal Cert.Reference19Ideal.S2048x16 .f32) : FVec Ideal S8192x1536 .bf16 :=
  fun j => QKV 2 X g w cs sn (PLACE (j 0)) (j 1)

/-- The kernel's result array ends holding the rotated queries and keys and the values. -/
theorem final (c : Dev nD) : (dats m 0 c).arrAt 5 (cfgs 0).N = RES (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  exact (point m c t y).trans (congrArg (RES _ _ _ _ _) (emb_r t y)).symm

/-- The head group's part of an array over all groups, its heads side by side. -/
def PICK (y : FVec Ideal Cert.Reference19Ideal.S4x2048x3x4x128 .f32) : FVec Ideal Cert.Reference19Ideal.S4x2048x512 .f32 :=
  shapeCast Cert.Reference21Ideal.S4x2048x512 (shapeCast Cert.Reference21Ideal.S4x2048x4x128 (extractStridedSlice Cert.Reference21Ideal.S4x2048x1x4x128 ![0, 0, 2, 0, 0] y Cert.Reference21Ideal.Gen.slices_S4x2048x3x4x128_S4x2048x1x4x128_0_0_2_0_0)
    Cert.Reference21Ideal.Gen.shapeCasts_S4x2048x1x4x128_S4x2048x4x128) Cert.Reference21Ideal.Gen.shapeCasts_S4x2048x4x128_S4x2048x512

/-- An entry of it. -/
theorem pick_val (y) (b : Fin 4) (s : Fin 2048) (n : Fin 512) : PICK y (ix3 b s n) = y (ix5 b s 2 ⟨n.val / 128, by omega⟩ ⟨n.val % 128, by omega⟩) := by
  pointwise [PICK]

/-- The reference's result. -/
def REFV (X : FVec Ideal Cert.Reference9Ideal.S4x2048x1024 .f32) (g : FVec Ideal Cert.Reference9Ideal.S1024 .f32)
    (w : FVec Ideal Cert.Reference19Ideal.S1024x7680 .f32) (cs sn : FVec Ideal Cert.Reference19Ideal.S2048x16 .f32) : FVec Ideal Cert.Reference19Ideal.S4x2048x1536 .bf16 :=
  OUT (PICK (CAT (R1 (PART0 (ZREF X g w)) cs sn) (R2 (PART0 (ZREF X g w)) cs sn) (R3 (PART0 (ZREF X g w)))))
    (PICK (CAT (R1 (PART1 (ZREF X g w)) cs sn) (R2 (PART1 (ZREF X g w)) cs sn) (R3 (PART1 (ZREF X g w))))) (PICK (PART2 (ZREF X g w)))

/-- An entry of it. -/
theorem ref_val (X g w cs sn) (b : Fin 4) (s : Fin 2048) (n : Fin 1536) (hb : b.val * 2048 + s.val < 8192) : REFV X g w cs sn (ix3 b s n) = QKV 2 X g w cs sn ⟨b.val * 2048 + s.val, hb⟩ n := by
  have hs : (⟨(b.val * 2048 + s.val) % 2048, Nat.mod_lt _ (by omega)⟩ : Fin 2048) = s := Fin.ext (by simp only []; omega)
  refine (out_val _ _ _ b s n).trans ?_
  unfold QKV
  by_cases h1 : n.val < 512
  · refine (dif_pos h1).trans (Eq.trans ?_ (dif_pos (by omega)).symm)
    refine (pick_val _ b s _).trans ((rope_val _ _ _ b s _ _ _).trans ?_)
    rw [hs]
    refine congr (congrArg (fun z => ROPE z _ _) (funext fun d => ?_)) (Fin.ext (by simp only []))
    refine (part0_val _ b s _ _ d).trans ((zref_val X g w b s _ hb).trans (congrArg (ZC X g w _) (Fin.ext ?_)))
    simp only [COL]
    omega
  · refine (dif_neg h1).trans ?_
    by_cases h2 : n.val < 1024
    · have h3 : n.val - 512 < 512 := by omega
      refine (dif_pos h3).trans (Eq.trans ?_ (dif_pos h2).symm)
      refine (pick_val _ b s _).trans ((rope_val _ _ _ b s _ _ _).trans ?_)
      rw [hs]
      refine congr (congrArg (fun z => ROPE z _ _) (funext fun d => ?_)) (Fin.ext (by simp only []; omega))
      refine (part1_val _ b s _ _ d).trans ((zref_val X g w b s _ hb).trans (congrArg (ZC X g w _) (Fin.ext ?_)))
      simp only [COL]
      omega
    · have h3 : ¬ n.val - 512 < 512 := by omega
      refine (dif_neg h3).trans (Eq.trans ?_ (dif_neg h2).symm)
      refine (pick_val _ b s _).trans ((part2_val _ b s _ _ _).trans ((zref_val X g w b s _ hb).trans (congrArg (ZC X g w _) (Fin.ext ?_))))
      simp only [COL]
      omega

/-- The kernel's rows, brought back to batch and position, are the reference's result. -/
theorem back (X g w cs sn) : REFV X g w cs sn = shapeCast S4x2048x1536 (transpose S4x128x16x1536 [0, 2, 1, 3] (shapeCast S4x16x128x1536 (RES X g w cs sn) shapeCasts_S8192x1536_S4x16x128x1536) transposes_S4x16x128x1536_S4x128x16x1536_0_2_1_3) shapeCasts_S4x128x16x1536_S4x2048x1536 := by
  funext j
  rw [eq_ix3 j]
  refine (ref_val X g w cs sn (j 0) (j 1) (j 2) (by have h0 : (j 0).val < 4 := (j 0).isLt; have h1 : (j 1).val < 2048 := (j 1).isLt; omega)).trans ?_
  pointwise [RES, PLACE]
  refine congrArg (fun r => QKV 2 X g w cs sn r (j 2)) (Fin.ext ?_)
  simp only []
  have h0 : (j 0).val < 4 := (j 0).isLt
  have h1 : (j 1).val < 2048 := (j 1).isLt
  exact (place16 _ _ h0 h1).symm

set_option maxHeartbeats 2000000 in
/-- The kernel's result and the reference's, read as real numbers, are equal. -/
theorem algebraic [hK : Cert.Kernel21Ideal.Facts] : Cert.algebraic_Kernel21Ideal_Reference21Ideal := by
  pair_intro
  · run_from Cert.Kernel21Ideal.Gen.run_main m g
    · exact W_main_arg0 m (dats m) c
    · exact W_main_arg1 m (dats m) c
    · exact W_main_arg2 m (dats m) c
    · exact W_main_arg3 m (dats m) c
    · exact W_main_arg4 m (dats m) c
  · refine θ_run_mono (StableHlo.run_hlo _ _ (by hlo_seq) (by decide) (by decide) (by simp)
      (by intro _ h; (repeat (cases h with | head => rfl | tail _ h => ?_)); exact nomatch h) _ _) ?_
    intro r hr c
    refine ⟨(hr c _).trans (Eq.trans (b := REFV (m ((c : Thread nD τ).loc main_arg0)) (m ((c : Thread nD τ).loc main_arg1)) (m ((c : Thread nD τ).loc main_arg2)) (m ((c : Thread nD τ).loc main_arg3)) (m ((c : Thread nD τ).loc main_arg4))) ?_ ?_), (hr c _).trans ?_, (hr c _).trans ?_, (hr c _).trans ?_, (hr c _).trans ?_, (hr c _).trans ?_⟩
    · clear hr
      refine after_cut 17 _ _ _ _ fun σ hσ => ?_
      simp only [List.take_succ_cons, List.take_zero] at hσ
      simp only [List.drop_succ_cons, List.drop_zero]
      have e13 : σ (Proc.devRef .tc Cert.Reference21Ideal.main_v13) = ZREF (m' ((c : Thread Cert.Reference21Ideal.nD Cert.Reference21Ideal.τ).loc Cert.Reference21Ideal.main_arg0)) (m' ((c : Thread Cert.Reference21Ideal.nD Cert.Reference21Ideal.τ).loc Cert.Reference21Ideal.main_arg1)) (m' ((c : Thread Cert.Reference21Ideal.nD Cert.Reference21Ideal.τ).loc Cert.Reference21Ideal.main_arg2)) := by
        rw [hσ]
        entry_read
        rfl
      have e3 : σ (Proc.devRef .tc Cert.Reference21Ideal.main_arg3) = m' ((c : Thread Cert.Reference21Ideal.nD Cert.Reference21Ideal.τ).loc Cert.Reference21Ideal.main_arg3) := by
        rw [hσ]
        entry_read
        rfl
      have e4 : σ (Proc.devRef .tc Cert.Reference21Ideal.main_arg4) = m' ((c : Thread Cert.Reference21Ideal.nD Cert.Reference21Ideal.τ).loc Cert.Reference21Ideal.main_arg4) := by
        rw [hσ]
        entry_read
        rfl
      clear hσ
      rw [(hagree c).1, (hagree c).2.1, (hagree c).2.2.1] at e13
      rw [(hagree c).2.2.2.1] at e3
      rw [(hagree c).2.2.2.2] at e4
      refine after_cut 25 _ _ _ _ fun ρ hρ => ?_
      simp only [List.take_succ_cons, List.take_zero] at hρ
      simp only [List.drop_succ_cons, List.drop_zero]
      have f30 : ρ (Proc.devRef .tc Cert.Reference21Ideal.main_v30) = R1 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4)) := by
        refine Eq.trans (b := R1 (PART0 (σ (Proc.devRef .tc Cert.Reference21Ideal.main_v13))) (σ (Proc.devRef .tc Cert.Reference21Ideal.main_arg3)) (σ (Proc.devRef .tc Cert.Reference21Ideal.main_arg4))) ?_ (by rw [e13, e3, e4])
        rw [hρ]
        entry_read
        rfl
      have f37 : ρ (Proc.devRef .tc Cert.Reference21Ideal.main_v37) = R2 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4)) := by
        refine Eq.trans (b := R2 (PART0 (σ (Proc.devRef .tc Cert.Reference21Ideal.main_v13))) (σ (Proc.devRef .tc Cert.Reference21Ideal.main_arg3)) (σ (Proc.devRef .tc Cert.Reference21Ideal.main_arg4))) ?_ (by rw [e13, e3, e4])
        rw [hρ]
        entry_read
        rfl
      have f38 : ρ (Proc.devRef .tc Cert.Reference21Ideal.main_v38) = R3 (PART0 (ZREF (m ((c : Thread nD τ).loc main_arg0)) (m ((c : Thread nD τ).loc main_arg1)) (m ((c : Thread nD τ).loc main_arg2)))) := by
        refine Eq.trans (b := R3 (PART0 (σ (Proc.devRef .tc Cert.Reference21Ideal.main_v13)))) ?_ (by rw [e13])
        rw [hρ]
        entry_read
        rfl
      have f17 : ρ (Proc.devRef .tc Cert.Reference21Ideal.main_v17) = PART1 (ZREF (m ((c : Thread nD τ).loc main_arg0)) (m ((c : Thread nD τ).loc main_arg1)) (m ((c : Thread nD τ).loc main_arg2))) := by
        refine Eq.trans (b := PART1 (σ (Proc.devRef .tc Cert.Reference21Ideal.main_v13))) ?_ (by rw [e13])
        rw [hρ]
        entry_read
        rfl
      have f19 : ρ (Proc.devRef .tc Cert.Reference21Ideal.main_v19) = PART2 (ZREF (m ((c : Thread nD τ).loc main_arg0)) (m ((c : Thread nD τ).loc main_arg1)) (m ((c : Thread nD τ).loc main_arg2))) := by
        refine Eq.trans (b := PART2 (σ (Proc.devRef .tc Cert.Reference21Ideal.main_v13))) ?_ (by rw [e13])
        rw [hρ]
        entry_read
        rfl
      have f3 : ρ (Proc.devRef .tc Cert.Reference21Ideal.main_arg3) = (m ((c : Thread nD τ).loc main_arg3)) := by
        refine Eq.trans (b := (σ (Proc.devRef .tc Cert.Reference21Ideal.main_arg3))) ?_ (by rw [e3])
        rw [hρ]
        entry_read
        rfl
      have f4 : ρ (Proc.devRef .tc Cert.Reference21Ideal.main_arg4) = (m ((c : Thread nD τ).loc main_arg4)) := by
        refine Eq.trans (b := (σ (Proc.devRef .tc Cert.Reference21Ideal.main_arg4))) ?_ (by rw [e4])
        rw [hρ]
        entry_read
        rfl
      clear hρ e13 e3 e4
      refine after_cut 20 _ _ _ _ fun υ hυ => ?_
      simp only [List.take_succ_cons, List.take_zero] at hυ
      simp only [List.drop_succ_cons, List.drop_zero]
      have g39 : υ (Proc.devRef .tc Cert.Reference21Ideal.main_v39) = CAT (R1 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4))) (R2 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4))) (R3 (PART0 (ZREF (m ((c : Thread nD τ).loc main_arg0)) (m ((c : Thread nD τ).loc main_arg1)) (m ((c : Thread nD τ).loc main_arg2))))) := by
        refine Eq.trans (b := CAT (ρ (Proc.devRef .tc Cert.Reference21Ideal.main_v30)) (ρ (Proc.devRef .tc Cert.Reference21Ideal.main_v37)) (ρ (Proc.devRef .tc Cert.Reference21Ideal.main_v38))) ?_ (by rw [f30, f37, f38])
        rw [hυ]
        entry_read
        rfl
      have g50 : υ (Proc.devRef .tc Cert.Reference21Ideal.main_v50) = R1 (PART1 (ZREF (m ((c : Thread nD τ).loc main_arg0)) (m ((c : Thread nD τ).loc main_arg1)) (m ((c : Thread nD τ).loc main_arg2)))) (m ((c : Thread nD τ).loc main_arg3)) (m ((c : Thread nD τ).loc main_arg4)) := by
        refine Eq.trans (b := R1 (ρ (Proc.devRef .tc Cert.Reference21Ideal.main_v17)) (ρ (Proc.devRef .tc Cert.Reference21Ideal.main_arg3)) (ρ (Proc.devRef .tc Cert.Reference21Ideal.main_arg4))) ?_ (by rw [f17, f3, f4])
        rw [hυ]
        entry_read
        rfl
      have g57 : υ (Proc.devRef .tc Cert.Reference21Ideal.main_v57) = R2 (PART1 (ZREF (m ((c : Thread nD τ).loc main_arg0)) (m ((c : Thread nD τ).loc main_arg1)) (m ((c : Thread nD τ).loc main_arg2)))) (m ((c : Thread nD τ).loc main_arg3)) (m ((c : Thread nD τ).loc main_arg4)) := by
        refine Eq.trans (b := R2 (ρ (Proc.devRef .tc Cert.Reference21Ideal.main_v17)) (ρ (Proc.devRef .tc Cert.Reference21Ideal.main_arg3)) (ρ (Proc.devRef .tc Cert.Reference21Ideal.main_arg4))) ?_ (by rw [f17, f3, f4])
        rw [hυ]
        entry_read
        rfl
      have g58 : υ (Proc.devRef .tc Cert.Reference21Ideal.main_v58) = R3 (PART1 (ZREF (m ((c : Thread nD τ).loc main_arg0)) (m ((c : Thread nD τ).loc main_arg1)) (m ((c : Thread nD τ).loc main_arg2)))) := by
        refine Eq.trans (b := R3 (ρ (Proc.devRef .tc Cert.Reference21Ideal.main_v17))) ?_ (by rw [f17])
        rw [hυ]
        entry_read
        rfl
      have g19 : υ (Proc.devRef .tc Cert.Reference21Ideal.main_v19) = (PART2 (ZREF (m ((c : Thread nD τ).loc main_arg0)) (m ((c : Thread nD τ).loc main_arg1)) (m ((c : Thread nD τ).loc main_arg2)))) := by
        refine Eq.trans (b := (ρ (Proc.devRef .tc Cert.Reference21Ideal.main_v19))) ?_ (by rw [f19])
        rw [hυ]
        entry_read
        rfl
      clear hυ f30 f37 f38 f17 f19 f3 f4
      refine after_cut 10 _ _ _ _ fun ω hω => ?_
      simp only [List.take_succ_cons, List.take_zero] at hω
      simp only [List.drop_succ_cons, List.drop_zero]
      have k62 : ω (Proc.devRef .tc Cert.Reference21Ideal.main_v62) = PICK (CAT (R1 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4))) (R2 (PART0 (ZREF (m ((c : Thread nD τ).loc main_arg0)) (m ((c : Thread nD τ).loc main_arg1)) (m ((c : Thread nD τ).loc main_arg2)))) (m ((c : Thread nD τ).loc main_arg3)) (m ((c : Thread nD τ).loc main_arg4))) (R3 (PART0 (ZREF (m ((c : Thread nD τ).loc main_arg0)) (m ((c : Thread nD τ).loc main_arg1)) (m ((c : Thread nD τ).loc main_arg2)))))) := by
        refine Eq.trans (b := PICK (υ (Proc.devRef .tc Cert.Reference21Ideal.main_v39))) ?_ (by rw [g39])
        rw [hω]
        entry_read
        rfl
      have k65 : ω (Proc.devRef .tc Cert.Reference21Ideal.main_v65) = PICK (CAT (R1 (PART1 (ZREF (m ((c : Thread nD τ).loc main_arg0)) (m ((c : Thread nD τ).loc main_arg1)) (m ((c : Thread nD τ).loc main_arg2)))) (m ((c : Thread nD τ).loc main_arg3)) (m ((c : Thread nD τ).loc main_arg4))) (R2 (PART1 (ZREF (m ((c : Thread nD τ).loc main_arg0)) (m ((c : Thread nD τ).loc main_arg1)) (m ((c : Thread nD τ).loc main_arg2)))) (m ((c : Thread nD τ).loc main_arg3)) (m ((c : Thread nD τ).loc main_arg4))) (R3 (PART1 (ZREF (m ((c : Thread nD τ).loc main_arg0)) (m ((c : Thread nD τ).loc main_arg1)) (m ((c : Thread nD τ).loc main_arg2)))))) := by
        refine Eq.trans (b := PICK (CAT (υ (Proc.devRef .tc Cert.Reference21Ideal.main_v50)) (υ (Proc.devRef .tc Cert.Reference21Ideal.main_v57)) (υ (Proc.devRef .tc Cert.Reference21Ideal.main_v58)))) ?_ (by rw [g50, g57, g58])
        rw [hω]
        entry_read
        rfl
      have k68 : ω (Proc.devRef .tc Cert.Reference21Ideal.main_v68) = PICK (PART2 (ZREF (m ((c : Thread nD τ).loc main_arg0)) (m ((c : Thread nD τ).loc main_arg1)) (m ((c : Thread nD τ).loc main_arg2)))) := by
        refine Eq.trans (b := PICK (υ (Proc.devRef .tc Cert.Reference21Ideal.main_v19))) ?_ (by rw [g19])
        rw [hω]
        entry_read
        rfl
      clear hω g39 g50 g57 g58 g19
      refine Eq.trans (b := OUT (ω (Proc.devRef .tc Cert.Reference21Ideal.main_v62)) (ω (Proc.devRef .tc Cert.Reference21Ideal.main_v65)) (ω (Proc.devRef .tc Cert.Reference21Ideal.main_v68))) ?_ (by rw [k62, k65, k68]; rfl)
      entry_read
      rfl
    · unfold Pipeline.afterTail₀
      simp only [List.flatten_cons, List.flatten_nil, List.append_nil]
      entry_read
      rw [Pipeline.withArrays_arr spec0 (by decide +kernel) c (V0 m c) (fun w => (dats m 0 c).arrAt w (cfgs 0).N) 5, final]
      exact back _ _ _ _ _
    all_goals
      clear hr
      refine after_cut 25 _ _ _ _ fun σ hσ => ?_
      simp only [List.take_succ_cons, List.take_zero] at hσ
      simp only [List.drop_succ_cons, List.drop_zero]
      refine after_cut 25 _ _ _ _ fun ρ hρ => ?_
      simp only [List.take_succ_cons, List.take_zero] at hρ
      simp only [List.drop_succ_cons, List.drop_zero]
      entry_read
      rw [hρ]
      entry_read
      rw [hσ]
      entry_read
      rfl

end Cert.Kernel21Ideal.Value
-- ==== Proof.DownForwardValue.lean ====
/-
  The down-projection added to the stream, `x1 + a · w_down`: every grid point multiplies its 512 rows by the whole
  weight, in two stores of 512 columns each.
-/
module

public import proofs.«01_k».proof.Defs
public import proofs.«01_k».proof.Proof.Gen.Kernel10Ideal.Frame
public import proofs.«01_k».proof.Proof.Gen.Reference10Ideal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Value
open Cert.Kernel10Ideal Cert.Kernel10Ideal.Gen

variable (m : (ℓ : Loc nD τ sig) → Buf (Elt Ideal) ℓ)

/-- The windows' block indices, at every point. -/
theorem idx_val : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

/-- The reference's result, its batch and position folded into one row index. -/
def RES (A : FVec Ideal Cert.Reference10Ideal.S4x2048x2816 .f32) (w : FVec Ideal Cert.Reference10Ideal.S2816x1024 .f32)
    (X : FVec Ideal Cert.Reference10Ideal.S4x2048x1024 .f32) : FVec Ideal S8192x1024 .f32 :=
  shapeCast _ (addf X (Host.dotGeneral Cert.Reference10Ideal.dot_S4x2048x2816_S2816x1024_S4x2048x1024_2_0_01_1_n_n none A w))
    shapeCasts_S4x2048x1024_S8192x1024

/-- The first store's values: 512 columns of the product, and the stream. -/
theorem pay2_val (a b x j) : k0_pay2 (F := Ideal) a b x j = ∑ k : Fin 2816, a (ix2 (j 0) k) * b (ix2 k (j 1)) + x j := by
  pointwise [k0_pay2, k0_pay1]

/-- The second store's values: the other 512 columns. -/
theorem pay3_val (a b x j) : k0_pay3 (F := Ideal) a b x j = ∑ k : Fin 2816, a (ix2 (j 0) k) * b (ix2 k (j 1)) + x j := by
  pointwise [k0_pay3, k0_pay1]

set_option maxHeartbeats 1600000 in
/-- What a point leaves in its output block is the reference's values at the block's place. -/
theorem point (c : Dev nD) (t : Fin cfg0.N) (y) : out0_3 (iblk m c 0 t) (iblk m c 1 t) (iblk m c 2 t) y
    = RES (m ((c : Thread nD τ).loc main_arg0)) (m ((c : Thread nD τ).loc main_arg1)) (m ((c : Thread nD τ).loc main_arg2))
      (((cfg0.win 3).blk t).view.emb y) := by
  canon_tiles x h
  all_goals
    first | rw [pay2_val] | rw [pay3_val]
    rw [add_comm]
    pointwise [RES]
    refine congrArg₂ (· + ·) ?_ (Finset.sum_congr rfl fun k _ => congrArg₂ (· * ·) ?_ ?_)
    · show V m c main_v3 (((cfg0.win 2).blk t).view.emb (ix2 _ _)) = _
      entry_read
      simp only [List.flatten_cons, List.flatten_nil, List.append_nil]
      entry_read
      pointwise
      blk_ext [idx_val t]
    · show V m c main_v1 (((cfg0.win 0).blk t).view.emb (ix2 (x 0) k)) = _
      entry_read
      simp only [List.flatten_cons, List.flatten_nil, List.append_nil]
      entry_read
      pointwise
      blk_ext [idx_val t]
    · show V m c main_v2 (((cfg0.win 1).blk t).view.emb (ix2 k _)) = _
      entry_read
      simp only [List.flatten_cons, List.flatten_nil, List.append_nil]
      entry_read
      pointwise
      blk_ext [idx_val t]

/-- The kernel's result array ends holding the reference's result. -/
theorem final (c : Dev nD) : (dats m 0 c).arrAt 3 (cfgs 0).N
    = RES (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point m c t y

/-- The rows' result, brought back to batch and position, is the reference's. -/
theorem rows_back (A w X) : shapeCast S4x2048x1024 (RES A w X) shapeCasts_S8192x1024_S4x2048x1024
    = addf X (Host.dotGeneral Cert.Reference10Ideal.dot_S4x2048x2816_S2816x1024_S4x2048x1024_2_0_01_1_n_n none A w) := by
  funext j
  pointwise [RES]

/-- The kernel's result array and the reference's, read as real numbers, are equal. -/
theorem algebraic [hK : Cert.Kernel10Ideal.Facts] : Cert.algebraic_Kernel10Ideal_Reference10Ideal := by
  pair_intro
  · run_from Cert.Kernel10Ideal.Gen.run_main m g
    · exact W_main_arg0 m (dats m) c
    · exact W_main_arg1 m (dats m) c
    · exact W_main_arg2 m (dats m) c
  · hlo_run
    unfold Pipeline.afterTail₀
    simp only [List.flatten_cons, List.flatten_nil, List.append_nil]
    entry_read
    rw [Pipeline.withArrays_arr spec0 (by decide +kernel) c (V0 m c) (fun w => (dats m 0 c).arrAt w (cfgs 0).N) 3, final]
    exact (rows_back _ _ _).symm

end Cert.Kernel10Ideal.Value
-- ==== Proof.BranchValue.lean ====
/-
  The projection of the normed stream to the three mixing branches: every grid point multiplies its 512 normed rows by the
  weight's columns of the branches, which the host has brought to the front, in three stores of 1024 columns each.
-/
module

public import proofs.«01_k».proof.Defs
public import proofs.«01_k».proof.Proof.Gen.Kernel11Ideal.Frame
public import proofs.«01_k».proof.Proof.Gen.Reference11Ideal
public import proofs.«01_k».proof.Proof.WeightValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.Value
open Cert.Kernel11Ideal Cert.Kernel11Ideal.Gen
open Cert.Kernel2Ideal.Value (normed)

variable (m : (ℓ : Loc nD τ sig) → Buf (Elt Ideal) ℓ)

/-- The windows' block indices, at every point. -/
theorem idx_val : ∀ t : Fin cfg0.N, win0_0.index t = ![t.val, 0] ∧ win0_1.index t = ![0, 0] ∧ win0_2.index t = ![t.val, 0] :=
  (by decide +kernel : ∀ t : Fin grid0.N, _)

/-- The reference's result. -/
def REF (X : FVec Ideal Cert.Reference11Ideal.S4x2048x1024 .f32) (g : FVec Ideal Cert.Reference11Ideal.S1024 .f32)
    (w : FVec Ideal Cert.Reference11Ideal.S1024x7680 .f32) : FVec Ideal Cert.Reference11Ideal.S4x2048x3072 .f32 :=
  extractStridedSlice Cert.Reference11Ideal.S4x2048x3072 ![0, 0, 4608]
    (Host.dotGeneral Cert.Reference11Ideal.dot_S4x2048x1024_S1024x7680_S4x2048x7680_2_0_01_1_n_n none (normed X g) w)
    Cert.Reference11Ideal.Gen.slices_S4x2048x7680_S4x2048x3072_0_0_4608

/-- The value at a row's batch and position. -/
def X3 (X : FVec Ideal Cert.Reference11Ideal.S4x2048x1024 .f32) (r : Fin 8192) (k : Fin 1024) : EReal :=
  X (ix3 ⟨r.val / 2048, by omega⟩ ⟨r.val % 2048, by omega⟩ k)

/-- The result with batch and position folded into one row index. -/
def RES (X : FVec Ideal Cert.Reference11Ideal.S4x2048x1024 .f32) (g : FVec Ideal Cert.Reference11Ideal.S1024 .f32)
    (w : FVec Ideal Cert.Reference11Ideal.S1024x7680 .f32) : FVec Ideal S8192x3072 .f32 :=
  fun j => ∑ k : Fin 1024, X3 (normed X g) (j 0) k * w (ix2 k ⟨4608 + (j 1).val, by have h1 : (j 1).val < 3072 := (j 1).isLt; omega⟩)

/-- A point's rows are the normed rows of the stream. -/
theorem read_x (c : Dev nD) (t : Fin cfg0.N) (r : Fin 512) (k : Fin 1024) : iblk m c 0 t (ix2 r k)
    = X3 (normed (m ((c : Thread nD τ).loc main_arg0)) (m ((c : Thread nD τ).loc main_arg1)))
      ⟨t.val * 512 + r.val, by have : t.val < 16 := t.isLt; omega⟩ k := by
  have e : ((cfg0.win 0).blk t).view.emb (ix2 r k) = ix2 ⟨t.val * 512 + r.val, by have : t.val < 16 := t.isLt; omega⟩ k := by
    blk_ext [idx_val t]
  refine (congrArg (V m c main_v14) e).trans ?_
  entry_read
  simp only [List.flatten_cons, List.flatten_nil, List.append_nil]
  entry_read
  unfold X3
  pointwise [normed]

/-- The weight at a point: the branches' columns. -/
theorem read_w (c : Dev nD) (t : Fin cfg0.N) (k : Fin 1024) (n : Fin 3072) : X0_1 m c t (ix2 k n)
    = m ((c : Thread nD τ).loc main_arg2) (ix2 k ⟨4608 + n.val, by omega⟩) := by
  unfold X0_1 Pipeline.Window.fill
  rw [dif_pos (moved0_1 t _)]
  refine (congrArg (V m c main_v26) (?_ : _ = ix2 k ⟨n.val, by omega⟩)).trans ?_
  · blk_ext [idx_val t]
  show StableHlo.after (hostOps0 (F := Ideal)) (fun b => m (c, b)) (Proc.devRef .tc main_v26) _ = _
  rw [← List.take_append_drop 28 (hostOps0 (F := Ideal)), StableHlo.after_append]
  have e : StableHlo.after ((hostOps0 (F := Ideal)).take 28) (fun b => m (c, b)) (Proc.devRef .tc main_v15)
      = extractStridedSlice S1024x3072 ![0, 4608] (m ((c : Thread nD τ).loc main_arg2)) slices_S1024x7680_S1024x3072_0_4608 := by
    simp only [hostOps0, List.take_succ_cons, List.take_zero]
    entry_read
    rfl
  generalize StableHlo.after ((hostOps0 (F := Ideal)).take 28) (fun b => m (c, b)) = σ at e ⊢
  simp only [hostOps0, List.drop_succ_cons, List.drop_zero]
  entry_read
  pointwise
  refine (congrFun e (ix2 k n)).trans ?_
  pointwise

/-- A point's rows go to the products as they are. -/
theorem pay1_id (a) : k0_pay1 (F := Ideal) a = a := by
  funext j
  pointwise [k0_pay1]

/-- The first store's values. -/
theorem pay2_val (a b j) : k0_pay2 (F := Ideal) a b j = ∑ k : Fin 1024, a (ix2 (j 0) k) * b (ix2 k (j 1)) := by pointwise [k0_pay2, pay1_id]

/-- The second store's values. -/
theorem pay3_val (a b j) : k0_pay3 (F := Ideal) a b j = ∑ k : Fin 1024, a (ix2 (j 0) k) * b (ix2 k (j 1)) := by pointwise [k0_pay3, pay1_id]

/-- The third store's values. -/
theorem pay4_val (a b j) : k0_pay4 (F := Ideal) a b j = ∑ k : Fin 1024, a (ix2 (j 0) k) * b (ix2 k (j 1)) := by pointwise [k0_pay4, pay1_id]

/-- What a point leaves in its block is the reference's values at the block's place. -/
theorem point (c : Dev nD) (t : Fin cfg0.N) (y : S512x3072.Idx) : outsAt0 m c t y
    = ∑ k : Fin 1024, X3 (normed (m ((c : Thread nD τ).loc main_arg0)) (m ((c : Thread nD τ).loc main_arg1)))
        ⟨t.val * 512 + (y 0).val, by have : t.val < 16 := t.isLt; have h1 : (y 0).val < 512 := (y 0).isLt; omega⟩ k
      * m ((c : Thread nD τ).loc main_arg2) (ix2 k ⟨4608 + (y 1).val, by have h1 : (y 1).val < 3072 := (y 1).isLt; omega⟩) := by
  unfold outsAt0
  frame_out
  canon_tiles x h
  all_goals
    first | rw [pay2_val] | rw [pay3_val] | rw [pay4_val]
    refine Finset.sum_congr rfl fun k _ => congrArg₂ (· * ·) ?_ ?_
    · exact (read_x m c t (x 0) k).trans (congrArg (fun r => X3 _ r k) (Fin.ext (by show t.val * 512 + (x 0).val = t.val * 512 + (y 0).val; rw [h0])))
    · pointwise
      refine (read_w m c t k _).trans ?_
      refine congrArg (fun n => m ((c : Thread nD τ).loc main_arg2) (ix2 k n)) (Fin.ext ?_)
      simp only []
      omega

/-- Where the result's block lies. -/
theorem emb_r (t : Fin cfg0.N) (y : S512x3072.Idx) : ((cfg0.win 2).blk t).view.emb y
    = ix2 ⟨t.val * 512 + (y 0).val, by have : t.val < 16 := t.isLt; have h1 : (y 0).val < 512 := (y 0).isLt; omega⟩ (y 1) := by
  blk_ext [idx_val t]

/-- The kernel's result array ends holding the reference's result, rows folded. -/
theorem final (c : Dev nD) : (dats m 0 c).arrAt 2 (cfgs 0).N
    = RES (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  exact (point m c t y).trans (congrArg (RES _ _ _) (emb_r t y)).symm

/-- A row's batch and position are those it was folded from. -/
theorem X3_fold (X) (b : Fin 4) (s : Fin 2048) (k : Fin 1024) (h) : X3 X ⟨b.val * 2048 + s.val, h⟩ k = X (ix3 b s k) := by
  unfold X3
  refine congrArg X ?_
  have e1 : (b.val * 2048 + s.val) / 2048 = b.val := by omega
  have e2 : (b.val * 2048 + s.val) % 2048 = s.val := by omega
  exact congrArg₂ (fun p q => ix3 p q k) (Fin.ext e1) (Fin.ext e2)

/-- The result brought back to batch and position is the reference's. -/
theorem rows_back (X g w) : shapeCast S4x2048x3072 (RES X g w) shapeCasts_S8192x3072_S4x2048x3072 = REF X g w := by
  funext j
  pointwise [RES, REF]
  exact Finset.sum_congr rfl fun k _ => congrArg₂ (· * ·) (X3_fold _ (j 0) (j 1) k _) rfl

/-- The kernel's result array and the reference's, read as real numbers, are equal. -/
theorem algebraic [hK : Cert.Kernel11Ideal.Facts] : Cert.algebraic_Kernel11Ideal_Reference11Ideal := by
  pair_intro
  · run_from Cert.Kernel11Ideal.Gen.run_main m g
    · exact W_main_arg0 m (dats m) c
    · exact W_main_arg1 m (dats m) c
    · exact W_main_arg2 m (dats m) c
  · hlo_run
    unfold Pipeline.afterTail₀
    simp only [List.flatten_cons, List.flatten_nil, List.append_nil]
    entry_read
    rw [Pipeline.withArrays_arr spec0 (by decide +kernel) c (V0 m c) (fun w => (dats m 0 c).arrAt w (cfgs 0).N) 2, final]
    exact (rows_back _ _ _).symm

end Cert.Kernel11Ideal.Value
-- ==== Proof.OutputWeightValue.lean ====
/-
  The gradient of the mixers' output weight: the kernel adds eight products of 1024 rows each into a scratch
  block and writes it back at the eighth; over the extended reals the partial sums are the reference's one sum over
  batch and position.
-/
module

public import proofs.«01_k».proof.Defs
public import proofs.«01_k».proof.Proof.Gen.Kernel12Ideal.Frame
public import proofs.«01_k».proof.Proof.Gen.Reference12Ideal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel12Ideal.Value
open Cert.Kernel12Ideal Cert.Kernel12Ideal.Gen

variable (m : (ℓ : Loc nD τ sig) → Buf (Elt Ideal) ℓ)

/-- The zero fill of the accumulator. -/
theorem zero_fill (j) : k0_pay1 (F := Ideal) j = 0 := by pointwise [k0_pay1]

/-- One accumulation: the block before, plus the product of the point's two input blocks. -/
theorem step_fill (acc a b j) : k0_pay2 (F := Ideal) acc a b j
    = acc j + ∑ k : Fin 1024, a (ix2 k (j 0)) * b (ix2 k (j 1)) := by pointwise [k0_pay2]

/-- The windows' block indices, at every point. -/
theorem idx_val : ∀ t : Fin cfg0.N, win0_0.index t = ![t.val, 0] ∧ win0_1.index t = ![t.val, 0] ∧ win0_2.index t = ![0, 0]
    := (by decide +kernel : ∀ t : Fin grid0.N, _)

/-- The reference's gradient of the weight: the product of the rows and their gradient summed over batch and position. -/
def REF (A : FVec Ideal Cert.Reference12Ideal.S4x2048x1024 .f32) (D : FVec Ideal Cert.Reference12Ideal.S4x2048x1024 .f32) :
    FVec Ideal Cert.Reference12Ideal.S1024x1024 .f32 :=
  transpose Cert.Reference12Ideal.S1024x1024 [1, 0] (Host.dotGeneral Cert.Reference12Ideal.dot_S4x2048x1024_S4x2048x1024_S1024x1024_01_01_2_2_n_n none
    D A) Cert.Reference12Ideal.Gen.transposes_S1024x1024_S1024x1024_1_0

/-- The reference's gradient at an index, as a sum over batch and position. -/
theorem ref_sum (A D j) : REF A D j
    = ∑ a : Fin 4, ∑ l : Fin 2048, D (ix3 a l (j 1)) * A (ix3 a l (j 0)) := by pointwise [REF]

/-- The weight kernel's result array ends holding the reference's gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  have h7 : t.val % 8 = 7 := (flush0_2 t).mp hf
  have hout : (outsAt0 m c t.val t.isLt).1 = (outsAt0 m c t.val t.isLt).2 := by
    rw [outsAt0_C m c t (by omega) h7]
    frame_out
  rw [hout, Pipeline.eq_sum_fin_of_reset_step_apply_of_flush (fun n h => (outsAt0 m c n h).2) 8 (fun _ => 0) _
    (fun t h j => by rw [outsAt0_A m c t h (by omega)]; frame_out; rw [step_fill, zero_fill])
    (fun t h j => by
      by_cases h1 : t.val % 8 = 7
      · rw [outsAt0_C m c t h h1]; frame_out; rw [step_fill]
        exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h7 _, zero_add, ref_sum]
  refine Fin.sum_points_lanes_congr 2 fun s k ha hl => ?_
  rw [mul_comm]
  blk_point [iblk, V, idx_val t, idx_val ⟨_, Pipeline.run_point_lt_of_flush t h7 s⟩]

/-- The weight kernel's result array and the reference's, read as real numbers, are equal. -/
theorem algebraic [hK : Cert.Kernel12Ideal.Facts] : Cert.algebraic_Kernel12Ideal_Reference12Ideal := by
  pair_intro
  · run_from Cert.Kernel12Ideal.Gen.run_main m g
  · hlo_run
    exact (final m c).symm

end Cert.Kernel12Ideal.Value
-- ==== Proof.AttentionWeightValue.lean ====
/-
  The gradient of the attention mixer's weight: the kernel adds eight products of 1024 rows each into a scratch
  block and writes it back at the eighth; over the extended reals the partial sums are the reference's one sum over
  batch and position.
-/
module

public import proofs.«01_k».proof.Defs
public import proofs.«01_k».proof.Proof.Gen.Kernel13Ideal.Frame
public import proofs.«01_k».proof.Proof.Gen.Reference13Ideal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel13Ideal.Value
open Cert.Kernel13Ideal Cert.Kernel13Ideal.Gen

variable (m : (ℓ : Loc nD τ sig) → Buf (Elt Ideal) ℓ)

/-- The zero fill of the accumulator. -/
theorem zero_fill (j) : k0_pay1 (F := Ideal) j = 0 := by pointwise [k0_pay1]

/-- One accumulation: the block before, plus the product of the point's two input blocks. -/
theorem step_fill (acc a b j) : k0_pay2 (F := Ideal) acc a b j
    = acc j + ∑ k : Fin 1024, a (ix2 k (j 0)) * b (ix2 k (j 1)) := by pointwise [k0_pay2]

/-- The windows' block indices, at every point. -/
theorem idx_val : ∀ t : Fin cfg0.N, win0_0.index t = ![t.val, 0] ∧ win0_1.index t = ![t.val, 0] ∧ win0_2.index t = ![0, 0]
    := (by decide +kernel : ∀ t : Fin grid0.N, _)

/-- The reference's gradient of the weight: the product of the rows and their gradient summed over batch and position. -/
def REF (A : FVec Ideal Cert.Reference13Ideal.S4x2048x512 .f32) (D : FVec Ideal Cert.Reference13Ideal.S4x2048x1024 .f32) :
    FVec Ideal Cert.Reference13Ideal.S512x1024 .f32 :=
  transpose Cert.Reference13Ideal.S512x1024 [1, 0] (Host.dotGeneral Cert.Reference13Ideal.dot_S4x2048x1024_S4x2048x512_S1024x512_01_01_2_2_n_n none
    D A) Cert.Reference13Ideal.Gen.transposes_S1024x512_S512x1024_1_0

/-- The reference's gradient at an index, as a sum over batch and position. -/
theorem ref_sum (A D j) : REF A D j
    = ∑ a : Fin 4, ∑ l : Fin 2048, D (ix3 a l (j 1)) * A (ix3 a l (j 0)) := by pointwise [REF]

/-- The weight kernel's result array ends holding the reference's gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  have h7 : t.val % 8 = 7 := (flush0_2 t).mp hf
  have hout : (outsAt0 m c t.val t.isLt).1 = (outsAt0 m c t.val t.isLt).2 := by
    rw [outsAt0_C m c t (by omega) h7]
    frame_out
  rw [hout, Pipeline.eq_sum_fin_of_reset_step_apply_of_flush (fun n h => (outsAt0 m c n h).2) 8 (fun _ => 0) _
    (fun t h j => by rw [outsAt0_A m c t h (by omega)]; frame_out; rw [step_fill, zero_fill])
    (fun t h j => by
      by_cases h1 : t.val % 8 = 7
      · rw [outsAt0_C m c t h h1]; frame_out; rw [step_fill]
        exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h7 _, zero_add, ref_sum]
  refine Fin.sum_points_lanes_congr 2 fun s k ha hl => ?_
  rw [mul_comm]
  blk_point [iblk, V, idx_val t, idx_val ⟨_, Pipeline.run_point_lt_of_flush t h7 s⟩]

/-- The weight kernel's result array and the reference's, read as real numbers, are equal. -/
theorem algebraic [hK : Cert.Kernel13Ideal.Facts] : Cert.algebraic_Kernel13Ideal_Reference13Ideal := by
  pair_intro
  · run_from Cert.Kernel13Ideal.Gen.run_main m g
  · hlo_run
    exact (final m c).symm

end Cert.Kernel13Ideal.Value
-- ==== Proof.PoolingWeightValue.lean ====
/-
  The gradient of the pooling mixer's weight: the kernel adds eight products of 1024 rows each into a scratch
  block and writes it back at the eighth; over the extended reals the partial sums are the reference's one sum over
  batch and position.
-/
module

public import proofs.«01_k».proof.Defs
public import proofs.«01_k».proof.Proof.Gen.Kernel14Ideal.Frame
public import proofs.«01_k».proof.Proof.Gen.Reference14Ideal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel14Ideal.Value
open Cert.Kernel14Ideal Cert.Kernel14Ideal.Gen

variable (m : (ℓ : Loc nD τ sig) → Buf (Elt Ideal) ℓ)

/-- The zero fill of the accumulator. -/
theorem zero_fill (j) : k0_pay1 (F := Ideal) j = 0 := by pointwise [k0_pay1]

/-- One accumulation: the block before, plus the product of the point's two input blocks. -/
theorem step_fill (acc a b j) : k0_pay2 (F := Ideal) acc a b j
    = acc j + ∑ k : Fin 1024, a (ix2 k (j 0)) * b (ix2 k (j 1)) := by pointwise [k0_pay2]

/-- The windows' block indices, at every point. -/
theorem idx_val : ∀ t : Fin cfg0.N, win0_0.index t = ![t.val, 0] ∧ win0_1.index t = ![t.val, 0] ∧ win0_2.index t = ![0, 0]
    := (by decide +kernel : ∀ t : Fin grid0.N, _)

/-- The reference's gradient of the weight: the product of the rows and their gradient summed over batch and position. -/
def REF (A : FVec Ideal Cert.Reference14Ideal.S4x2048x1024 .f32) (D : FVec Ideal Cert.Reference14Ideal.S4x2048x1024 .f32) :
    FVec Ideal Cert.Reference14Ideal.S1024x1024 .f32 :=
  transpose Cert.Reference14Ideal.S1024x1024 [1, 0] (Host.dotGeneral Cert.Reference14Ideal.dot_S4x2048x1024_S4x2048x1024_S1024x1024_01_01_2_2_n_n none
    D A) Cert.Reference14Ideal.Gen.transposes_S1024x1024_S1024x1024_1_0

/-- The reference's gradient at an index, as a sum over batch and position. -/
theorem ref_sum (A D j) : REF A D j
    = ∑ a : Fin 4, ∑ l : Fin 2048, D (ix3 a l (j 1)) * A (ix3 a l (j 0)) := by pointwise [REF]

/-- The weight kernel's result array ends holding the reference's gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  have h7 : t.val % 8 = 7 := (flush0_2 t).mp hf
  have hout : (outsAt0 m c t.val t.isLt).1 = (outsAt0 m c t.val t.isLt).2 := by
    rw [outsAt0_C m c t (by omega) h7]
    frame_out
  rw [hout, Pipeline.eq_sum_fin_of_reset_step_apply_of_flush (fun n h => (outsAt0 m c n h).2) 8 (fun _ => 0) _
    (fun t h j => by rw [outsAt0_A m c t h (by omega)]; frame_out; rw [step_fill, zero_fill])
    (fun t h j => by
      by_cases h1 : t.val % 8 = 7
      · rw [outsAt0_C m c t h h1]; frame_out; rw [step_fill]
        exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h7 _, zero_add, ref_sum]
  refine Fin.sum_points_lanes_congr 2 fun s k ha hl => ?_
  rw [mul_comm]
  blk_point [iblk, V, idx_val t, idx_val ⟨_, Pipeline.run_point_lt_of_flush t h7 s⟩]

/-- The weight kernel's result array and the reference's, read as real numbers, are equal. -/
theorem algebraic [hK : Cert.Kernel14Ideal.Facts] : Cert.algebraic_Kernel14Ideal_Reference14Ideal := by
  pair_intro
  · run_from Cert.Kernel14Ideal.Gen.run_main m g
  · hlo_run
    exact (final m c).symm

end Cert.Kernel14Ideal.Value
-- ==== Proof.LayerWeightValue.lean ====
/-
  The gradient of the per-layer input's weight: the kernel adds eight products of 1024 rows each into a scratch
  block and writes it back at the eighth; over the extended reals the partial sums are the reference's one sum over
  batch and position.
-/
module

public import proofs.«01_k».proof.Defs
public import proofs.«01_k».proof.Proof.Gen.Kernel15Ideal.Frame
public import proofs.«01_k».proof.Proof.Gen.Reference15Ideal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel15Ideal.Value
open Cert.Kernel15Ideal Cert.Kernel15Ideal.Gen

variable (m : (ℓ : Loc nD τ sig) → Buf (Elt Ideal) ℓ)

/-- The zero fill of the accumulator. -/
theorem zero_fill (j) : k0_pay1 (F := Ideal) j = 0 := by pointwise [k0_pay1]

/-- One accumulation: the block before, plus the product of the point's two input blocks. -/
theorem step_fill (acc a b j) : k0_pay2 (F := Ideal) acc a b j
    = acc j + ∑ k : Fin 1024, a (ix2 k (j 0)) * b (ix2 k (j 1)) := by pointwise [k0_pay2]

/-- The windows' block indices, at every point. -/
theorem idx_val : ∀ t : Fin cfg0.N, win0_0.index t = ![t.val, 0] ∧ win0_1.index t = ![t.val, 0] ∧ win0_2.index t = ![0, 0]
    := (by decide +kernel : ∀ t : Fin grid0.N, _)

/-- The reference's gradient of the weight: the product of the rows and their gradient summed over batch and position. -/
def REF (A : FVec Ideal Cert.Reference15Ideal.S4x2048x256 .f32) (D : FVec Ideal Cert.Reference15Ideal.S4x2048x1024 .f32) :
    FVec Ideal Cert.Reference15Ideal.S256x1024 .f32 :=
  transpose Cert.Reference15Ideal.S256x1024 [1, 0] (Host.dotGeneral Cert.Reference15Ideal.dot_S4x2048x1024_S4x2048x256_S1024x256_01_01_2_2_n_n none
    D A) Cert.Reference15Ideal.Gen.transposes_S1024x256_S256x1024_1_0

/-- The reference's gradient at an index, as a sum over batch and position. -/
theorem ref_sum (A D j) : REF A D j
    = ∑ a : Fin 4, ∑ l : Fin 2048, D (ix3 a l (j 1)) * A (ix3 a l (j 0)) := by pointwise [REF]

/-- The weight kernel's result array ends holding the reference's gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  have h7 : t.val % 8 = 7 := (flush0_2 t).mp hf
  have hout : (outsAt0 m c t.val t.isLt).1 = (outsAt0 m c t.val t.isLt).2 := by
    rw [outsAt0_C m c t (by omega) h7]
    frame_out
  rw [hout, Pipeline.eq_sum_fin_of_reset_step_apply_of_flush (fun n h => (outsAt0 m c n h).2) 8 (fun _ => 0) _
    (fun t h j => by rw [outsAt0_A m c t h (by omega)]; frame_out; rw [step_fill, zero_fill])
    (fun t h j => by
      by_cases h1 : t.val % 8 = 7
      · rw [outsAt0_C m c t h h1]; frame_out; rw [step_fill]
        exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h7 _, zero_add, ref_sum]
  refine Fin.sum_points_lanes_congr 2 fun s k ha hl => ?_
  rw [mul_comm]
  blk_point [iblk, V, idx_val t, idx_val ⟨_, Pipeline.run_point_lt_of_flush t h7 s⟩]

/-- The weight kernel's result array and the reference's, read as real numbers, are equal. -/
theorem algebraic [hK : Cert.Kernel15Ideal.Facts] : Cert.algebraic_Kernel15Ideal_Reference15Ideal := by
  pair_intro
  · run_from Cert.Kernel15Ideal.Gen.run_main m g
  · hlo_run
    exact (final m c).symm

end Cert.Kernel15Ideal.Value
-- ==== Proof.GateWeightValue.lean ====
/-
  The gradient of the per-layer gate's weight: the kernel adds eight products of 1024 rows each into a scratch block and
  writes it back at the eighth; over the extended reals the partial sums are the reference's one sum over batch and
  position.
-/
module

public import proofs.«01_k».proof.Defs
public import proofs.«01_k».proof.Proof.Gen.Kernel16Ideal.Frame
public import proofs.«01_k».proof.Proof.Gen.Reference16Ideal
public import proofs.«01_k».proof.Proof.WeightValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel16Ideal.Value
open Cert.Kernel16Ideal Cert.Kernel16Ideal.Gen
open Cert.Kernel2Ideal.Value (normed)

variable (m : (ℓ : Loc nD τ sig) → Buf (Elt Ideal) ℓ)

/-- The zero fill of the accumulator. -/
theorem zero_fill (j) : k0_pay1 (F := Ideal) j = 0 := by pointwise [k0_pay1]

/-- One accumulation: the block before, plus the product of the point's two input blocks. -/
theorem step_fill (acc a b j) : k0_pay2 (F := Ideal) acc a b j
    = acc j + ∑ k : Fin 1024, a (ix2 k (j 0)) * b (ix2 k (j 1)) := by pointwise [k0_pay2]

/-- The windows' block indices, at every point. -/
theorem idx_val : ∀ t : Fin cfg0.N, win0_0.index t = ![t.val, 0] ∧ win0_1.index t = ![t.val, 0] ∧ win0_2.index t = ![0, 0]
    := (by decide +kernel : ∀ t : Fin grid0.N, _)

/-- The reference's gradient of the weight: the product with the gradient of its result summed over batch and position, transposed. -/
def REF (X : FVec Ideal Cert.Reference16Ideal.S4x2048x1024 .f32) (g : FVec Ideal Cert.Reference16Ideal.S1024 .f32) (U : FVec Ideal Cert.Reference16Ideal.S4x2048x1024 .f32) :
    FVec Ideal Cert.Reference16Ideal.S1024x1024 .f32 :=
  transpose Cert.Reference16Ideal.S1024x1024 [1, 0] (Host.dotGeneral Cert.Reference16Ideal.dot_S4x2048x1024_S4x2048x1024_S1024x1024_01_01_2_2_n_n none
    U (normed X g)) Cert.Reference16Ideal.Gen.transposes_S1024x1024_S1024x1024_1_0

/-- The reference's gradient at an index, as a sum over batch and position. -/
theorem ref_sum (X g U j) : REF X g U j
    = ∑ a : Fin 4, ∑ l : Fin 2048, U (ix3 a l (j 1)) * normed X g (ix3 a l (j 0)) := by pointwise [REF]

/-- The weight kernel's result array ends holding the reference's gradient. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  have h7 : t.val % 8 = 7 := (flush0_2 t).mp hf
  have hout : (outsAt0 m c t.val t.isLt).1 = (outsAt0 m c t.val t.isLt).2 := by
    rw [outsAt0_C m c t (by omega) h7]
    frame_out
  rw [hout, Pipeline.eq_sum_fin_of_reset_step_apply_of_flush (fun n h => (outsAt0 m c n h).2) 8 (fun _ => 0) _
    (fun t h j => by rw [outsAt0_A m c t h (by omega)]; frame_out; rw [step_fill, zero_fill])
    (fun t h j => by
      by_cases h1 : t.val % 8 = 7
      · rw [outsAt0_C m c t h h1]; frame_out; rw [step_fill]
        exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h7 _, zero_add, ref_sum]
  refine Fin.sum_points_lanes_congr 2 fun s k ha hl => ?_
  rw [mul_comm]
  blk_point [iblk, V, normed, idx_val t, idx_val ⟨_, Pipeline.run_point_lt_of_flush t h7 s⟩]
  entry_read
  pointwise
  blk_point [iblk, V, normed, idx_val t, idx_val ⟨_, Pipeline.run_point_lt_of_flush t h7 s⟩]

/-- The weight kernel's result array and the reference's, read as real numbers, are equal. -/
theorem algebraic [hK : Cert.Kernel16Ideal.Facts] : Cert.algebraic_Kernel16Ideal_Reference16Ideal := by
  pair_intro
  · run_from Cert.Kernel16Ideal.Gen.run_main m g
  · hlo_run
    exact (final m c).symm

end Cert.Kernel16Ideal.Value
-- ==== Proof.PoolMapValue.lean ====
/-
  The gradient of the pooling mixer's maps: for each of the four channel groups the kernel adds eight products of 1024
  rows each into a scratch block and writes it back at the eighth; over the extended reals the partial sums are the
  reference's one sum over batch and position.
-/
module

public import proofs.«01_k».proof.Defs
public import proofs.«01_k».proof.Proof.Gen.Kernel17Ideal.Frame
public import proofs.«01_k».proof.Proof.Gen.Reference17Ideal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel17Ideal.Value
open Cert.Kernel17Ideal Cert.Kernel17Ideal.Gen

variable (m : (ℓ : Loc nD τ sig) → Buf (Elt Ideal) ℓ)

/-- The zero fill of the accumulator. -/
theorem zero_fill (j) : k0_pay1 (F := Ideal) j = 0 := by pointwise [k0_pay1]

/-- One accumulation: the block before, plus the product of the point's two input blocks. -/
theorem step_fill (acc a b j) : k0_pay2 (F := Ideal) acc a b j
    = acc j + ∑ k : Fin 1024, a (ix2 k (j 0)) * b (ix2 k (j 1)) := by pointwise [k0_pay2]

/-- The windows' block indices, at every point. -/
theorem idx_val : ∀ t : Fin cfg0.N, win0_0.index t = ![t.val % 8, t.val / 8] ∧ win0_1.index t = ![t.val % 8, t.val / 8]
    ∧ win0_2.index t = ![t.val / 8, 0, 0] := (by decide +kernel : ∀ t : Fin grid0.N, _)

/-- The reference's gradient: for each group the product of its channels and their gradient, summed over batch and position. -/
def REF (A : FVec Ideal Cert.Reference17Ideal.S4x2048x1024 .f32) (D : FVec Ideal Cert.Reference17Ideal.S4x2048x1024 .f32) :
    FVec Ideal Cert.Reference17Ideal.S4x256x256 .f32 :=
  transpose Cert.Reference17Ideal.S4x256x256 [0, 2, 1] (Host.dotGeneral
    Cert.Reference17Ideal.dot_S4x256x4x2048_S4x2048x4x256_S4x256x256_23_01_1_3_0_2 none
    (transpose Cert.Reference17Ideal.S4x256x4x2048 [2, 3, 0, 1] (shapeCast _ D Cert.Reference17Ideal.Gen.shapeCasts_S4x2048x1024_S4x2048x4x256)
      Cert.Reference17Ideal.Gen.transposes_S4x2048x4x256_S4x256x4x2048_2_3_0_1)
    (shapeCast _ A Cert.Reference17Ideal.Gen.shapeCasts_S4x2048x1024_S4x2048x4x256))
    Cert.Reference17Ideal.Gen.transposes_S4x256x256_S4x256x256_0_2_1

/-- The reference's gradient at an index, as a sum over batch and position. -/
theorem ref_sum (A D j) : REF A D j = ∑ a : Fin 4, ∑ l : Fin 2048,
    D (ix3 a l ⟨(j 0).val * 256 + (j 2).val, by have h0 : (j 0).val < 4 := (j 0).isLt; have h2 : (j 2).val < 256 := (j 2).isLt; omega⟩)
      * A (ix3 a l ⟨(j 0).val * 256 + (j 1).val, by have h0 : (j 0).val < 4 := (j 0).isLt; have h1 : (j 1).val < 256 := (j 1).isLt; omega⟩) := by
  pointwise [REF]

/-- The block that is written back is the scratch block, with one leading axis more. -/
theorem lift_block (a y) : k0_pay3 (F := Ideal) a y = a (ix2 (y 1) (y 2)) := by pointwise [k0_pay3]

/-- The kernel's result array ends holding the reference's gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  have h7 : t.val % 8 = 7 := (flush0_2 t).mp hf
  have hout : (outsAt0 m c t.val t.isLt).1 = k0_pay3 (F := Ideal) (outsAt0 m c t.val t.isLt).2 := by
    rw [outsAt0_C m c t (by omega) h7]
    frame_out
  rw [hout]
  refine (lift_block _ y).trans ?_
  rw [Pipeline.eq_sum_fin_of_reset_step_apply_of_flush (fun n h => (outsAt0 m c n h).2) 8 (fun _ => 0) _
    (fun t h j => by rw [outsAt0_A m c t h (by omega)]; frame_out; rw [step_fill, zero_fill])
    (fun t h j => by
      by_cases h1 : t.val % 8 = 7
      · rw [outsAt0_C m c t h h1]; frame_out; rw [step_fill]
        exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h7 _, zero_add, ref_sum]
  refine Fin.sum_points_lanes_congr 2 fun s k ha hl => ?_
  rw [mul_comm]
  blk_point [iblk, V, idx_val t, idx_val ⟨_, Pipeline.run_point_lt_of_flush t h7 s⟩]

/-- The kernel's result array and the reference's, read as real numbers, are equal. -/
theorem algebraic [hK : Cert.Kernel17Ideal.Facts] : Cert.algebraic_Kernel17Ideal_Reference17Ideal := by
  pair_intro
  · run_from Cert.Kernel17Ideal.Gen.run_main m g
  · hlo_run
    exact (final m c).symm

end Cert.Kernel17Ideal.Value
-- ==== Proof.RestWeightValue.lean ====
/-
  The gradient of the input projection's weight, the columns after the heads: the kernel adds eight products of 1024 rows each into a
  scratch block and writes it back at the eighth; over the extended reals the partial sums are the reference's one sum
  over batch and position.
-/
module

public import proofs.«01_k».proof.Defs
public import proofs.«01_k».proof.Proof.Gen.Kernel3Ideal.Frame
public import proofs.«01_k».proof.Proof.Gen.Reference3Ideal
public import proofs.«01_k».proof.Proof.WeightValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen
open Cert.Kernel2Ideal.Value (normed)

variable (m : (ℓ : Loc nD τ sig) → Buf (Elt Ideal) ℓ)

/-- The zero fill of the accumulator. -/
theorem zero_fill (j) : k0_pay1 (F := Ideal) j = 0 := by pointwise [k0_pay1]

/-- One accumulation: the block before, plus the product of the point's two input blocks. -/
theorem step_fill (acc a b j) : k0_pay2 (F := Ideal) acc a b j
    = acc j + ∑ k : Fin 1024, a (ix2 k (j 0)) * b (ix2 k (j 1)) := by pointwise [k0_pay2]

/-- The windows' block indices, at every point. -/
theorem idx_val : ∀ t : Fin cfg0.N, win0_0.index t = ![t.val % 8, 0] ∧ win0_1.index t = ![t.val % 8, t.val / 8] ∧ win0_2.index t = ![0, t.val / 8]
    := (by decide +kernel : ∀ t : Fin grid0.N, _)

/-- The reference's gradient of the weight: the product with `dz` summed over batch and position, transposed. -/
def REF (X : FVec Ideal Cert.Reference3Ideal.S4x2048x1024 .f32) (g : FVec Ideal Cert.Reference3Ideal.S1024 .f32) (U : FVec Ideal Cert.Reference3Ideal.S4x2048x3072 .f32) :
    FVec Ideal Cert.Reference3Ideal.S1024x3072 .f32 :=
  transpose Cert.Reference3Ideal.S1024x3072 [1, 0] (Host.dotGeneral Cert.Reference3Ideal.dot_S4x2048x3072_S4x2048x1024_S3072x1024_01_01_2_2_n_n none
    U (normed X g)) Cert.Reference3Ideal.Gen.transposes_S3072x1024_S1024x3072_1_0

/-- The reference's gradient at an index, as a sum over batch and position. -/
theorem ref_sum (X g U j) : REF X g U j
    = ∑ a : Fin 4, ∑ l : Fin 2048, U (ix3 a l (j 1)) * normed X g (ix3 a l (j 0)) := by pointwise [REF]

/-- The weight kernel's result array ends holding the reference's gradient. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  have h7 : t.val % 8 = 7 := (flush0_2 t).mp hf
  have hout : (outsAt0 m c t.val t.isLt).1 = (outsAt0 m c t.val t.isLt).2 := by
    rw [outsAt0_C m c t (by omega) h7]
    frame_out
  rw [hout, Pipeline.eq_sum_fin_of_reset_step_apply_of_flush (fun n h => (outsAt0 m c n h).2) 8 (fun _ => 0) _
    (fun t h j => by rw [outsAt0_A m c t h (by omega)]; frame_out; rw [step_fill, zero_fill])
    (fun t h j => by
      by_cases h1 : t.val % 8 = 7
      · rw [outsAt0_C m c t h h1]; frame_out; rw [step_fill]
        exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h7 _, zero_add, ref_sum]
  refine Fin.sum_points_lanes_congr 2 fun s k ha hl => ?_
  rw [mul_comm]
  blk_point [iblk, V, normed, idx_val t, idx_val ⟨_, Pipeline.run_point_lt_of_flush t h7 s⟩]
  entry_read
  pointwise
  blk_point [iblk, V, normed, idx_val t, idx_val ⟨_, Pipeline.run_point_lt_of_flush t h7 s⟩]

/-- The weight kernel's result array and the reference's, read as real numbers, are equal. -/
theorem algebraic [hK : Cert.Kernel3Ideal.Facts] : Cert.algebraic_Kernel3Ideal_Reference3Ideal := by
  pair_intro
  · run_from Cert.Kernel3Ideal.Gen.run_main m g
  · hlo_run
    exact (final m c).symm

end Cert.Kernel3Ideal.Value
-- ==== Proof.GroupWeightValue.lean ====
/-
  The gradient of the input projection's weight, the first head group: the kernel adds eight products of 1024 rows each into a
  scratch block and writes it back at the eighth; over the extended reals the partial sums are the reference's one sum
  over batch and position.
-/
module

public import proofs.«01_k».proof.Defs
public import proofs.«01_k».proof.Proof.Gen.Kernel4Ideal.Frame
public import proofs.«01_k».proof.Proof.Gen.Reference4Ideal
public import proofs.«01_k».proof.Proof.WeightValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen
open Cert.Kernel2Ideal.Value (normed)

variable (m : (ℓ : Loc nD τ sig) → Buf (Elt Ideal) ℓ)

/-- The zero fill of the accumulator. -/
theorem zero_fill (j) : k0_pay1 (F := Ideal) j = 0 := by pointwise [k0_pay1]

/-- One accumulation: the block before, plus the product of the point's two input blocks. -/
theorem step_fill (acc a b j) : k0_pay2 (F := Ideal) acc a b j
    = acc j + ∑ k : Fin 1024, a (ix2 k (j 0)) * b (ix2 k (j 1)) := by pointwise [k0_pay2]

/-- The windows' block indices, at every point. -/
theorem idx_val : ∀ t : Fin cfg0.N, win0_0.index t = ![t.val, 0] ∧ win0_1.index t = ![t.val, 0] ∧ win0_2.index t = ![0, 0]
    := (by decide +kernel : ∀ t : Fin grid0.N, _)

/-- The reference's gradient of the weight: the product with `dz` summed over batch and position, transposed. -/
def REF (X : FVec Ideal Cert.Reference4Ideal.S4x2048x1024 .f32) (g : FVec Ideal Cert.Reference4Ideal.S1024 .f32) (U : FVec Ideal Cert.Reference4Ideal.S4x2048x1536 .f32) :
    FVec Ideal Cert.Reference4Ideal.S1024x1536 .f32 :=
  transpose Cert.Reference4Ideal.S1024x1536 [1, 0] (Host.dotGeneral Cert.Reference4Ideal.dot_S4x2048x1536_S4x2048x1024_S1536x1024_01_01_2_2_n_n none
    U (normed X g)) Cert.Reference4Ideal.Gen.transposes_S1536x1024_S1024x1536_1_0

/-- The reference's gradient at an index, as a sum over batch and position. -/
theorem ref_sum (X g U j) : REF X g U j
    = ∑ a : Fin 4, ∑ l : Fin 2048, U (ix3 a l (j 1)) * normed X g (ix3 a l (j 0)) := by pointwise [REF]

/-- The weight kernel's result array ends holding the reference's gradient. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  have h7 : t.val % 8 = 7 := (flush0_2 t).mp hf
  have hout : (outsAt0 m c t.val t.isLt).1 = (outsAt0 m c t.val t.isLt).2 := by
    rw [outsAt0_C m c t (by omega) h7]
    frame_out
  rw [hout, Pipeline.eq_sum_fin_of_reset_step_apply_of_flush (fun n h => (outsAt0 m c n h).2) 8 (fun _ => 0) _
    (fun t h j => by rw [outsAt0_A m c t h (by omega)]; frame_out; rw [step_fill, zero_fill])
    (fun t h j => by
      by_cases h1 : t.val % 8 = 7
      · rw [outsAt0_C m c t h h1]; frame_out; rw [step_fill]
        exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h7 _, zero_add, ref_sum]
  refine Fin.sum_points_lanes_congr 2 fun s k ha hl => ?_
  rw [mul_comm]
  blk_point [iblk, V, normed, idx_val t, idx_val ⟨_, Pipeline.run_point_lt_of_flush t h7 s⟩]
  entry_read
  pointwise
  blk_point [iblk, V, normed, idx_val t, idx_val ⟨_, Pipeline.run_point_lt_of_flush t h7 s⟩]

/-- The weight kernel's result array and the reference's, read as real numbers, are equal. -/
theorem algebraic [hK : Cert.Kernel4Ideal.Facts] : Cert.algebraic_Kernel4Ideal_Reference4Ideal := by
  pair_intro
  · run_from Cert.Kernel4Ideal.Gen.run_main m g
  · hlo_run
    exact (final m c).symm

end Cert.Kernel4Ideal.Value
-- ==== Proof.Rows.lean ====
/-
  The residue-major order of the 2048 positions of a batch element: with dilation `d`, row `i` is position
  `i % (2048 / d) * d + i / (2048 / d)`.
-/
module

public import Idealize.ShloMosaic.Lib.Pipeline.ValueKit

@[expose] public section

namespace Cert.Rows

/-- The position of a row of the group of dilation 4. -/
def byFour : Fin 2048 ≃ Fin 2048 where
  toFun i := ⟨i.val % 512 * 4 + i.val / 512, by omega⟩
  invFun p := ⟨p.val % 4 * 512 + p.val / 4, by omega⟩
  left_inv i := Fin.ext (by simp only; omega)
  right_inv p := Fin.ext (by simp only; omega)

/-- The position of a row of the group of dilation 16. -/
def bySixteen : Fin 2048 ≃ Fin 2048 where
  toFun i := ⟨i.val % 128 * 16 + i.val / 128, by omega⟩
  invFun p := ⟨p.val % 16 * 128 + p.val / 16, by omega⟩
  left_inv i := Fin.ext (by simp only; omega)
  right_inv p := Fin.ext (by simp only; omega)

/-- The position as a number. -/
theorem byFour_val (i : Fin 2048) : (byFour i).val = i.val % 512 * 4 + i.val / 512 := rfl

/-- The position as a number. -/
theorem bySixteen_val (i : Fin 2048) : (bySixteen i).val = i.val % 128 * 16 + i.val / 128 := rfl

end Cert.Rows
-- ==== Proof.Group4WeightValue.lean ====
/-
  The gradient of the input projection's weight, the head group of dilation 4: the kernel adds eight products of 1024 rows each into a
  scratch block and writes it back at the eighth; over the extended reals the partial sums are the reference's one sum
  over batch and position. The rows are laid out residue by residue, a permutation of the positions that the sum
  does not see.
-/
module

public import proofs.«01_k».proof.Defs
public import proofs.«01_k».proof.Proof.Gen.Kernel5Ideal.Frame
public import proofs.«01_k».proof.Proof.Gen.Reference5Ideal
public import proofs.«01_k».proof.Proof.WeightValue
public import proofs.«01_k».proof.Proof.Rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Value
open Cert.Kernel5Ideal Cert.Kernel5Ideal.Gen
open Cert.Kernel2Ideal.Value (normed)
open Cert.Rows

variable (m : (ℓ : Loc nD τ sig) → Buf (Elt Ideal) ℓ)

/-- The zero fill of the accumulator. -/
theorem zero_fill (j) : k0_pay1 (F := Ideal) j = 0 := by pointwise [k0_pay1]

/-- One accumulation: the block before, plus the product of the point's two input blocks. -/
theorem step_fill (acc a b j) : k0_pay2 (F := Ideal) acc a b j
    = acc j + ∑ k : Fin 1024, a (ix2 k (j 0)) * b (ix2 k (j 1)) := by pointwise [k0_pay2]

/-- The windows' block indices, at every point. -/
theorem idx_val : ∀ t : Fin cfg0.N, win0_0.index t = ![t.val, 0] ∧ win0_1.index t = ![t.val, 0] ∧ win0_2.index t = ![0, 0]
    := (by decide +kernel : ∀ t : Fin grid0.N, _)

/-- The reference's gradient of the weight: the product with `dz` summed over batch and position, transposed. -/
def REF (X : FVec Ideal Cert.Reference5Ideal.S4x2048x1024 .f32) (g : FVec Ideal Cert.Reference5Ideal.S1024 .f32) (U : FVec Ideal Cert.Reference5Ideal.S4x2048x1536 .f32) :
    FVec Ideal Cert.Reference5Ideal.S1024x1536 .f32 :=
  transpose Cert.Reference5Ideal.S1024x1536 [1, 0] (Host.dotGeneral Cert.Reference5Ideal.dot_S4x2048x1536_S4x2048x1024_S1536x1024_01_01_2_2_n_n none
    U (normed X g)) Cert.Reference5Ideal.Gen.transposes_S1536x1024_S1024x1536_1_0

/-- The reference's gradient at an index, as a sum over batch and the group's rows. -/
theorem ref_sum (X g U j) : REF X g U j
    = ∑ a : Fin 4, ∑ l : Fin 2048, U (ix3 a (byFour l) (j 1)) * normed X g (ix3 a (byFour l) (j 0)) := by
  pointwise [REF]
  exact Finset.sum_congr rfl fun a _ => (Equiv.sum_comp byFour fun l => U (ix3 a l (j 1)) * normed X g (ix3 a l (j 0))).symm

/-- The weight kernel's result array ends holding the reference's gradient. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  have h7 : t.val % 8 = 7 := (flush0_2 t).mp hf
  have hout : (outsAt0 m c t.val t.isLt).1 = (outsAt0 m c t.val t.isLt).2 := by
    rw [outsAt0_C m c t (by omega) h7]
    frame_out
  rw [hout, Pipeline.eq_sum_fin_of_reset_step_apply_of_flush (fun n h => (outsAt0 m c n h).2) 8 (fun _ => 0) _
    (fun t h j => by rw [outsAt0_A m c t h (by omega)]; frame_out; rw [step_fill, zero_fill])
    (fun t h j => by
      by_cases h1 : t.val % 8 = 7
      · rw [outsAt0_C m c t h h1]; frame_out; rw [step_fill]
        exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h7 _, zero_add, ref_sum]
  refine Fin.sum_points_lanes_congr 2 fun s k ha hl => ?_
  rw [mul_comm]
  blk_point [iblk, V, normed, byFour_val, idx_val t, idx_val ⟨_, Pipeline.run_point_lt_of_flush t h7 s⟩]
  entry_read
  pointwise
  blk_point [iblk, V, normed, byFour_val, idx_val t, idx_val ⟨_, Pipeline.run_point_lt_of_flush t h7 s⟩]

/-- The weight kernel's result array and the reference's, read as real numbers, are equal. -/
theorem algebraic [hK : Cert.Kernel5Ideal.Facts] : Cert.algebraic_Kernel5Ideal_Reference5Ideal := by
  pair_intro
  · run_from Cert.Kernel5Ideal.Gen.run_main m g
  · hlo_run
    exact (final m c).symm

end Cert.Kernel5Ideal.Value
-- ==== Proof.Group16WeightValue.lean ====
/-
  The gradient of the input projection's weight, the head group of dilation 16: the kernel adds eight products of 1024 rows each into a
  scratch block and writes it back at the eighth; over the extended reals the partial sums are the reference's one sum
  over batch and position. The rows are laid out residue by residue, a permutation of the positions that the sum
  does not see.
-/
module

public import proofs.«01_k».proof.Defs
public import proofs.«01_k».proof.Proof.Gen.Kernel6Ideal.Frame
public import proofs.«01_k».proof.Proof.Gen.Reference6Ideal
public import proofs.«01_k».proof.Proof.WeightValue
public import proofs.«01_k».proof.Proof.Rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Value
open Cert.Kernel6Ideal Cert.Kernel6Ideal.Gen
open Cert.Kernel2Ideal.Value (normed)
open Cert.Rows

variable (m : (ℓ : Loc nD τ sig) → Buf (Elt Ideal) ℓ)

/-- The zero fill of the accumulator. -/
theorem zero_fill (j) : k0_pay1 (F := Ideal) j = 0 := by pointwise [k0_pay1]

/-- One accumulation: the block before, plus the product of the point's two input blocks. -/
theorem step_fill (acc a b j) : k0_pay2 (F := Ideal) acc a b j
    = acc j + ∑ k : Fin 1024, a (ix2 k (j 0)) * b (ix2 k (j 1)) := by pointwise [k0_pay2]

/-- The windows' block indices, at every point. -/
theorem idx_val : ∀ t : Fin cfg0.N, win0_0.index t = ![t.val, 0] ∧ win0_1.index t = ![t.val, 0] ∧ win0_2.index t = ![0, 0]
    := (by decide +kernel : ∀ t : Fin grid0.N, _)

/-- The reference's gradient of the weight: the product with `dz` summed over batch and position, transposed. -/
def REF (X : FVec Ideal Cert.Reference6Ideal.S4x2048x1024 .f32) (g : FVec Ideal Cert.Reference6Ideal.S1024 .f32) (U : FVec Ideal Cert.Reference6Ideal.S4x2048x1536 .f32) :
    FVec Ideal Cert.Reference6Ideal.S1024x1536 .f32 :=
  transpose Cert.Reference6Ideal.S1024x1536 [1, 0] (Host.dotGeneral Cert.Reference6Ideal.dot_S4x2048x1536_S4x2048x1024_S1536x1024_01_01_2_2_n_n none
    U (normed X g)) Cert.Reference6Ideal.Gen.transposes_S1536x1024_S1024x1536_1_0

/-- The reference's gradient at an index, as a sum over batch and the group's rows. -/
theorem ref_sum (X g U j) : REF X g U j
    = ∑ a : Fin 4, ∑ l : Fin 2048, U (ix3 a (bySixteen l) (j 1)) * normed X g (ix3 a (bySixteen l) (j 0)) := by
  pointwise [REF]
  exact Finset.sum_congr rfl fun a _ => (Equiv.sum_comp bySixteen fun l => U (ix3 a l (j 1)) * normed X g (ix3 a l (j 0))).symm

/-- The weight kernel's result array ends holding the reference's gradient. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  have h7 : t.val % 8 = 7 := (flush0_2 t).mp hf
  have hout : (outsAt0 m c t.val t.isLt).1 = (outsAt0 m c t.val t.isLt).2 := by
    rw [outsAt0_C m c t (by omega) h7]
    frame_out
  rw [hout, Pipeline.eq_sum_fin_of_reset_step_apply_of_flush (fun n h => (outsAt0 m c n h).2) 8 (fun _ => 0) _
    (fun t h j => by rw [outsAt0_A m c t h (by omega)]; frame_out; rw [step_fill, zero_fill])
    (fun t h j => by
      by_cases h1 : t.val % 8 = 7
      · rw [outsAt0_C m c t h h1]; frame_out; rw [step_fill]
        exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h7 _, zero_add, ref_sum]
  refine Fin.sum_points_lanes_congr 2 fun s k ha hl => ?_
  rw [mul_comm]
  blk_point [iblk, V, normed, bySixteen_val, idx_val t, idx_val ⟨_, Pipeline.run_point_lt_of_flush t h7 s⟩]
  entry_read
  pointwise
  blk_point [iblk, V, normed, bySixteen_val, idx_val t, idx_val ⟨_, Pipeline.run_point_lt_of_flush t h7 s⟩]

/-- The weight kernel's result array and the reference's, read as real numbers, are equal. -/
theorem algebraic [hK : Cert.Kernel6Ideal.Facts] : Cert.algebraic_Kernel6Ideal_Reference6Ideal := by
  pair_intro
  · run_from Cert.Kernel6Ideal.Gen.run_main m g
  · hlo_run
    exact (final m c).symm

end Cert.Kernel6Ideal.Value
-- ==== Proof.DownValue.lean ====
/-
  The down-projection's gradient with respect to its input, `dx2 · w_downᵀ`: every grid point multiplies its 512 rows by
  the whole transposed weight, in two stores of 1408 columns each.
-/
module

public import proofs.«01_k».proof.Defs
public import proofs.«01_k».proof.Proof.Gen.Kernel7Ideal.Frame
public import proofs.«01_k».proof.Proof.Gen.Reference7Ideal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Value
open Cert.Kernel7Ideal Cert.Kernel7Ideal.Gen

variable (m : (ℓ : Loc nD τ sig) → Buf (Elt Ideal) ℓ)

/-- The windows' block indices, at every point. -/
theorem idx_val : ∀ t : Fin cfg0.N, win0_0.index t = ![t.val, 0] ∧ win0_1.index t = ![0, 0] ∧ win0_2.index t = ![t.val, 0] :=
  (by decide +kernel : ∀ t : Fin grid0.N, _)

/-- The reference's gradient of the activation, its batch and position folded into one row index. -/
def REF (D : FVec Ideal Cert.Reference7Ideal.S4x2048x1024 .f32) (w : FVec Ideal Cert.Reference7Ideal.S2816x1024 .f32) :
    FVec Ideal Cert.Reference7Ideal.S8192x2816 .bf16 :=
  truncf .bf16 (shapeCast _ (Host.dotGeneral Cert.Reference7Ideal.dot_S4x2048x1024_S2816x1024_S4x2048x2816_2_1_01_0_n_n none D w)
    Cert.Reference7Ideal.Gen.shapeCasts_S4x2048x2816_S8192x2816) Cert.Reference7Ideal.Gen.bitsLt_bf16_f32

/-- The first store's values: 1408 columns of the product. -/
theorem pay2_val (a b j) : k0_pay2 (F := Ideal) a b j = ∑ k : Fin 1024, a (ix2 (j 0) k) * b (ix2 (j 1) k) := by
  pointwise [k0_pay2, k0_pay1]

/-- The second store's values: the other 1408 columns. -/
theorem pay3_val (a b j) : k0_pay3 (F := Ideal) a b j = ∑ k : Fin 1024, a (ix2 (j 0) k) * b (ix2 (j 1) k) := by
  pointwise [k0_pay3, k0_pay1]

set_option maxHeartbeats 800000 in
/-- What a point leaves in its output block is the reference's values at the block's place. -/
theorem point (c : Dev nD) (t : Fin cfg0.N) (y) : out0_2 (iblk m c 0 t) (iblk m c 1 t) y
    = REF (m ((c : Thread nD τ).loc main_arg0)) (m ((c : Thread nD τ).loc main_arg1)) (((cfg0.win 2).blk t).view.emb y) := by
  canon_tiles x h
  all_goals
    first | rw [pay2_val] | rw [pay3_val]
    pointwise [REF]
    refine Finset.sum_congr rfl fun k _ => congrArg₂ (· * ·) ?_ ?_
    · show V m c main_v0 (((cfg0.win 0).blk t).view.emb (ix2 (x 0) k)) = _
      entry_read
      pointwise
      blk_ext [idx_val t]
    · show V m c main_v1 (((cfg0.win 1).blk t).view.emb (ix2 _ k)) = _
      entry_read
      pointwise
      blk_ext [idx_val t]
/-- The kernel's result array ends holding the reference's gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  exact point m c t y

/-- The kernel's result array and the reference's, read as real numbers, are equal. -/
theorem algebraic [hK : Cert.Kernel7Ideal.Facts] : Cert.algebraic_Kernel7Ideal_Reference7Ideal := by
  pair_intro
  · run_from Cert.Kernel7Ideal.Gen.run_main m g
  · hlo_run
    exact (final m c).symm

end Cert.Kernel7Ideal.Value
-- ==== Proof.DownWeightValue.lean ====
/-
  The gradient of the down-projection's weight, `aᵀ · dx2`: the kernel adds eight products of 1024 rows each into a
  scratch block and writes it back at the eighth; over the extended reals the partial sums are the reference's one sum
  over batch and position.
-/
module

public import proofs.«01_k».proof.Defs
public import proofs.«01_k».proof.Proof.Gen.Kernel8Ideal.Frame
public import proofs.«01_k».proof.Proof.Gen.Reference8Ideal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Value
open Cert.Kernel8Ideal Cert.Kernel8Ideal.Gen

variable (m : (ℓ : Loc nD τ sig) → Buf (Elt Ideal) ℓ)

/-- The zero fill of the accumulator. -/
theorem zero_fill (j) : k0_pay1 (F := Ideal) j = 0 := by pointwise [k0_pay1]

/-- One accumulation: the block before, plus the product of the point's two input blocks. -/
theorem step_fill (acc a b j) : k0_pay2 (F := Ideal) acc a b j
    = acc j + ∑ k : Fin 1024, a (ix2 k (j 0)) * b (ix2 k (j 1)) := by pointwise [k0_pay2]

/-- The windows' block indices, at every point. -/
theorem idx_val : ∀ t : Fin cfg0.N, win0_0.index t = ![t.val % 8, t.val / 8] ∧ win0_1.index t = ![t.val % 8, 0]
    ∧ win0_2.index t = ![t.val / 8, 0] := (by decide +kernel : ∀ t : Fin grid0.N, _)

/-- The reference's gradient of the weight: the product of the activation and `dx2` summed over batch and position. -/
def REF (A : FVec Ideal Cert.Reference8Ideal.S4x2048x2816 .f32) (D : FVec Ideal Cert.Reference8Ideal.S4x2048x1024 .f32) :
    FVec Ideal Cert.Reference8Ideal.S2816x1024 .f32 :=
  transpose Cert.Reference8Ideal.S2816x1024 [1, 0] (Host.dotGeneral Cert.Reference8Ideal.dot_S4x2048x1024_S4x2048x2816_S1024x2816_01_01_2_2_n_n none
    D A) Cert.Reference8Ideal.Gen.transposes_S1024x2816_S2816x1024_1_0

/-- The reference's gradient at an index, as a sum over batch and position. -/
theorem ref_sum (A D j) : REF A D j
    = ∑ a : Fin 4, ∑ l : Fin 2048, D (ix3 a l (j 1)) * A (ix3 a l (j 0)) := by pointwise [REF]

/-- The weight kernel's result array ends holding the reference's gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  have h7 : t.val % 8 = 7 := (flush0_2 t).mp hf
  have hout : (outsAt0 m c t.val t.isLt).1 = (outsAt0 m c t.val t.isLt).2 := by
    rw [outsAt0_C m c t (by omega) h7]
    frame_out
  rw [hout, Pipeline.eq_sum_fin_of_reset_step_apply_of_flush (fun n h => (outsAt0 m c n h).2) 8 (fun _ => 0) _
    (fun t h j => by rw [outsAt0_A m c t h (by omega)]; frame_out; rw [step_fill, zero_fill])
    (fun t h j => by
      by_cases h1 : t.val % 8 = 7
      · rw [outsAt0_C m c t h h1]; frame_out; rw [step_fill]
        exact congrArg (· + _) (congrFun ((Memref.isWhole_whole cc0_scratch0).read_unread _) j)
      · rw [outsAt0_B m c t h h1]; frame_out; rw [step_fill]
        exact congrArg (· + _) (congrFun ((Memref.isWhole_whole cc0_scratch0).read_unread _) j))
    t h7 _, zero_add, ref_sum]
  refine Fin.sum_points_lanes_congr 2 fun s k ha hl => ?_
  rw [mul_comm]
  blk_point [iblk, V, idx_val t, idx_val ⟨_, Pipeline.run_point_lt_of_flush t h7 s⟩]

/-- The weight kernel's result array and the reference's, read as real numbers, are equal. -/
theorem algebraic [hK : Cert.Kernel8Ideal.Facts] : Cert.algebraic_Kernel8Ideal_Reference8Ideal := by
  pair_intro
  · run_from Cert.Kernel8Ideal.Gen.run_main m g
  · hlo_run
    exact (final m c).symm

end Cert.Kernel8Ideal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Pre_finite
public import proofs.«01_k».proof.Proof.InputValue
public import proofs.«01_k».proof.Proof.WeightValue
public import proofs.«01_k».proof.Proof.LayerInputValue
public import proofs.«01_k».proof.Proof.HeadsValue
public import proofs.«01_k».proof.Proof.Heads4Value
public import proofs.«01_k».proof.Proof.Heads16Value
public import proofs.«01_k».proof.Proof.UpValue
public import proofs.«01_k».proof.Proof.DownForwardValue
public import proofs.«01_k».proof.Proof.BranchValue
public import proofs.«01_k».proof.Proof.OutputWeightValue
public import proofs.«01_k».proof.Proof.AttentionWeightValue
public import proofs.«01_k».proof.Proof.PoolingWeightValue
public import proofs.«01_k».proof.Proof.LayerWeightValue
public import proofs.«01_k».proof.Proof.GateWeightValue
public import proofs.«01_k».proof.Proof.PoolMapValue
public import proofs.«01_k».proof.Proof.RestWeightValue
public import proofs.«01_k».proof.Proof.GroupWeightValue
public import proofs.«01_k».proof.Proof.Group4WeightValue
public import proofs.«01_k».proof.Proof.Group16WeightValue
public import proofs.«01_k».proof.Proof.DownValue
public import proofs.«01_k».proof.Proof.DownWeightValue
public import Idealize.ShloMosaic.Adequacy
public import Idealize.ShloMosaic.Lib.Claim
public import Idealize.ShloMosaic.Lib.Quiescent
public import Idealize.ShloMosaic.Init

@[expose] public section

noncomputable section

namespace Cert.Proof

open Idealize.ShloMosaic Idealize.SL.Sem Cert.Kernel

/-- The reference of the input's gradient runs to the end and leaves its arguments. -/
theorem reference_frame [hR : Cert.ReferenceIdeal.Facts] : Cert.quiescent_ReferenceIdeal := by
  intro m g _
  hlo_run
  · exact fun _ => ⟨trivial, trivial, trivial, trivial, trivial⟩
  · exact sem_eq_zero_of_no_sems (sig := Cert.ReferenceIdeal.sig) (by decide) _

/-- The reference of the weight's gradient runs to the end and leaves its arguments. -/
theorem reference2_frame [hR : Cert.Reference2Ideal.Facts] : Cert.quiescent_Reference2Ideal := by
  intro m g _
  hlo_run
  · exact fun _ => ⟨trivial, trivial, trivial⟩
  · exact sem_eq_zero_of_no_sems (sig := Cert.Reference2Ideal.sig) (by decide) _

/-- The reference of the gradient of the input projection's weight behind the heads runs to the end and leaves its arguments. -/
theorem reference3_frame [hR : Cert.Reference3Ideal.Facts] : Cert.quiescent_Reference3Ideal := by
  intro m g _
  hlo_run
  · exact fun _ => ⟨trivial, trivial, trivial⟩
  · exact sem_eq_zero_of_no_sems (sig := Cert.Reference3Ideal.sig) (by decide) _

/-- The reference of the gradient of the input projection's weight, first head group runs to the end and leaves its arguments. -/
theorem reference4_frame [hR : Cert.Reference4Ideal.Facts] : Cert.quiescent_Reference4Ideal := by
  intro m g _
  hlo_run
  · exact fun _ => ⟨trivial, trivial, trivial⟩
  · exact sem_eq_zero_of_no_sems (sig := Cert.Reference4Ideal.sig) (by decide) _

/-- The reference of the gradient of the input projection's weight, second head group runs to the end and leaves its arguments. -/
theorem reference5_frame [hR : Cert.Reference5Ideal.Facts] : Cert.quiescent_Reference5Ideal := by
  intro m g _
  hlo_run
  · exact fun _ => ⟨trivial, trivial, trivial⟩
  · exact sem_eq_zero_of_no_sems (sig := Cert.Reference5Ideal.sig) (by decide) _

/-- The reference of the gradient of the input projection's weight, third head group runs to the end and leaves its arguments. -/
theorem reference6_frame [hR : Cert.Reference6Ideal.Facts] : Cert.quiescent_Reference6Ideal := by
  intro m g _
  hlo_run
  · exact fun _ => ⟨trivial, trivial, trivial⟩
  · exact sem_eq_zero_of_no_sems (sig := Cert.Reference6Ideal.sig) (by decide) _

/-- The reference of the gradient of the down-projection's input runs to the end and leaves its arguments. -/
theorem reference7_frame [hR : Cert.Reference7Ideal.Facts] : Cert.quiescent_Reference7Ideal := by
  intro m g _
  hlo_run
  · exact fun _ => ⟨trivial, trivial⟩
  · exact sem_eq_zero_of_no_sems (sig := Cert.Reference7Ideal.sig) (by decide) _

/-- The reference of the gradient of the down-projection's weight runs to the end and leaves its arguments. -/
theorem reference8_frame [hR : Cert.Reference8Ideal.Facts] : Cert.quiescent_Reference8Ideal := by
  intro m g _
  hlo_run
  · exact fun _ => ⟨trivial, trivial⟩
  · exact sem_eq_zero_of_no_sems (sig := Cert.Reference8Ideal.sig) (by decide) _

/-- The reference program of pair 9 ends, with its arguments as they were. -/
theorem reference9_frame [hR : Cert.Reference9Ideal.Facts] : Cert.quiescent_Reference9Ideal := by
  intro m g _
  hlo_run
  · exact fun _ => ⟨trivial, trivial, trivial⟩
  · exact sem_eq_zero_of_no_sems (sig := Cert.Reference9Ideal.sig) (by decide) _

/-- The reference program of pair 10 ends, with its arguments as they were. -/
theorem reference10_frame [hR : Cert.Reference10Ideal.Facts] : Cert.quiescent_Reference10Ideal := by
  intro m g _
  hlo_run
  · exact fun _ => ⟨trivial, trivial, trivial⟩
  · exact sem_eq_zero_of_no_sems (sig := Cert.Reference10Ideal.sig) (by decide) _

/-- The reference program of pair 11 ends, with its arguments as they were. -/
theorem reference11_frame [hR : Cert.Reference11Ideal.Facts] : Cert.quiescent_Reference11Ideal := by
  intro m g _
  hlo_run
  · exact fun _ => ⟨trivial, trivial, trivial⟩
  · exact sem_eq_zero_of_no_sems (sig := Cert.Reference11Ideal.sig) (by decide) _

/-- The reference program of pair 12 ends, with its arguments as they were. -/
theorem reference12_frame [hR : Cert.Reference12Ideal.Facts] : Cert.quiescent_Reference12Ideal := by
  intro m g _
  hlo_run
  · exact fun _ => ⟨trivial, trivial⟩
  · exact sem_eq_zero_of_no_sems (sig := Cert.Reference12Ideal.sig) (by decide) _

/-- The reference program of pair 13 ends, with its arguments as they were. -/
theorem reference13_frame [hR : Cert.Reference13Ideal.Facts] : Cert.quiescent_Reference13Ideal := by
  intro m g _
  hlo_run
  · exact fun _ => ⟨trivial, trivial⟩
  · exact sem_eq_zero_of_no_sems (sig := Cert.Reference13Ideal.sig) (by decide) _

/-- The reference program of pair 14 ends, with its arguments as they were. -/
theorem reference14_frame [hR : Cert.Reference14Ideal.Facts] : Cert.quiescent_Reference14Ideal := by
  intro m g _
  hlo_run
  · exact fun _ => ⟨trivial, trivial⟩
  · exact sem_eq_zero_of_no_sems (sig := Cert.Reference14Ideal.sig) (by decide) _

/-- The reference program of pair 15 ends, with its arguments as they were. -/
theorem reference15_frame [hR : Cert.Reference15Ideal.Facts] : Cert.quiescent_Reference15Ideal := by
  intro m g _
  hlo_run
  · exact fun _ => ⟨trivial, trivial⟩
  · exact sem_eq_zero_of_no_sems (sig := Cert.Reference15Ideal.sig) (by decide) _

/-- The reference program of pair 16 ends, with its arguments as they were. -/
theorem reference16_frame [hR : Cert.Reference16Ideal.Facts] : Cert.quiescent_Reference16Ideal := by
  intro m g _
  hlo_run
  · exact fun _ => ⟨trivial, trivial, trivial⟩
  · exact sem_eq_zero_of_no_sems (sig := Cert.Reference16Ideal.sig) (by decide) _

/-- The reference program of pair 17 ends, with its arguments as they were. -/
theorem reference17_frame [hR : Cert.Reference17Ideal.Facts] : Cert.quiescent_Reference17Ideal := by
  intro m g _
  hlo_run
  · exact fun _ => ⟨trivial, trivial⟩
  · exact sem_eq_zero_of_no_sems (sig := Cert.Reference17Ideal.sig) (by decide) _

/-- The reference program of pair 18 ends, with its arguments as they were. -/
theorem reference18_frame [hR : Cert.Reference18Ideal.Facts] : Cert.quiescent_Reference18Ideal := by
  intro m g _
  hlo_run
  · exact fun _ => ⟨trivial, trivial, trivial, trivial, trivial⟩
  · exact sem_eq_zero_of_no_sems (sig := Cert.Reference18Ideal.sig) (by decide) _

/-- The reference program of pair 19 ends, with its arguments as they were. -/
theorem reference19_frame [hR : Cert.Reference19Ideal.Facts] : Cert.quiescent_Reference19Ideal := by
  intro m g _
  hlo_run
  · exact fun _ => ⟨trivial, trivial, trivial, trivial, trivial⟩
  · exact sem_eq_zero_of_no_sems (sig := Cert.Reference19Ideal.sig) (by decide) _

/-- The reference program of pair 20 ends, with its arguments as they were. -/
theorem reference20_frame [hR : Cert.Reference20Ideal.Facts] : Cert.quiescent_Reference20Ideal := by
  intro m g _
  hlo_run
  · exact fun _ => ⟨trivial, trivial, trivial, trivial, trivial⟩
  · exact sem_eq_zero_of_no_sems (sig := Cert.Reference20Ideal.sig) (by decide) _

/-- The reference program of pair 21 ends, with its arguments as they were. -/
theorem reference21_frame [hR : Cert.Reference21Ideal.Facts] : Cert.quiescent_Reference21Ideal := by
  intro m g _
  hlo_run
  · exact fun _ => ⟨trivial, trivial, trivial, trivial, trivial⟩
  · exact sem_eq_zero_of_no_sems (sig := Cert.Reference21Ideal.sig) (by decide) _

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Pre_finite.Gen.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g _ => Cert.Kernel4.Gen.frame m g, fun m g _ => Cert.Kernel4Ideal.Gen.frame m g, reference4_frame,
  fun m g _ => Cert.Kernel5.Gen.frame m g, fun m g _ => Cert.Kernel5Ideal.Gen.frame m g, reference5_frame,
  fun m g _ => Cert.Kernel6.Gen.frame m g, fun m g _ => Cert.Kernel6Ideal.Gen.frame m g, reference6_frame,
  fun m g _ => Cert.Kernel7.Gen.frame m g, fun m g _ => Cert.Kernel7Ideal.Gen.frame m g, reference7_frame,
  fun m g _ => Cert.Kernel8.Gen.frame m g, fun m g _ => Cert.Kernel8Ideal.Gen.frame m g, reference8_frame,
  fun m g _ => Cert.Kernel9.Gen.frame m g, fun m g _ => Cert.Kernel9Ideal.Gen.frame m g, reference9_frame,
    fun m g _ => Cert.Kernel10.Gen.frame m g, fun m g _ => Cert.Kernel10Ideal.Gen.frame m g, reference10_frame,
    fun m g _ => Cert.Kernel11.Gen.frame m g, fun m g _ => Cert.Kernel11Ideal.Gen.frame m g, reference11_frame,
    fun m g _ => Cert.Kernel12.Gen.frame m g, fun m g _ => Cert.Kernel12Ideal.Gen.frame m g, reference12_frame,
    fun m g _ => Cert.Kernel13.Gen.frame m g, fun m g _ => Cert.Kernel13Ideal.Gen.frame m g, reference13_frame,
    fun m g _ => Cert.Kernel14.Gen.frame m g, fun m g _ => Cert.Kernel14Ideal.Gen.frame m g, reference14_frame,
    fun m g _ => Cert.Kernel15.Gen.frame m g, fun m g _ => Cert.Kernel15Ideal.Gen.frame m g, reference15_frame,
    fun m g _ => Cert.Kernel16.Gen.frame m g, fun m g _ => Cert.Kernel16Ideal.Gen.frame m g, reference16_frame,
    fun m g _ => Cert.Kernel17.Gen.frame m g, fun m g _ => Cert.Kernel17Ideal.Gen.frame m g, reference17_frame,
    fun m g _ => Cert.Kernel18.Gen.frame m g, fun m g _ => Cert.Kernel18Ideal.Gen.frame m g, reference18_frame,
    fun m g _ => Cert.Kernel19.Gen.frame m g, fun m g _ => Cert.Kernel19Ideal.Gen.frame m g, reference19_frame,
    fun m g _ => Cert.Kernel20.Gen.frame m g, fun m g _ => Cert.Kernel20Ideal.Gen.frame m g, reference20_frame,
    fun m g _ => Cert.Kernel21.Gen.frame m g, fun m g _ => Cert.Kernel21Ideal.Gen.frame m g, reference21_frame,
    trivial, Cert.KernelIdeal.Value.algebraic, trivial, Cert.Kernel2Ideal.Value.algebraic,
  trivial, Cert.Kernel3Ideal.Value.algebraic,
  trivial, Cert.Kernel4Ideal.Value.algebraic,
  trivial, Cert.Kernel5Ideal.Value.algebraic,
  trivial, Cert.Kernel6Ideal.Value.algebraic,
  trivial, Cert.Kernel7Ideal.Value.algebraic,
  trivial, Cert.Kernel8Ideal.Value.algebraic,
    trivial, Cert.Kernel9Ideal.Value.algebraic,
    trivial, Cert.Kernel10Ideal.Value.algebraic,
    trivial, Cert.Kernel11Ideal.Value.algebraic,
    trivial, Cert.Kernel12Ideal.Value.algebraic,
    trivial, Cert.Kernel13Ideal.Value.algebraic,
    trivial, Cert.Kernel14Ideal.Value.algebraic,
    trivial, Cert.Kernel15Ideal.Value.algebraic,
    trivial, Cert.Kernel16Ideal.Value.algebraic,
    trivial, Cert.Kernel17Ideal.Value.algebraic,
    trivial, Cert.Kernel18Ideal.Value.algebraic,
    trivial, Cert.Kernel19Ideal.Value.algebraic,
    trivial, Cert.Kernel20Ideal.Value.algebraic,
    trivial, Cert.Kernel21Ideal.Value.algebraic⟩

end Cert.Proof

end
